-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_queries_and_keys [hPre_finite_queries_and_keys : Cert.Pre_finite_queries_and_keys.Facts] (m : (ℓ : Loc Cert.KernelIdeal.nD Cert.KernelIdeal.τ Cert.KernelIdeal.sig) → Buf (Elt Ideal) ℓ) : Prop :=
  ∀ c : Dev Cert.KernelIdeal.nD,
    (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_queries_and_keys.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_queries_and_keys [hPre_finite_queries_and_keys : Cert.Pre_finite_queries_and_keys.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_queries_and_keys.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Ple (m : (ℓ : Loc Cert.Ple.nD Cert.Ple.τ Cert.Ple.sig) → Buf (Elt Bits) ℓ) : Prop :=
  True

def Pre_PleIdeal (m : (ℓ : Loc Cert.PleIdeal.nD Cert.PleIdeal.τ Cert.PleIdeal.sig) → Buf (Elt Ideal) ℓ) : Prop :=
  True

def Pre_PleRefIdeal (m : (ℓ : Loc Cert.PleRefIdeal.nD Cert.PleRefIdeal.τ Cert.PleRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_queries_and_keys [hKernelIdeal : Cert.KernelIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_queries_and_keys m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_queries_and_keys [hReferenceIdeal : Cert.ReferenceIdeal.Facts] [hPre_finite_queries_and_keys : Cert.Pre_finite_queries_and_keys.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_queries_and_keys m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_Ple [hPle : Cert.Ple.Facts] : Prop :=
  ∀ (m : (ℓ : Loc Cert.Ple.nD Cert.Ple.τ Cert.Ple.sig) → Buf (Elt Bits) ℓ) (g : Dev Cert.Ple.nD → PrngReg), Pre_Ple m →
    θ_run (Cert.Ple.defs (F := Bits)) (onTc (τ := Cert.Ple.τ) (Cert.Ple.main (F := Bits))) ⟨m, fun _ => 0, g⟩ (fun r => (∀ c : Dev Cert.Ple.nD,
      r.2.mem ((c.tc : Thread Cert.Ple.nD Cert.Ple.τ).loc Cert.Ple.main_arg0) = m ((c.tc : Thread Cert.Ple.nD Cert.Ple.τ).loc Cert.Ple.main_arg0)
      ∧ r.2.mem ((c.tc : Thread Cert.Ple.nD Cert.Ple.τ).loc Cert.Ple.main_arg1) = m ((c.tc : Thread Cert.Ple.nD Cert.Ple.τ).loc Cert.Ple.main_arg1)
      ∧ r.2.mem ((c.tc : Thread Cert.Ple.nD Cert.Ple.τ).loc Cert.Ple.main_arg2) = m ((c.tc : Thread Cert.Ple.nD Cert.Ple.τ).loc Cert.Ple.main_arg2)
      ∧ r.2.mem ((c.tc : Thread Cert.Ple.nD Cert.Ple.τ).loc Cert.Ple.main_arg3) = m ((c.tc : Thread Cert.Ple.nD Cert.Ple.τ).loc Cert.Ple.main_arg3)
      ∧ r.2.mem ((c.tc : Thread Cert.Ple.nD Cert.Ple.τ).loc Cert.Ple.main_arg4) = m ((c.tc : Thread Cert.Ple.nD Cert.Ple.τ).loc Cert.Ple.main_arg4)
      ∧ r.2.mem ((c.tc : Thread Cert.Ple.nD Cert.Ple.τ).loc Cert.Ple.main_arg5) = m ((c.tc : Thread Cert.Ple.nD Cert.Ple.τ).loc Cert.Ple.main_arg5)
      ∧ r.2.mem ((c.tc : Thread Cert.Ple.nD Cert.Ple.τ).loc Cert.Ple.main_arg6) = m ((c.tc : Thread Cert.Ple.nD Cert.Ple.τ).loc Cert.Ple.main_arg6)
      ∧ r.2.mem ((c.tc : Thread Cert.Ple.nD Cert.Ple.τ).loc Cert.Ple.main_arg7) = m ((c.tc : Thread Cert.Ple.nD Cert.Ple.τ).loc Cert.Ple.main_arg7))
      ∧ r.2.sem = fun _ => 0)

def quiescent_PleIdeal [hPleIdeal : Cert.PleIdeal.Facts] : Prop :=
  ∀ (m : (ℓ : Loc Cert.PleIdeal.nD Cert.PleIdeal.τ Cert.PleIdeal.sig) → Buf (Elt Ideal) ℓ) (g : Dev Cert.PleIdeal.nD → PrngReg), Pre_PleIdeal m →
    θ_run (Cert.PleIdeal.defs (F := Ideal)) (onTc (τ := Cert.PleIdeal.τ) (Cert.PleIdeal.main (F := Ideal))) ⟨m, fun _ => 0, g⟩ (fun r => (∀ c : Dev Cert.PleIdeal.nD,
      r.2.mem ((c.tc : Thread Cert.PleIdeal.nD Cert.PleIdeal.τ).loc Cert.PleIdeal.main_arg0) = m ((c.tc : Thread Cert.PleIdeal.nD Cert.PleIdeal.τ).loc Cert.PleIdeal.main_arg0)
      ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
      ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
      ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
      ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
      ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
      ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
      ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ r.2.sem = fun _ => 0)

def quiescent_PleRefIdeal [hPleRefIdeal : Cert.PleRefIdeal.Facts] : Prop :=
  ∀ (m : (ℓ : Loc Cert.PleRefIdeal.nD Cert.PleRefIdeal.τ Cert.PleRefIdeal.sig) → Buf (Elt Ideal) ℓ) (g : Dev Cert.PleRefIdeal.nD → PrngReg), Pre_PleRefIdeal m →
    θ_run (Cert.PleRefIdeal.defs (F := Ideal)) (onTc (τ := Cert.PleRefIdeal.τ) (Cert.PleRefIdeal.main (F := Ideal))) ⟨m, fun _ => 0, g⟩ (fun r => (∀ c : Dev Cert.PleRefIdeal.nD,
      r.2.mem ((c.tc : Thread Cert.PleRefIdeal.nD Cert.PleRefIdeal.τ).loc Cert.PleRefIdeal.main_arg0) = m ((c.tc : Thread Cert.PleRefIdeal.nD Cert.PleRefIdeal.τ).loc Cert.PleRefIdeal.main_arg0)
      ∧ r.2.mem ((c.tc : Thread Cert.PleRefIdeal.nD Cert.PleRefIdeal.τ).loc Cert.PleRefIdeal.main_arg1) = m ((c.tc : Thread Cert.PleRefIdeal.nD Cert.PleRefIdeal.τ).loc Cert.PleRefIdeal.main_arg1)
      ∧ r.2.mem ((c.tc : Thread Cert.PleRefIdeal.nD Cert.PleRefIdeal.τ).loc Cert.PleRefIdeal.main_arg2) = m ((c.tc : Thread Cert.PleRefIdeal.nD Cert.PleRefIdeal.τ).loc Cert.PleRefIdeal.main_arg2)
      ∧ r.2.mem ((c.tc : Thread Cert.PleRefIdeal.nD Cert.PleRefIdeal.τ).loc Cert.PleRefIdeal.main_arg3) = m ((c.tc : Thread Cert.PleRefIdeal.nD Cert.PleRefIdeal.τ).loc Cert.PleRefIdeal.main_arg3)
      ∧ r.2.mem ((c.tc : Thread Cert.PleRefIdeal.nD Cert.PleRefIdeal.τ).loc Cert.PleRefIdeal.main_arg4) = m ((c.tc : Thread Cert.PleRefIdeal.nD Cert.PleRefIdeal.τ).loc Cert.PleRefIdeal.main_arg4)
      ∧ r.2.mem ((c.tc : Thread Cert.PleRefIdeal.nD Cert.PleRefIdeal.τ).loc Cert.PleRefIdeal.main_arg5) = m ((c.tc : Thread Cert.PleRefIdeal.nD Cert.PleRefIdeal.τ).loc Cert.PleRefIdeal.main_arg5)
      ∧ r.2.mem ((c.tc : Thread Cert.PleRefIdeal.nD Cert.PleRefIdeal.τ).loc Cert.PleRefIdeal.main_arg6) = m ((c.tc : Thread Cert.PleRefIdeal.nD Cert.PleRefIdeal.τ).loc Cert.PleRefIdeal.main_arg6)
      ∧ r.2.mem ((c.tc : Thread Cert.PleRefIdeal.nD Cert.PleRefIdeal.τ).loc Cert.PleRefIdeal.main_arg7) = m ((c.tc : Thread Cert.PleRefIdeal.nD Cert.PleRefIdeal.τ).loc Cert.PleRefIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6)
      ∧ r.2.mem ((c.tc : Thread Cert.Out.nD Cert.Out.τ).loc Cert.Out.main_arg7) = m ((c.tc : Thread Cert.Out.nD Cert.Out.τ).loc Cert.Out.main_arg7)
      ∧ r.2.mem ((c.tc : Thread Cert.Out.nD Cert.Out.τ).loc Cert.Out.main_arg8) = m ((c.tc : Thread Cert.Out.nD Cert.Out.τ).loc Cert.Out.main_arg8))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
      ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
      ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6)
      ∧ r.2.mem ((c.tc : Thread Cert.OutRefIdeal.nD Cert.OutRefIdeal.τ).loc Cert.OutRefIdeal.main_arg7) = m ((c.tc : Thread Cert.OutRefIdeal.nD Cert.OutRefIdeal.τ).loc Cert.OutRefIdeal.main_arg7)
      ∧ r.2.mem ((c.tc : Thread Cert.OutRefIdeal.nD Cert.OutRefIdeal.τ).loc Cert.OutRefIdeal.main_arg8) = m ((c.tc : Thread Cert.OutRefIdeal.nD Cert.OutRefIdeal.τ).loc Cert.OutRefIdeal.main_arg8))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2)
      ∧ r.2.mem ((c.tc : Thread Cert.In.nD Cert.In.τ).loc Cert.In.main_arg3) = m ((c.tc : Thread Cert.In.nD Cert.In.τ).loc Cert.In.main_arg3)
      ∧ r.2.mem ((c.tc : Thread Cert.In.nD Cert.In.τ).loc Cert.In.main_arg4) = m ((c.tc : Thread Cert.In.nD Cert.In.τ).loc Cert.In.main_arg4)
      ∧ r.2.mem ((c.tc : Thread Cert.In.nD Cert.In.τ).loc Cert.In.main_arg5) = m ((c.tc : Thread Cert.In.nD Cert.In.τ).loc Cert.In.main_arg5)
      ∧ r.2.mem ((c.tc : Thread Cert.In.nD Cert.In.τ).loc Cert.In.main_arg6) = m ((c.tc : Thread Cert.In.nD Cert.In.τ).loc Cert.In.main_arg6)
      ∧ r.2.mem ((c.tc : Thread Cert.In.nD Cert.In.τ).loc Cert.In.main_arg7) = m ((c.tc : Thread Cert.In.nD Cert.In.τ).loc Cert.In.main_arg7)
      ∧ r.2.mem ((c.tc : Thread Cert.In.nD Cert.In.τ).loc Cert.In.main_arg8) = m ((c.tc : Thread Cert.In.nD Cert.In.τ).loc Cert.In.main_arg8))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2)
      ∧ r.2.mem ((c.tc : Thread Cert.InIdeal.nD Cert.InIdeal.τ).loc Cert.InIdeal.main_arg3) = m ((c.tc : Thread Cert.InIdeal.nD Cert.InIdeal.τ).loc Cert.InIdeal.main_arg3)
      ∧ r.2.mem ((c.tc : Thread Cert.InIdeal.nD Cert.InIdeal.τ).loc Cert.InIdeal.main_arg4) = m ((c.tc : Thread Cert.InIdeal.nD Cert.InIdeal.τ).loc Cert.InIdeal.main_arg4)
      ∧ r.2.mem ((c.tc : Thread Cert.InIdeal.nD Cert.InIdeal.τ).loc Cert.InIdeal.main_arg5) = m ((c.tc : Thread Cert.InIdeal.nD Cert.InIdeal.τ).loc Cert.InIdeal.main_arg5)
      ∧ r.2.mem ((c.tc : Thread Cert.InIdeal.nD Cert.InIdeal.τ).loc Cert.InIdeal.main_arg6) = m ((c.tc : Thread Cert.InIdeal.nD Cert.InIdeal.τ).loc Cert.InIdeal.main_arg6)
      ∧ r.2.mem ((c.tc : Thread Cert.InIdeal.nD Cert.InIdeal.τ).loc Cert.InIdeal.main_arg7) = m ((c.tc : Thread Cert.InIdeal.nD Cert.InIdeal.τ).loc Cert.InIdeal.main_arg7)
      ∧ r.2.mem ((c.tc : Thread Cert.InIdeal.nD Cert.InIdeal.τ).loc Cert.InIdeal.main_arg8) = m ((c.tc : Thread Cert.InIdeal.nD Cert.InIdeal.τ).loc Cert.InIdeal.main_arg8))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4)
      ∧ r.2.mem ((c.tc : Thread Cert.InRefIdeal.nD Cert.InRefIdeal.τ).loc Cert.InRefIdeal.main_arg5) = m ((c.tc : Thread Cert.InRefIdeal.nD Cert.InRefIdeal.τ).loc Cert.InRefIdeal.main_arg5)
      ∧ r.2.mem ((c.tc : Thread Cert.InRefIdeal.nD Cert.InRefIdeal.τ).loc Cert.InRefIdeal.main_arg6) = m ((c.tc : Thread Cert.InRefIdeal.nD Cert.InRefIdeal.τ).loc Cert.InRefIdeal.main_arg6)
      ∧ r.2.mem ((c.tc : Thread Cert.InRefIdeal.nD Cert.InRefIdeal.τ).loc Cert.InRefIdeal.main_arg7) = m ((c.tc : Thread Cert.InRefIdeal.nD Cert.InRefIdeal.τ).loc Cert.InRefIdeal.main_arg7)
      ∧ r.2.mem ((c.tc : Thread Cert.InRefIdeal.nD Cert.InRefIdeal.τ).loc Cert.InRefIdeal.main_arg8) = m ((c.tc : Thread Cert.InRefIdeal.nD Cert.InRefIdeal.τ).loc Cert.InRefIdeal.main_arg8))
      ∧ r.2.sem = fun _ => 0)

def preserves_Kernel_KernelIdeal : Prop :=
  True

def algebraic_KernelIdeal_ReferenceIdeal_pre_finite_queries_and_keys [hKernelIdeal : Cert.KernelIdeal.Facts] [hReferenceIdeal : Cert.ReferenceIdeal.Facts] [hPre_finite_queries_and_keys : Cert.Pre_finite_queries_and_keys.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_queries_and_keys m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v6) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_Ple_PleIdeal : Prop :=
  True

def algebraic_PleIdeal_PleRefIdeal [hPleIdeal : Cert.PleIdeal.Facts] [hPleRefIdeal : Cert.PleRefIdeal.Facts] : Prop :=
  ∀ (m : (ℓ : Loc Cert.PleIdeal.nD Cert.PleIdeal.τ Cert.PleIdeal.sig) → Buf (Elt Ideal) ℓ) (g : Dev Cert.PleIdeal.nD → PrngReg)
    (m' : (ℓ : Loc Cert.PleRefIdeal.nD Cert.PleRefIdeal.τ Cert.PleRefIdeal.sig) → Buf (Elt Ideal) ℓ) (g' : Dev Cert.PleRefIdeal.nD → PrngReg), Pre_PleIdeal m →
    (∀ c : Dev Cert.PleIdeal.nD,
      m' ((c.tc : Thread Cert.PleRefIdeal.nD Cert.PleRefIdeal.τ).loc Cert.PleRefIdeal.main_arg0) = m ((c.tc : Thread Cert.PleIdeal.nD Cert.PleIdeal.τ).loc Cert.PleIdeal.main_arg0)
      ∧ m' ((c.tc : Thread Cert.PleRefIdeal.nD Cert.PleRefIdeal.τ).loc Cert.PleRefIdeal.main_arg1) = m ((c.tc : Thread Cert.PleIdeal.nD Cert.PleIdeal.τ).loc Cert.PleIdeal.main_arg1)
      ∧ m' ((c.tc : Thread Cert.PleRefIdeal.nD Cert.PleRefIdeal.τ).loc Cert.PleRefIdeal.main_arg2) = m ((c.tc : Thread Cert.PleIdeal.nD Cert.PleIdeal.τ).loc Cert.PleIdeal.main_arg2)
      ∧ m' ((c.tc : Thread Cert.PleRefIdeal.nD Cert.PleRefIdeal.τ).loc Cert.PleRefIdeal.main_arg3) = m ((c.tc : Thread Cert.PleIdeal.nD Cert.PleIdeal.τ).loc Cert.PleIdeal.main_arg3)
      ∧ m' ((c.tc : Thread Cert.PleRefIdeal.nD Cert.PleRefIdeal.τ).loc Cert.PleRefIdeal.main_arg4) = m ((c.tc : Thread Cert.PleIdeal.nD Cert.PleIdeal.τ).loc Cert.PleIdeal.main_arg4)
      ∧ m' ((c.tc : Thread Cert.PleRefIdeal.nD Cert.PleRefIdeal.τ).loc Cert.PleRefIdeal.main_arg5) = m ((c.tc : Thread Cert.PleIdeal.nD Cert.PleIdeal.τ).loc Cert.PleIdeal.main_arg5)
      ∧ m' ((c.tc : Thread Cert.PleRefIdeal.nD Cert.PleRefIdeal.τ).loc Cert.PleRefIdeal.main_arg6) = m ((c.tc : Thread Cert.PleIdeal.nD Cert.PleIdeal.τ).loc Cert.PleIdeal.main_arg6)
      ∧ m' ((c.tc : Thread Cert.PleRefIdeal.nD Cert.PleRefIdeal.τ).loc Cert.PleRefIdeal.main_arg7) = m ((c.tc : Thread Cert.PleIdeal.nD Cert.PleIdeal.τ).loc Cert.PleIdeal.main_arg7)) →
    ∃ (v0 : (c : Dev Cert.PleIdeal.nD) → Buf (Elt Ideal) ((c.tc : Thread Cert.PleIdeal.nD Cert.PleIdeal.τ).loc Cert.PleIdeal.main_v8)),
      θ_run (Cert.PleIdeal.defs (F := Ideal)) (onTc (τ := Cert.PleIdeal.τ) (Cert.PleIdeal.main (F := Ideal))) ⟨m, fun _ => 0, g⟩ (fun r => ∀ c : Dev Cert.PleIdeal.nD,
          r.2.mem ((c.tc : Thread Cert.PleIdeal.nD Cert.PleIdeal.τ).loc Cert.PleIdeal.main_v8) = v0 c
          ∧ r.2.mem ((c.tc : Thread Cert.PleIdeal.nD Cert.PleIdeal.τ).loc Cert.PleIdeal.main_arg0) = m ((c.tc : Thread Cert.PleIdeal.nD Cert.PleIdeal.τ).loc Cert.PleIdeal.main_arg0)
          ∧ r.2.mem ((c.tc : Thread Cert.PleIdeal.nD Cert.PleIdeal.τ).loc Cert.PleIdeal.main_arg1) = m ((c.tc : Thread Cert.PleIdeal.nD Cert.PleIdeal.τ).loc Cert.PleIdeal.main_arg1)
          ∧ r.2.mem ((c.tc : Thread Cert.PleIdeal.nD Cert.PleIdeal.τ).loc Cert.PleIdeal.main_arg2) = m ((c.tc : Thread Cert.PleIdeal.nD Cert.PleIdeal.τ).loc Cert.PleIdeal.main_arg2)
          ∧ r.2.mem ((c.tc : Thread Cert.PleIdeal.nD Cert.PleIdeal.τ).loc Cert.PleIdeal.main_arg3) = m ((c.tc : Thread Cert.PleIdeal.nD Cert.PleIdeal.τ).loc Cert.PleIdeal.main_arg3)
          ∧ r.2.mem ((c.tc : Thread Cert.PleIdeal.nD Cert.PleIdeal.τ).loc Cert.PleIdeal.main_arg4) = m ((c.tc : Thread Cert.PleIdeal.nD Cert.PleIdeal.τ).loc Cert.PleIdeal.main_arg4)
          ∧ r.2.mem ((c.tc : Thread Cert.PleIdeal.nD Cert.PleIdeal.τ).loc Cert.PleIdeal.main_arg5) = m ((c.tc : Thread Cert.PleIdeal.nD Cert.PleIdeal.τ).loc Cert.PleIdeal.main_arg5)
          ∧ r.2.mem ((c.tc : Thread Cert.PleIdeal.nD Cert.PleIdeal.τ).loc Cert.PleIdeal.main_arg6) = m ((c.tc : Thread Cert.PleIdeal.nD Cert.PleIdeal.τ).loc Cert.PleIdeal.main_arg6)
          ∧ r.2.mem ((c.tc : Thread Cert.PleIdeal.nD Cert.PleIdeal.τ).loc Cert.PleIdeal.main_arg7) = m ((c.tc : Thread Cert.PleIdeal.nD Cert.PleIdeal.τ).loc Cert.PleIdeal.main_arg7))
      ∧ θ_run (Cert.PleRefIdeal.defs (F := Ideal)) (onTc (τ := Cert.PleRefIdeal.τ) (Cert.PleRefIdeal.main (F := Ideal))) ⟨m', fun _ => 0, g'⟩ (fun r => ∀ c : Dev Cert.PleRefIdeal.nD,
          r.2.mem ((c.tc : Thread Cert.PleRefIdeal.nD Cert.PleRefIdeal.τ).loc Cert.PleRefIdeal.main_v50) = v0 c
          ∧ r.2.mem ((c.tc : Thread Cert.PleRefIdeal.nD Cert.PleRefIdeal.τ).loc Cert.PleRefIdeal.main_arg0) = m' ((c.tc : Thread Cert.PleRefIdeal.nD Cert.PleRefIdeal.τ).loc Cert.PleRefIdeal.main_arg0)
          ∧ r.2.mem ((c.tc : Thread Cert.PleRefIdeal.nD Cert.PleRefIdeal.τ).loc Cert.PleRefIdeal.main_arg1) = m' ((c.tc : Thread Cert.PleRefIdeal.nD Cert.PleRefIdeal.τ).loc Cert.PleRefIdeal.main_arg1)
          ∧ r.2.mem ((c.tc : Thread Cert.PleRefIdeal.nD Cert.PleRefIdeal.τ).loc Cert.PleRefIdeal.main_arg2) = m' ((c.tc : Thread Cert.PleRefIdeal.nD Cert.PleRefIdeal.τ).loc Cert.PleRefIdeal.main_arg2)
          ∧ r.2.mem ((c.tc : Thread Cert.PleRefIdeal.nD Cert.PleRefIdeal.τ).loc Cert.PleRefIdeal.main_arg3) = m' ((c.tc : Thread Cert.PleRefIdeal.nD Cert.PleRefIdeal.τ).loc Cert.PleRefIdeal.main_arg3)
          ∧ r.2.mem ((c.tc : Thread Cert.PleRefIdeal.nD Cert.PleRefIdeal.τ).loc Cert.PleRefIdeal.main_arg4) = m' ((c.tc : Thread Cert.PleRefIdeal.nD Cert.PleRefIdeal.τ).loc Cert.PleRefIdeal.main_arg4)
          ∧ r.2.mem ((c.tc : Thread Cert.PleRefIdeal.nD Cert.PleRefIdeal.τ).loc Cert.PleRefIdeal.main_arg5) = m' ((c.tc : Thread Cert.PleRefIdeal.nD Cert.PleRefIdeal.τ).loc Cert.PleRefIdeal.main_arg5)
          ∧ r.2.mem ((c.tc : Thread Cert.PleRefIdeal.nD Cert.PleRefIdeal.τ).loc Cert.PleRefIdeal.main_arg6) = m' ((c.tc : Thread Cert.PleRefIdeal.nD Cert.PleRefIdeal.τ).loc Cert.PleRefIdeal.main_arg6)
          ∧ r.2.mem ((c.tc : Thread Cert.PleRefIdeal.nD Cert.PleRefIdeal.τ).loc Cert.PleRefIdeal.main_arg7) = m' ((c.tc : Thread Cert.PleRefIdeal.nD Cert.PleRefIdeal.τ).loc Cert.PleRefIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)
      ∧ m' ((c.tc : Thread Cert.OutRefIdeal.nD Cert.OutRefIdeal.τ).loc Cert.OutRefIdeal.main_arg7) = m ((c.tc : Thread Cert.OutIdeal.nD Cert.OutIdeal.τ).loc Cert.OutIdeal.main_arg7)
      ∧ m' ((c.tc : Thread Cert.OutRefIdeal.nD Cert.OutRefIdeal.τ).loc Cert.OutRefIdeal.main_arg8) = m ((c.tc : Thread Cert.OutIdeal.nD Cert.OutIdeal.τ).loc Cert.OutIdeal.main_arg8)) →
    ∃ (v0 : (c : Dev Cert.OutIdeal.nD) → Buf (Elt Ideal) ((c.tc : Thread Cert.OutIdeal.nD Cert.OutIdeal.τ).loc Cert.OutIdeal.main_v11_0)) (v1 : (c : Dev Cert.OutIdeal.nD) → Buf (Elt Ideal) ((c.tc : Thread Cert.OutIdeal.nD Cert.OutIdeal.τ).loc Cert.OutIdeal.main_v11_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v11_0) = v0 c
          ∧ r.2.mem ((c.tc : Thread Cert.OutIdeal.nD Cert.OutIdeal.τ).loc Cert.OutIdeal.main_v11_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6)
          ∧ r.2.mem ((c.tc : Thread Cert.OutIdeal.nD Cert.OutIdeal.τ).loc Cert.OutIdeal.main_arg7) = m ((c.tc : Thread Cert.OutIdeal.nD Cert.OutIdeal.τ).loc Cert.OutIdeal.main_arg7)
          ∧ r.2.mem ((c.tc : Thread Cert.OutIdeal.nD Cert.OutIdeal.τ).loc Cert.OutIdeal.main_arg8) = m ((c.tc : Thread Cert.OutIdeal.nD Cert.OutIdeal.τ).loc Cert.OutIdeal.main_arg8))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v47) = v0 c
          ∧ r.2.mem ((c.tc : Thread Cert.OutRefIdeal.nD Cert.OutRefIdeal.τ).loc Cert.OutRefIdeal.main_v49) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6)
          ∧ r.2.mem ((c.tc : Thread Cert.OutRefIdeal.nD Cert.OutRefIdeal.τ).loc Cert.OutRefIdeal.main_arg7) = m' ((c.tc : Thread Cert.OutRefIdeal.nD Cert.OutRefIdeal.τ).loc Cert.OutRefIdeal.main_arg7)
          ∧ r.2.mem ((c.tc : Thread Cert.OutRefIdeal.nD Cert.OutRefIdeal.τ).loc Cert.OutRefIdeal.main_arg8) = m' ((c.tc : Thread Cert.OutRefIdeal.nD Cert.OutRefIdeal.τ).loc Cert.OutRefIdeal.main_arg8))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)
      ∧ m' ((c.tc : Thread Cert.InRefIdeal.nD Cert.InRefIdeal.τ).loc Cert.InRefIdeal.main_arg2) = m ((c.tc : Thread Cert.InIdeal.nD Cert.InIdeal.τ).loc Cert.InIdeal.main_arg2)
      ∧ m' ((c.tc : Thread Cert.InRefIdeal.nD Cert.InRefIdeal.τ).loc Cert.InRefIdeal.main_arg3) = m ((c.tc : Thread Cert.InIdeal.nD Cert.InIdeal.τ).loc Cert.InIdeal.main_arg3)
      ∧ m' ((c.tc : Thread Cert.InRefIdeal.nD Cert.InRefIdeal.τ).loc Cert.InRefIdeal.main_arg4) = m ((c.tc : Thread Cert.InIdeal.nD Cert.InIdeal.τ).loc Cert.InIdeal.main_arg4)
      ∧ m' ((c.tc : Thread Cert.InRefIdeal.nD Cert.InRefIdeal.τ).loc Cert.InRefIdeal.main_arg5) = m ((c.tc : Thread Cert.InIdeal.nD Cert.InIdeal.τ).loc Cert.InIdeal.main_arg5)
      ∧ m' ((c.tc : Thread Cert.InRefIdeal.nD Cert.InRefIdeal.τ).loc Cert.InRefIdeal.main_arg6) = m ((c.tc : Thread Cert.InIdeal.nD Cert.InIdeal.τ).loc Cert.InIdeal.main_arg6)
      ∧ m' ((c.tc : Thread Cert.InRefIdeal.nD Cert.InRefIdeal.τ).loc Cert.InRefIdeal.main_arg7) = m ((c.tc : Thread Cert.InIdeal.nD Cert.InIdeal.τ).loc Cert.InIdeal.main_arg7)
      ∧ m' ((c.tc : Thread Cert.InRefIdeal.nD Cert.InRefIdeal.τ).loc Cert.InRefIdeal.main_arg8) = m ((c.tc : Thread Cert.InIdeal.nD Cert.InIdeal.τ).loc Cert.InIdeal.main_arg8)) →
    ∃ (v0 : (c : Dev Cert.InIdeal.nD) → Buf (Elt Ideal) ((c.tc : Thread Cert.InIdeal.nD Cert.InIdeal.τ).loc Cert.InIdeal.main_v62_0)) (v1 : (c : Dev Cert.InIdeal.nD) → Buf (Elt Ideal) ((c.tc : Thread Cert.InIdeal.nD Cert.InIdeal.τ).loc Cert.InIdeal.main_v62_1)) (v2 : (c : Dev Cert.InIdeal.nD) → Buf (Elt Ideal) ((c.tc : Thread Cert.InIdeal.nD Cert.InIdeal.τ).loc Cert.InIdeal.main_v62_2)) (v3 : (c : Dev Cert.InIdeal.nD) → Buf (Elt Ideal) ((c.tc : Thread Cert.InIdeal.nD Cert.InIdeal.τ).loc Cert.InIdeal.main_v62_3)) (v4 : (c : Dev Cert.InIdeal.nD) → Buf (Elt Ideal) ((c.tc : Thread Cert.InIdeal.nD Cert.InIdeal.τ).loc Cert.InIdeal.main_v62_4)) (v5 : (c : Dev Cert.InIdeal.nD) → Buf (Elt Ideal) ((c.tc : Thread Cert.InIdeal.nD Cert.InIdeal.τ).loc Cert.InIdeal.main_v62_5)) (v6 : (c : Dev Cert.InIdeal.nD) → Buf (Elt Ideal) ((c.tc : Thread Cert.InIdeal.nD Cert.InIdeal.τ).loc Cert.InIdeal.main_v62_6)) (v7 : (c : Dev Cert.InIdeal.nD) → Buf (Elt Ideal) ((c.tc : Thread Cert.InIdeal.nD Cert.InIdeal.τ).loc Cert.InIdeal.main_v62_7)) (v8 : (c : Dev Cert.InIdeal.nD) → Buf (Elt Ideal) ((c.tc : Thread Cert.InIdeal.nD Cert.InIdeal.τ).loc Cert.InIdeal.main_v62_8)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v62_0) = v0 c
          ∧ r.2.mem ((c.tc : Thread Cert.InIdeal.nD Cert.InIdeal.τ).loc Cert.InIdeal.main_v62_1) = v1 c
          ∧ r.2.mem ((c.tc : Thread Cert.InIdeal.nD Cert.InIdeal.τ).loc Cert.InIdeal.main_v62_2) = v2 c
          ∧ r.2.mem ((c.tc : Thread Cert.InIdeal.nD Cert.InIdeal.τ).loc Cert.InIdeal.main_v62_3) = v3 c
          ∧ r.2.mem ((c.tc : Thread Cert.InIdeal.nD Cert.InIdeal.τ).loc Cert.InIdeal.main_v62_4) = v4 c
          ∧ r.2.mem ((c.tc : Thread Cert.InIdeal.nD Cert.InIdeal.τ).loc Cert.InIdeal.main_v62_5) = v5 c
          ∧ r.2.mem ((c.tc : Thread Cert.InIdeal.nD Cert.InIdeal.τ).loc Cert.InIdeal.main_v62_6) = v6 c
          ∧ r.2.mem ((c.tc : Thread Cert.InIdeal.nD Cert.InIdeal.τ).loc Cert.InIdeal.main_v62_7) = v7 c
          ∧ r.2.mem ((c.tc : Thread Cert.InIdeal.nD Cert.InIdeal.τ).loc Cert.InIdeal.main_v62_8) = v8 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2)
          ∧ r.2.mem ((c.tc : Thread Cert.InIdeal.nD Cert.InIdeal.τ).loc Cert.InIdeal.main_arg3) = m ((c.tc : Thread Cert.InIdeal.nD Cert.InIdeal.τ).loc Cert.InIdeal.main_arg3)
          ∧ r.2.mem ((c.tc : Thread Cert.InIdeal.nD Cert.InIdeal.τ).loc Cert.InIdeal.main_arg4) = m ((c.tc : Thread Cert.InIdeal.nD Cert.InIdeal.τ).loc Cert.InIdeal.main_arg4)
          ∧ r.2.mem ((c.tc : Thread Cert.InIdeal.nD Cert.InIdeal.τ).loc Cert.InIdeal.main_arg5) = m ((c.tc : Thread Cert.InIdeal.nD Cert.InIdeal.τ).loc Cert.InIdeal.main_arg5)
          ∧ r.2.mem ((c.tc : Thread Cert.InIdeal.nD Cert.InIdeal.τ).loc Cert.InIdeal.main_arg6) = m ((c.tc : Thread Cert.InIdeal.nD Cert.InIdeal.τ).loc Cert.InIdeal.main_arg6)
          ∧ r.2.mem ((c.tc : Thread Cert.InIdeal.nD Cert.InIdeal.τ).loc Cert.InIdeal.main_arg7) = m ((c.tc : Thread Cert.InIdeal.nD Cert.InIdeal.τ).loc Cert.InIdeal.main_arg7)
          ∧ r.2.mem ((c.tc : Thread Cert.InIdeal.nD Cert.InIdeal.τ).loc Cert.InIdeal.main_arg8) = m ((c.tc : Thread Cert.InIdeal.nD Cert.InIdeal.τ).loc Cert.InIdeal.main_arg8))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v179) = v0 c
          ∧ r.2.mem ((c.tc : Thread Cert.InRefIdeal.nD Cert.InRefIdeal.τ).loc Cert.InRefIdeal.main_v181) = v1 c
          ∧ r.2.mem ((c.tc : Thread Cert.InRefIdeal.nD Cert.InRefIdeal.τ).loc Cert.InRefIdeal.main_v183) = v2 c
          ∧ r.2.mem ((c.tc : Thread Cert.InRefIdeal.nD Cert.InRefIdeal.τ).loc Cert.InRefIdeal.main_v187) = v3 c
          ∧ r.2.mem ((c.tc : Thread Cert.InRefIdeal.nD Cert.InRefIdeal.τ).loc Cert.InRefIdeal.main_v189) = v4 c
          ∧ r.2.mem ((c.tc : Thread Cert.InRefIdeal.nD Cert.InRefIdeal.τ).loc Cert.InRefIdeal.main_v191) = v5 c
          ∧ r.2.mem ((c.tc : Thread Cert.InRefIdeal.nD Cert.InRefIdeal.τ).loc Cert.InRefIdeal.main_v200) = v6 c
          ∧ r.2.mem ((c.tc : Thread Cert.InRefIdeal.nD Cert.InRefIdeal.τ).loc Cert.InRefIdeal.main_v201) = v7 c
          ∧ r.2.mem ((c.tc : Thread Cert.InRefIdeal.nD Cert.InRefIdeal.τ).loc Cert.InRefIdeal.main_v202) = v8 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4)
          ∧ r.2.mem ((c.tc : Thread Cert.InRefIdeal.nD Cert.InRefIdeal.τ).loc Cert.InRefIdeal.main_arg5) = m' ((c.tc : Thread Cert.InRefIdeal.nD Cert.InRefIdeal.τ).loc Cert.InRefIdeal.main_arg5)
          ∧ r.2.mem ((c.tc : Thread Cert.InRefIdeal.nD Cert.InRefIdeal.τ).loc Cert.InRefIdeal.main_arg6) = m' ((c.tc : Thread Cert.InRefIdeal.nD Cert.InRefIdeal.τ).loc Cert.InRefIdeal.main_arg6)
          ∧ r.2.mem ((c.tc : Thread Cert.InRefIdeal.nD Cert.InRefIdeal.τ).loc Cert.InRefIdeal.main_arg7) = m' ((c.tc : Thread Cert.InRefIdeal.nD Cert.InRefIdeal.τ).loc Cert.InRefIdeal.main_arg7)
          ∧ r.2.mem ((c.tc : Thread Cert.InRefIdeal.nD Cert.InRefIdeal.τ).loc Cert.InRefIdeal.main_arg8) = m' ((c.tc : Thread Cert.InRefIdeal.nD Cert.InRefIdeal.τ).loc Cert.InRefIdeal.main_arg8))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hPle : Cert.Ple.Facts) (hPleIdeal : Cert.PleIdeal.Facts) (hPleRefIdeal : Cert.PleRefIdeal.Facts) (hOut : Cert.Out.Facts) (hOutIdeal : Cert.OutIdeal.Facts) (hOutRefIdeal : Cert.OutRefIdeal.Facts) (hIn : Cert.In.Facts) (hInIdeal : Cert.InIdeal.Facts) (hInRefIdeal : Cert.InRefIdeal.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_finite_queries_and_keys (hKernelIdeal := hKernelIdeal) (hPre_finite_queries_and_keys := hPre_finite_queries_and_keys)
    ∧ quiescent_ReferenceIdeal (hReferenceIdeal := hReferenceIdeal)
    ∧ quiescent_ReferenceIdeal_pre_finite_queries_and_keys (hReferenceIdeal := hReferenceIdeal) (hPre_finite_queries_and_keys := hPre_finite_queries_and_keys)
    ∧ quiescent_Ffn (hFfn := hFfn)
    ∧ quiescent_FfnIdeal (hFfnIdeal := hFfnIdeal)
    ∧ quiescent_FfnRefIdeal (hFfnRefIdeal := hFfnRefIdeal)
    ∧ quiescent_Ple (hPle := hPle)
    ∧ quiescent_PleIdeal (hPleIdeal := hPleIdeal)
    ∧ quiescent_PleRefIdeal (hPleRefIdeal := hPleRefIdeal)
    ∧ quiescent_Out (hOut := hOut)
    ∧ quiescent_OutIdeal (hOutIdeal := hOutIdeal)
    ∧ quiescent_OutRefIdeal (hOutRefIdeal := hOutRefIdeal)
    ∧ quiescent_In (hIn := hIn)
    ∧ quiescent_InIdeal (hInIdeal := hInIdeal)
    ∧ quiescent_InRefIdeal (hInRefIdeal := hInRefIdeal)
    ∧ preserves_Kernel_KernelIdeal
    ∧ algebraic_KernelIdeal_ReferenceIdeal_pre_finite_queries_and_keys (hKernelIdeal := hKernelIdeal) (hReferenceIdeal := hReferenceIdeal) (hPre_finite_queries_and_keys := hPre_finite_queries_and_keys)
    ∧ preserves_Ffn_FfnIdeal
    ∧ algebraic_FfnIdeal_FfnRefIdeal (hFfnIdeal := hFfnIdeal) (hFfnRefIdeal := hFfnRefIdeal)
    ∧ preserves_Ple_PleIdeal
    ∧ algebraic_PleIdeal_PleRefIdeal (hPleIdeal := hPleIdeal) (hPleRefIdeal := hPleRefIdeal)
    ∧ preserves_Out_OutIdeal
    ∧ algebraic_OutIdeal_OutRefIdeal (hOutIdeal := hOutIdeal) (hOutRefIdeal := hOutRefIdeal)
    ∧ preserves_In_InIdeal
    ∧ algebraic_InIdeal_InRefIdeal (hInIdeal := hInIdeal) (hInRefIdeal := hInRefIdeal)
-- ==== Pre_finite_queries_and_keys.lean ====
abbrev S4x4096x8x128 : Shape := ⟨4, ![4, 4096, 8, 128]⟩
abbrev S4x4096x2x128 : Shape := ⟨4, ![4, 4096, 2, 128]⟩
abbrev S_ : Shape := ⟨0, ![]⟩

class Facts : Prop where
  bcast_S_S4x4096x8x128 : S_.BroadcastsInDim S4x4096x8x128 (![] : Fin 0 → Fin S4x4096x8x128.rank)
  bcast_S_S4x4096x2x128 : S_.BroadcastsInDim S4x4096x2x128 (![] : Fin 0 → Fin S4x4096x2x128.rank)

variable [Facts]

def fn {F : FTy → Type} [FloatOps F] (main_arg0 : FVec F S4x4096x8x128 .f32) (main_arg1 : FVec F S4x4096x2x128 .f32) (main_arg2 : FVec F S4x4096x2x128 .f32) : IVec S4x4096x8x128 1 × IVec S4x4096x2x128 1 :=
  let main_v0 : FVec F S4x4096x8x128 .f32 := Host.absf main_arg0
  let main_cst : FVec F S_ .f32 := constant S_ .f32 0x7F800000#32
  let main_v1 : FVec F S4x4096x8x128 .f32 := broadcastInDim S4x4096x8x128 ![] bcast_S_S4x4096x8x128 main_cst
  let main_v2 : IVec S4x4096x8x128 1 := cmpf .olt main_v0 main_v1
  let main_v3 : FVec F S4x4096x2x128 .f32 := Host.absf main_arg1
  let main_cst_0 : FVec F S_ .f32 := constant S_ .f32 0x7F800000#32
  let main_v4 : FVec F S4x4096x2x128 .f32 := broadcastInDim S4x4096x2x128 ![] bcast_S_S4x4096x2x128 main_cst_0
  let main_v5 : IVec S4x4096x2x128 1 := cmpf .olt main_v3 main_v4
  (main_v2, main_v5)
-- ==== Kernel.lean ====
abbrev S4x4096x8x128 : Shape := ⟨4, ![4, 4096, 8, 128]⟩
abbrev S4x4096x2x128 : Shape := ⟨4, ![4, 4096, 2, 128]⟩
abbrev S16384x1024 : Shape := ⟨2, ![16384, 1024]⟩
abbrev S_ : Shape := ⟨0, ![]⟩
abbrev S16384x256 : Shape := ⟨2, ![16384, 256]⟩
abbrev S4x8x512x2x128 : Shape := ⟨5, ![4, 8, 512, 2, 128]⟩
abbrev S4x2x8x128x512 : Shape := ⟨5, ![4, 2, 8, 128, 512]⟩
abbrev S8x8x128x512 : Shape := ⟨4, ![8, 8, 128, 512]⟩
abbrev S8x8x16x512 : Shape := ⟨4, ![8, 8, 16, 512]⟩
abbrev S1 : Shape := ⟨1, ![1]⟩
abbrev S8x8x512 : Shape := ⟨3, ![8, 8, 512]⟩
abbrev S8x8x144x512 : Shape := ⟨4, ![8, 8, 144, 512]⟩
abbrev S1024x512 : Shape := ⟨2, ![1024, 512]⟩
abbrev S4096x128 : Shape := ⟨2, ![4096, 128]⟩
abbrev S1x8x144x512 : Shape := ⟨4, ![1, 8, 144, 512]⟩
abbrev S4x512x1024 : Shape := ⟨3, ![4, 512, 1024]⟩
abbrev S4x144x1024 : Shape := ⟨3, ![4, 144, 1024]⟩
abbrev S1x1024 : Shape := ⟨2, ![1, 1024]⟩
abbrev S512x128 : Shape := ⟨2, ![512, 128]⟩
abbrev S1024x128 : Shape := ⟨2, ![1024, 128]⟩
abbrev S512x1024 : Shape := ⟨2, ![512, 1024]⟩
abbrev S1x512x1024 : Shape := ⟨3, ![1, 512, 1024]⟩
abbrev S16x32x1024 : Shape := ⟨3, ![16, 32, 1024]⟩
abbrev S32x1024 : Shape := ⟨2, ![32, 1024]⟩
abbrev S1024 : Shape := ⟨1, ![1024]⟩
abbrev S1x1x144x512 : Shape := ⟨4, ![1, 1, 144, 512]⟩
abbrev S144x512 : Shape := ⟨2, ![144, 512]⟩
abbrev S1x144x1024 : Shape := ⟨3, ![1, 144, 1024]⟩
abbrev S144x1024 : Shape := ⟨2, ![144, 1024]⟩
abbrev S1x1x1024 : Shape := ⟨3, ![1, 1, 1024]⟩
abbrev S1x128x1024 : Shape := ⟨3, ![1, 128, 1024]⟩
abbrev S128x1024 : Shape := ⟨2, ![128, 1024]⟩

abbrev nBuf : Space → Nat
  | .hbm => 30
  | .vmem => 11
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S16384x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S16384x1024, .f32⟩
  | .hbm, ⟨12, _⟩ => ⟨S16384x1024, .f32⟩
  | .hbm, ⟨13, _⟩ => ⟨S16384x1024, .bf16⟩
  | .hbm, ⟨14, _⟩ => ⟨S16384x256, .f32⟩
  | .hbm, ⟨15, _⟩ => ⟨S16384x256, .bf16⟩
  | .hbm, ⟨16, _⟩ => ⟨S16384x256, .f32⟩
  | .hbm, ⟨17, _⟩ => ⟨S16384x256, .bf16⟩
  | .hbm, ⟨18, _⟩ => ⟨S4x8x512x2x128, .bf16⟩
  | .hbm, ⟨19, _⟩ => ⟨S4x2x8x128x512, .bf16⟩
  | .hbm, ⟨20, _⟩ => ⟨S8x8x128x512, .bf16⟩
  | .hbm, ⟨21, _⟩ => ⟨S_, .bf16⟩
  | .hbm, ⟨22, _⟩ => ⟨S8x8x16x512, .bf16⟩
  | .hbm, ⟨23, _⟩ => ⟨S_, .i32⟩
  | .hbm, ⟨24, _⟩ => ⟨S1, .i32⟩
  | .hbm, ⟨25, _⟩ => ⟨S_, .bf16⟩
  | .hbm, ⟨26, _⟩ => ⟨S8x8x512, .bf16⟩
  | .hbm, ⟨27, _⟩ => ⟨S8x8x16x512, .bf16⟩
  | .hbm, ⟨28, _⟩ => ⟨S8x8x144x512, .bf16⟩
  | .hbm, ⟨29, _⟩ => ⟨S16384x1024, .bf16⟩
  | .local _ .vmem, ⟨0, _⟩ => ⟨S1024x512, .bf16⟩
  | .local _ .vmem, ⟨1, _⟩ => ⟨S1024x512, .bf16⟩
  | .local _ .vmem, ⟨2, _⟩ => ⟨S4096x128, .bf16⟩
  | .local _ .vmem, ⟨3, _⟩ => ⟨S4096x128, .bf16⟩
  | .local _ .vmem, ⟨4, _⟩ => ⟨S1x8x144x512, .bf16⟩
  | .local _ .vmem, ⟨5, _⟩ => ⟨S1x8x144x512, .bf16⟩
  | .local _ .vmem, ⟨6, _⟩ => ⟨S1024x512, .bf16⟩
  | .local _ .vmem, ⟨7, _⟩ => ⟨S1024x512, .bf16⟩
  | .local _ .vmem, ⟨8, _⟩ => ⟨S4x512x1024, .f32⟩
  | .local _ .vmem, ⟨9, _⟩ => ⟨S4x512x1024, .f32⟩
  | .local _ .vmem, ⟨10, _⟩ => ⟨S4x144x1024, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_c : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_mult1 : BitVec 32 :=
  let c0_i32 : BitVec 32 := 0#32
  c0_i32
def k0_mult2 : BitVec 32 :=
  let c0_i32_15 : BitVec 32 := 0#32
  c0_i32_15
def k0_mult3 : BitVec 32 :=
  let c0_i32_23 : BitVec 32 := 0#32
  c0_i32_23
def k0_mult4 : BitVec 32 :=
  let c0_i32_31 : BitVec 32 := 0#32
  c0_i32_31
@[reducible] def k0_t1_loop : Scf.Loop 32 :=
  let c0_i32_39 : BitVec 32 := 0#32
  let c3_i32 : BitVec 32 := 3#32
  let v68 : BitVec 32 := Scalar.addi c0_i32_39 c3_i32
  let c1_i32 : BitVec 32 := 1#32
  ⟨c0_i32_39, v68, c1_i32⟩
def k0_mult5 (k0_t1 : Fin k0_t1_loop.trips) : BitVec 32 :=
  let c2_i32 : BitVec 32 := 2#32
  let c0_i32_39 : BitVec 32 := 0#32
  let c1_i32 : BitVec 32 := 1#32
  let arg10 : BitVec 32 := Scf.iv c0_i32_39 c1_i32 k0_t1
  let v294 : BitVec 32 := Scalar.muli c2_i32 arg10
  let c1_i32_192 : BitVec 32 := 1#32
  let v295 : BitVec 32 := Scalar.addi v294 c1_i32_192
  let c512_i32 : BitVec 32 := 512#32
  let v296 : BitVec 32 := Scalar.muli v295 c512_i32
  v296
def k0_off1 (k0_t1 : Fin k0_t1_loop.trips) : Fin 2 → Nat :=
  let c2_i32 : BitVec 32 := 2#32
  let c0_i32_39 : BitVec 32 := 0#32
  let c1_i32 : BitVec 32 := 1#32
  let arg10 : BitVec 32 := Scf.iv c0_i32_39 c1_i32 k0_t1
  let v294 : BitVec 32 := Scalar.muli c2_i32 arg10
  let c1_i32_192 : BitVec 32 := 1#32
  let v295 : BitVec 32 := Scalar.addi v294 c1_i32_192
  let c512_i32 : BitVec 32 := 512#32
  let v296 : BitVec 32 := Scalar.muli v295 c512_i32
  let v297 : BitVec 32 := v296
  let v298 : Index := Scalar.indexCast v297
  let c0_193 : Index := 0#32
  ![v298.toNat, 0]
def k0_off2 (k0_t1 : Fin k0_t1_loop.trips) : Fin 4 → Nat :=
  let c0_194 : Index := 0#32
  let c2_i32 : BitVec 32 := 2#32
  let c0_i32_39 : BitVec 32 := 0#32
  let c1_i32 : BitVec 32 := 1#32
  let arg10 : BitVec 32 := Scf.iv c0_i32_39 c1_i32 k0_t1
  let v294 : BitVec 32 := Scalar.muli c2_i32 arg10
  let v301 : Index := Scalar.indexCast v294
  let c0_195 : Index := 0#32
  let c0_196 : Index := 0#32
  ![0, v301.toNat, 0, 0]
def k0_mult6 (k0_t1 : Fin k0_t1_loop.trips) : BitVec 32 :=
  let c2_i32_269 : BitVec 32 := 2#32
  let c0_i32_39 : BitVec 32 := 0#32
  let c1_i32 : BitVec 32 := 1#32
  let arg10 : BitVec 32 := Scf.iv c0_i32_39 c1_i32 k0_t1
  let v416 : BitVec 32 := Scalar.muli c2_i32_269 arg10
  let c1_i32_270 : BitVec 32 := 1#32
  let v417 : BitVec 32 := Scalar.addi v416 c1_i32_270
  let c1_i32_271 : BitVec 32 := 1#32
  let v418 : BitVec 32 := Scalar.addi v417 c1_i32_271
  let c512_i32_272 : BitVec 32 := 512#32
  let v419 : BitVec 32 := Scalar.muli v418 c512_i32_272
  v419
def k0_off3 (k0_t1 : Fin k0_t1_loop.trips) : Fin 2 → Nat :=
  let c2_i32_269 : BitVec 32 := 2#32
  let c0_i32_39 : BitVec 32 := 0#32
  let c1_i32 : BitVec 32 := 1#32
  let arg10 : BitVec 32 := Scf.iv c0_i32_39 c1_i32 k0_t1
  let v416 : BitVec 32 := Scalar.muli c2_i32_269 arg10
  let c1_i32_270 : BitVec 32 := 1#32
  let v417 : BitVec 32 := Scalar.addi v416 c1_i32_270
  let c1_i32_271 : BitVec 32 := 1#32
  let v418 : BitVec 32 := Scalar.addi v417 c1_i32_271
  let c512_i32_272 : BitVec 32 := 512#32
  let v419 : BitVec 32 := Scalar.muli v418 c512_i32_272
  let v420 : BitVec 32 := v419
  let v421 : Index := Scalar.indexCast v420
  let c0_273 : Index := 0#32
  ![v421.toNat, 0]
def k0_off4 (k0_t1 : Fin k0_t1_loop.trips) : Fin 4 → Nat :=
  let c0_274 : Index := 0#32
  let c2_i32_269 : BitVec 32 := 2#32
  let c0_i32_39 : BitVec 32 := 0#32
  let c1_i32 : BitVec 32 := 1#32
  let arg10 : BitVec 32 := Scf.iv c0_i32_39 c1_i32 k0_t1
  let v416 : BitVec 32 := Scalar.muli c2_i32_269 arg10
  let c1_i32_270 : BitVec 32 := 1#32
  let v417 : BitVec 32 := Scalar.addi v416 c1_i32_270
  let v424 : Index := Scalar.indexCast v417
  let c0_275 : Index := 0#32
  let c0_276 : Index := 0#32
  ![0, v424.toNat, 0, 0]
def k0_mult7 : BitVec 32 :=
  let c3584_i32 : BitVec 32 := 3584#32
  c3584_i32
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x8x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S4x4096x8x128 : Shape := ⟨4, ![4, 4096, 8, 128]⟩
abbrev S4x4096x2x128 : Shape := ⟨4, ![4, 4096, 2, 128]⟩
abbrev S4x4096x2x4x128 : Shape := ⟨5, ![4, 4096, 2, 4, 128]⟩
abbrev S4x2x4x4096x128 : Shape := ⟨5, ![4, 2, 4, 4096, 128]⟩
abbrev S4x2x4096x128 : Shape := ⟨4, ![4, 2, 4096, 128]⟩
abbrev S4x2x4x4096x4096 : Shape := ⟨5, ![4, 2, 4, 4096, 4096]⟩
abbrev S_ : Shape := ⟨0, ![]⟩
abbrev S4x2x4x4096 : Shape := ⟨4, ![4, 2, 4, 4096]⟩
abbrev S4x2x4x4096x1 : Shape := ⟨5, ![4, 2, 4, 4096, 1]⟩
abbrev S16384x1024 : Shape := ⟨2, ![16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x2x128, .f32⟩
  | .hbm, ⟨2, _⟩ => ⟨S4x4096x2x128, .f32⟩
  | .hbm, ⟨3, _⟩ => ⟨S4x4096x2x4x128, .f32⟩
  | .hbm, ⟨4, _⟩ => ⟨S4x2x4x4096x128, .f32⟩
  | .hbm, ⟨5, _⟩ => ⟨S4x2x4096x128, .f32⟩
  | .hbm, ⟨6, _⟩ => ⟨S4x2x4096x128, .f32⟩
  | .hbm, ⟨7, _⟩ => ⟨S4x2x4x4096x4096, .f32⟩
  | .hbm, ⟨8, _⟩ => ⟨S_, .f32⟩
  | .hbm, ⟨9, _⟩ => ⟨S_, .f32⟩
  | .hbm, ⟨10, _⟩ => ⟨S4x2x4x4096x4096, .f32⟩
  | .hbm, ⟨11, _⟩ => ⟨S4x2x4x4096x4096, .f32⟩
  | .hbm, ⟨12, _⟩ => ⟨S_, .f32⟩
  | .hbm, ⟨13, _⟩ => ⟨S4x2x4x4096, .f32⟩
  | .hbm, ⟨14, _⟩ => ⟨S_, .f32⟩
  | .hbm, ⟨15, _⟩ => ⟨S4x2x4x4096, .f32⟩
  | .hbm, ⟨16, _⟩ => ⟨S4x2x4x4096, .f32⟩
  | .hbm, ⟨17, _⟩ => ⟨S4x2x4x4096x1, .f32⟩
  | .hbm, ⟨18, _⟩ => ⟨S4x2x4x4096x4096, .f32⟩
  | .hbm, ⟨19, _⟩ => ⟨S4x2x4x4096x4096, .f32⟩
  | .hbm, ⟨20, _⟩ => ⟨S4x2x4x4096x4096, .f32⟩
  | .hbm, ⟨21, _⟩ => ⟨S_, .f32⟩
  | .hbm, ⟨22, _⟩ => ⟨S4x2x4x4096, .f32⟩
  | .hbm, ⟨23, _⟩ => ⟨S4x2x4x4096x1, .f32⟩
  | .hbm, ⟨24, _⟩ => ⟨S4x2x4x4096x4096, .f32⟩
  | .hbm, ⟨25, _⟩ => ⟨S4x2x4x4096x4096, .f32⟩
  | .hbm, ⟨26, _⟩ => ⟨S4x2x4x4096x128, .f32⟩
  | .hbm, ⟨27, _⟩ => ⟨S4x4096x2x4x128, .f32⟩
  | .hbm, ⟨28, _⟩ => ⟨S16384x1024, .f32⟩
  | .hbm, ⟨29, _⟩ => ⟨S16384x1024, .bf16⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== Ffn.lean ====
abbrev S4x4096x2048 : Shape := ⟨3, ![4, 4096, 2048]⟩
abbrev S2048x11264 : Shape := ⟨2, ![2048, 11264]⟩
abbrev S5632x2048 : Shape := ⟨2, ![5632, 2048]⟩
abbrev S16384x2048 : Shape := ⟨2, ![16384, 2048]⟩
abbrev S1024x2048 : Shape := ⟨2, ![1024, 2048]⟩
abbrev S2048x512 : Shape := ⟨2, ![2048, 512]⟩
abbrev S512x2048 : Shape := ⟨2, ![512, 2048]⟩
abbrev S1024x512 : Shape := ⟨2, ![1024, 512]⟩

abbrev nBuf : Space → Nat
  | .hbm => 8
  | .vmem => 10
  | .smem => 0
  | _ => 0

abbrev bufTy : (tb : Table) → Fin (tcTables nBuf tb) → BufTy
  | .hbm, ⟨0, _⟩ => ⟨S4x4096x2048, .f32⟩
  | .hbm, ⟨1, _⟩ => ⟨S2048x11264, .f32⟩
  | .hbm, ⟨2, _⟩ => ⟨S5632x2048, .f32⟩
  | .hbm, ⟨3, _⟩ => ⟨S16384x2048, .f32⟩
  | .hbm, ⟨4, _⟩ => ⟨S16384x2048, .bf16⟩
  | .hbm, ⟨5, _⟩ => ⟨S2048x11264, .bf16⟩
  | .hbm, ⟨6, _⟩ => ⟨S5632x2048, .bf16⟩
  | .hbm, ⟨7, _⟩ => ⟨S16384x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S512x2048, .bf16⟩
  | .local _ .vmem, ⟨7, _⟩ => ⟨S512x2048, .bf16⟩
  | .local _ .vmem, ⟨8, _⟩ => ⟨S1024x2048, .f32⟩
  | .local _ .vmem, ⟨9, _⟩ => ⟨S1024x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S4x4096x2048 : Shape := ⟨3, ![4, 4096, 2048]⟩
abbrev S2048x11264 : Shape := ⟨2, ![2048, 11264]⟩
abbrev S5632x2048 : Shape := ⟨2, ![5632, 2048]⟩
abbrev S4x4096x11264 : Shape := ⟨3, ![4, 4096, 11264]⟩
abbrev S4x4096x5632 : Shape := ⟨3, ![4, 4096, 5632]⟩
abbrev S_ : Shape := ⟨0, ![]⟩
abbrev S16384x2048 : Shape := ⟨2, ![16384, 2048]⟩

abbrev nBuf : Space → Nat
  | .hbm => 18
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x11264, .f32⟩
  | .hbm, ⟨2, _⟩ => ⟨S5632x2048, .f32⟩
  | .hbm, ⟨3, _⟩ => ⟨S4x4096x11264, .f32⟩
  | .hbm, ⟨4, _⟩ => ⟨S4x4096x5632, .f32⟩
  | .hbm, ⟨5, _⟩ => ⟨S4x4096x5632, .f32⟩
  | .hbm, ⟨6, _⟩ => ⟨S4x4096x5632, .f32⟩
  | .hbm, ⟨7, _⟩ => ⟨S4x4096x5632, .f32⟩
  | .hbm, ⟨8, _⟩ => ⟨S_, .f32⟩
  | .hbm, ⟨9, _⟩ => ⟨S4x4096x5632, .f32⟩
  | .hbm, ⟨10, _⟩ => ⟨S4x4096x5632, .f32⟩
  | .hbm, ⟨11, _⟩ => ⟨S_, .f32⟩
  | .hbm, ⟨12, _⟩ => ⟨S4x4096x5632, .f32⟩
  | .hbm, ⟨13, _⟩ => ⟨S4x4096x5632, .f32⟩
  | .hbm, ⟨14, _⟩ => ⟨S4x4096x5632, .f32⟩
  | .hbm, ⟨15, _⟩ => ⟨S4x4096x5632, .f32⟩
  | .hbm, ⟨16, _⟩ => ⟨S4x4096x2048, .f32⟩
  | .hbm, ⟨17, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Ple.lean ====
abbrev S4x4096x2048 : Shape := ⟨3, ![4, 4096, 2048]⟩
abbrev S4x4096x256 : Shape := ⟨3, ![4, 4096, 256]⟩
abbrev S2048 : Shape := ⟨1, ![2048]⟩
abbrev S2048x2048 : Shape := ⟨2, ![2048, 2048]⟩
abbrev S256x2048 : Shape := ⟨2, ![256, 2048]⟩
abbrev S16384x2048 : Shape := ⟨2, ![16384, 2048]⟩
abbrev S16384x256 : Shape := ⟨2, ![16384, 256]⟩
abbrev S1x2048 : Shape := ⟨2, ![1, 2048]⟩
abbrev S512x2048 : Shape := ⟨2, ![512, 2048]⟩
abbrev S512x256 : Shape := ⟨2, ![512, 256]⟩
abbrev S256 : Shape := ⟨1, ![256]⟩
abbrev S256x1 : Shape := ⟨2, ![256, 1]⟩

abbrev nBuf : Space → Nat
  | .hbm => 17
  | .vmem => 13
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x256, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S16384x2048, .f32⟩
  | .hbm, ⟨9, _⟩ => ⟨S16384x2048, .f32⟩
  | .hbm, ⟨10, _⟩ => ⟨S16384x256, .f32⟩
  | .hbm, ⟨11, _⟩ => ⟨S1x2048, .f32⟩
  | .hbm, ⟨12, _⟩ => ⟨S1x2048, .f32⟩
  | .hbm, ⟨13, _⟩ => ⟨S2048x2048, .bf16⟩
  | .hbm, ⟨14, _⟩ => ⟨S256x2048, .bf16⟩
  | .hbm, ⟨15, _⟩ => ⟨S1x2048, .f32⟩
  | .hbm, ⟨16, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x256, .f32⟩
  | .local _ .vmem, ⟨5, _⟩ => ⟨S512x256, .f32⟩
  | .local _ .vmem, ⟨6, _⟩ => ⟨S1x2048, .f32⟩
  | .local _ .vmem, ⟨7, _⟩ => ⟨S1x2048, .f32⟩
  | .local _ .vmem, ⟨8, _⟩ => ⟨S2048x2048, .bf16⟩
  | .local _ .vmem, ⟨9, _⟩ => ⟨S256x2048, .bf16⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleRefIdeal.lean ====
abbrev S4x4096x2048 : Shape := ⟨3, ![4, 4096, 2048]⟩
abbrev S4x4096x256 : Shape := ⟨3, ![4, 4096, 256]⟩
abbrev S2048 : Shape := ⟨1, ![2048]⟩
abbrev S2048x2048 : Shape := ⟨2, ![2048, 2048]⟩
abbrev S256x2048 : Shape := ⟨2, ![256, 2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 70
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x256, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S256x2048, .f32⟩
  | .hbm, ⟨7, _⟩ => ⟨S2048, .f32⟩
  | .hbm, ⟨8, _⟩ => ⟨S4x4096x2048, .f32⟩
  | .hbm, ⟨9, _⟩ => ⟨S_, .f32⟩
  | .hbm, ⟨10, _⟩ => ⟨S4x4096, .f32⟩
  | .hbm, ⟨11, _⟩ => ⟨S4x4096x1, .f32⟩
  | .hbm, ⟨12, _⟩ => ⟨S_, .f32⟩
  | .hbm, ⟨13, _⟩ => ⟨S4x4096x1, .f32⟩
  | .hbm, ⟨14, _⟩ => ⟨S4x4096x1, .f32⟩
  | .hbm, ⟨15, _⟩ => ⟨S_, .f32⟩
  | .hbm, ⟨16, _⟩ => ⟨S4x4096x1, .f32⟩
  | .hbm, ⟨17, _⟩ => ⟨S4x4096x1, .f32⟩
  | .hbm, ⟨18, _⟩ => ⟨S4x4096x1, .f32⟩
  | .hbm, ⟨19, _⟩ => ⟨S4x4096x2048, .f32⟩
  | .hbm, ⟨20, _⟩ => ⟨S4x4096x2048, .f32⟩
  | .hbm, ⟨21, _⟩ => ⟨S1x1x2048, .f32⟩
  | .hbm, ⟨22, _⟩ => ⟨S4x4096x2048, .f32⟩
  | .hbm, ⟨23, _⟩ => ⟨S4x4096x2048, .f32⟩
  | .hbm, ⟨24, _⟩ => ⟨S4x4096x2048, .f32⟩
  | .hbm, ⟨25, _⟩ => ⟨S4x4096x2048, .f32⟩
  | .hbm, ⟨26, _⟩ => ⟨S_, .f32⟩
  | .hbm, ⟨27, _⟩ => ⟨S4x4096, .f32⟩
  | .hbm, ⟨28, _⟩ => ⟨S4x4096x1, .f32⟩
  | .hbm, ⟨29, _⟩ => ⟨S_, .f32⟩
  | .hbm, ⟨30, _⟩ => ⟨S4x4096x1, .f32⟩
  | .hbm, ⟨31, _⟩ => ⟨S4x4096x1, .f32⟩
  | .hbm, ⟨32, _⟩ => ⟨S_, .f32⟩
  | .hbm, ⟨33, _⟩ => ⟨S4x4096x1, .f32⟩
  | .hbm, ⟨34, _⟩ => ⟨S4x4096x1, .f32⟩
  | .hbm, ⟨35, _⟩ => ⟨S4x4096x1, .f32⟩
  | .hbm, ⟨36, _⟩ => ⟨S4x4096x2048, .f32⟩
  | .hbm, ⟨37, _⟩ => ⟨S4x4096x2048, .f32⟩
  | .hbm, ⟨38, _⟩ => ⟨S1x1x2048, .f32⟩
  | .hbm, ⟨39, _⟩ => ⟨S4x4096x2048, .f32⟩
  | .hbm, ⟨40, _⟩ => ⟨S4x4096x2048, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S_, .f32⟩
  | .hbm, ⟨45, _⟩ => ⟨S4x4096x2048, .f32⟩
  | .hbm, ⟨46, _⟩ => ⟨S4x4096x2048, .f32⟩
  | .hbm, ⟨47, _⟩ => ⟨S_, .f32⟩
  | .hbm, ⟨48, _⟩ => ⟨S4x4096x2048, .f32⟩
  | .hbm, ⟨49, _⟩ => ⟨S4x4096x2048, .f32⟩
  | .hbm, ⟨50, _⟩ => ⟨S4x4096x2048, .f32⟩
  | .hbm, ⟨51, _⟩ => ⟨S4x4096x2048, .f32⟩
  | .hbm, ⟨52, _⟩ => ⟨S4x4096x2048, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1, .f32⟩
  | .hbm, ⟨63, _⟩ => ⟨S4x4096x2048, .f32⟩
  | .hbm, ⟨64, _⟩ => ⟨S4x4096x2048, .f32⟩
  | .hbm, ⟨65, _⟩ => ⟨S1x1x2048, .f32⟩
  | .hbm, ⟨66, _⟩ => ⟨S4x4096x2048, .f32⟩
  | .hbm, ⟨67, _⟩ => ⟨S4x4096x2048, .f32⟩
  | .hbm, ⟨68, _⟩ => ⟨S4x4096x2048, .f32⟩
  | .hbm, ⟨69, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== Out.lean ====
abbrev S4x4096x1024 : Shape := ⟨3, ![4, 4096, 1024]⟩
abbrev S4x4096x2048 : Shape := ⟨3, ![4, 4096, 2048]⟩
abbrev S2048x2048 : Shape := ⟨2, ![2048, 2048]⟩
abbrev S256 : Shape := ⟨1, ![256]⟩
abbrev S2048 : Shape := ⟨1, ![2048]⟩
abbrev S16384x1024 : Shape := ⟨2, ![16384, 1024]⟩
abbrev S16384x2048 : Shape := ⟨2, ![16384, 2048]⟩
abbrev S1x256 : Shape := ⟨2, ![1, 256]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S1024x2048 : Shape := ⟨2, ![1024, 2048]⟩
abbrev S256x2048 : Shape := ⟨2, ![256, 2048]⟩
abbrev S256x256 : Shape := ⟨2, ![256, 256]⟩
abbrev S256x1 : Shape := ⟨2, ![256, 1]⟩

abbrev nBuf : Space → Nat
  | .hbm => 22
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x2048, .f32⟩
  | .hbm, ⟨5, _⟩ => ⟨S2048x2048, .f32⟩
  | .hbm, ⟨6, _⟩ => ⟨S256, .f32⟩
  | .hbm, ⟨7, _⟩ => ⟨S2048, .f32⟩
  | .hbm, ⟨8, _⟩ => ⟨S2048, .f32⟩
  | .hbm, ⟨9, _⟩ => ⟨S16384x1024, .f32⟩
  | .hbm, ⟨10, _⟩ => ⟨S16384x1024, .bf16⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .bf16⟩
  | .hbm, ⟨15, _⟩ => ⟨S16384x2048, .f32⟩
  | .hbm, ⟨16, _⟩ => ⟨S2048x2048, .bf16⟩
  | .hbm, ⟨17, _⟩ => ⟨S1x256, .f32⟩
  | .hbm, ⟨18, _⟩ => ⟨S1x2048, .f32⟩
  | .hbm, ⟨19, _⟩ => ⟨S1x2048, .f32⟩
  | .hbm, ⟨20, _⟩ => ⟨S16384x2048, .f32⟩
  | .hbm, ⟨21, _⟩ => ⟨S16384x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x2048, .f32⟩
  | .local _ .vmem, ⟨9, _⟩ => ⟨S512x2048, .f32⟩
  | .local _ .vmem, ⟨10, _⟩ => ⟨S2048x2048, .bf16⟩
  | .local _ .vmem, ⟨11, _⟩ => ⟨S1x256, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11_0 : Ref sig .tc := ⟨.hbm, 20, rfl⟩
abbrev main_v11_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== OutRefIdeal.lean ====
abbrev S4x4096x1024 : Shape := ⟨3, ![4, 4096, 1024]⟩
abbrev S4x4096x2048 : Shape := ⟨3, ![4, 4096, 2048]⟩
abbrev S2048x2048 : Shape := ⟨2, ![2048, 2048]⟩
abbrev S256 : Shape := ⟨1, ![256]⟩
abbrev S2048 : Shape := ⟨1, ![2048]⟩
abbrev S4x4096x4x256 : Shape := ⟨4, ![4, 4096, 4, 256]⟩
abbrev S_ : Shape := ⟨0, ![]⟩
abbrev S4x4096x4 : Shape := ⟨3, ![4, 4096, 4]⟩
abbrev S4x4096x4x1 : Shape := ⟨4, ![4, 4096, 4, 1]⟩
abbrev S1x1x1x256 : Shape := ⟨4, ![1, 1, 1, 256]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 68
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S4x4096x1024, .f32⟩
  | .hbm, ⟨4, _⟩ => ⟨S4x4096x2048, .f32⟩
  | .hbm, ⟨5, _⟩ => ⟨S2048x2048, .f32⟩
  | .hbm, ⟨6, _⟩ => ⟨S256, .f32⟩
  | .hbm, ⟨7, _⟩ => ⟨S2048, .f32⟩
  | .hbm, ⟨8, _⟩ => ⟨S2048, .f32⟩
  | .hbm, ⟨9, _⟩ => ⟨S4x4096x1024, .f32⟩
  | .hbm, ⟨10, _⟩ => ⟨S4x4096x4x256, .f32⟩
  | .hbm, ⟨11, _⟩ => ⟨S4x4096x4x256, .f32⟩
  | .hbm, ⟨12, _⟩ => ⟨S_, .f32⟩
  | .hbm, ⟨13, _⟩ => ⟨S4x4096x4, .f32⟩
  | .hbm, ⟨14, _⟩ => ⟨S4x4096x4x1, .f32⟩
  | .hbm, ⟨15, _⟩ => ⟨S_, .f32⟩
  | .hbm, ⟨16, _⟩ => ⟨S4x4096x4x1, .f32⟩
  | .hbm, ⟨17, _⟩ => ⟨S4x4096x4x1, .f32⟩
  | .hbm, ⟨18, _⟩ => ⟨S_, .f32⟩
  | .hbm, ⟨19, _⟩ => ⟨S4x4096x4x1, .f32⟩
  | .hbm, ⟨20, _⟩ => ⟨S4x4096x4x1, .f32⟩
  | .hbm, ⟨21, _⟩ => ⟨S4x4096x4x1, .f32⟩
  | .hbm, ⟨22, _⟩ => ⟨S4x4096x4x256, .f32⟩
  | .hbm, ⟨23, _⟩ => ⟨S4x4096x4x256, .f32⟩
  | .hbm, ⟨24, _⟩ => ⟨S1x1x1x256, .f32⟩
  | .hbm, ⟨25, _⟩ => ⟨S4x4096x4x256, .f32⟩
  | .hbm, ⟨26, _⟩ => ⟨S4x4096x4x256, .f32⟩
  | .hbm, ⟨27, _⟩ => ⟨S4x4096x4x256, .f32⟩
  | .hbm, ⟨28, _⟩ => ⟨S4x4096x4x256, .f32⟩
  | .hbm, ⟨29, _⟩ => ⟨S4x4096x1024, .f32⟩
  | .hbm, ⟨30, _⟩ => ⟨S4x4096x2048, .f32⟩
  | .hbm, ⟨31, _⟩ => ⟨S4x4096x2048, .f32⟩
  | .hbm, ⟨32, _⟩ => ⟨S4x4096x2048, .f32⟩
  | .hbm, ⟨33, _⟩ => ⟨S_, .f32⟩
  | .hbm, ⟨34, _⟩ => ⟨S4x4096, .f32⟩
  | .hbm, ⟨35, _⟩ => ⟨S4x4096x1, .f32⟩
  | .hbm, ⟨36, _⟩ => ⟨S_, .f32⟩
  | .hbm, ⟨37, _⟩ => ⟨S4x4096x1, .f32⟩
  | .hbm, ⟨38, _⟩ => ⟨S4x4096x1, .f32⟩
  | .hbm, ⟨39, _⟩ => ⟨S_, .f32⟩
  | .hbm, ⟨40, _⟩ => ⟨S4x4096x1, .f32⟩
  | .hbm, ⟨41, _⟩ => ⟨S4x4096x1, .f32⟩
  | .hbm, ⟨42, _⟩ => ⟨S4x4096x1, .f32⟩
  | .hbm, ⟨43, _⟩ => ⟨S4x4096x2048, .f32⟩
  | .hbm, ⟨44, _⟩ => ⟨S4x4096x2048, .f32⟩
  | .hbm, ⟨45, _⟩ => ⟨S1x1x2048, .f32⟩
  | .hbm, ⟨46, _⟩ => ⟨S4x4096x2048, .f32⟩
  | .hbm, ⟨47, _⟩ => ⟨S4x4096x2048, .f32⟩
  | .hbm, ⟨48, _⟩ => ⟨S4x4096x2048, .f32⟩
  | .hbm, ⟨49, _⟩ => ⟨S4x4096x2048, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x2048, .f32⟩
  | .hbm, ⟨61, _⟩ => ⟨S4x4096x2048, .f32⟩
  | .hbm, ⟨62, _⟩ => ⟨S1x1x2048, .f32⟩
  | .hbm, ⟨63, _⟩ => ⟨S4x4096x2048, .f32⟩
  | .hbm, ⟨64, _⟩ => ⟨S4x4096x2048, .f32⟩
  | .hbm, ⟨65, _⟩ => ⟨S16384x2048, .f32⟩
  | .hbm, ⟨66, _⟩ => ⟨S16384x2048, .f32⟩
  | .hbm, ⟨67, _⟩ => ⟨S16384x2048, .bf16⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_2 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_5 : Ref sig .tc := ⟨.hbm, 50, rfl⟩
abbrev main_v35 : Ref sig .tc := ⟨.hbm, 51, rfl⟩
abbrev main_v36 : Ref sig .tc := ⟨.hbm, 52, rfl⟩
abbrev main_cst_6 : Ref sig .tc := ⟨.hbm, 53, rfl⟩
abbrev main_v37 : Ref sig .tc := ⟨.hbm, 54, rfl⟩
abbrev main_v38 : Ref sig .tc := ⟨.hbm, 55, rfl⟩
abbrev main_cst_7 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩

abbrev nD : Nat := 1
abbrev τ : Topo := Topo.v7x

variable {F : FTy → Type} [FloatOps F]
-- ==== In.lean ====
abbrev S4x4096x2048 : Shape := ⟨3, ![4, 4096, 2048]⟩
abbrev S2048 : Shape := ⟨1, ![2048]⟩
abbrev S2048x4640 : Shape := ⟨2, ![2048, 4640]⟩
abbrev S128 : Shape := ⟨1, ![128]⟩
abbrev S16x512 : Shape := ⟨2, ![16, 512]⟩
abbrev S512 : Shape := ⟨1, ![512]⟩
abbrev S_ : Shape := ⟨0, ![]⟩
abbrev S16x1024 : Shape := ⟨2, ![16, 1024]⟩
abbrev S32x1024 : Shape := ⟨2, ![32, 1024]⟩
abbrev S32 : Shape := ⟨1, ![32]⟩
abbrev S64 : Shape := ⟨1, ![64]⟩
abbrev S64x1 : Shape := ⟨2, ![64, 1]⟩
abbrev S1x32 : Shape := ⟨2, ![1, 32]⟩
abbrev S64x32 : Shape := ⟨2, ![64, 32]⟩
abbrev S64x128 : Shape := ⟨2, ![64, 128]⟩
abbrev S64x1x128 : Shape := ⟨3, ![64, 1, 128]⟩
abbrev S1x64x128 : Shape := ⟨3, ![1, 64, 128]⟩
abbrev S64x64x128 : Shape := ⟨3, ![64, 64, 128]⟩
abbrev S4096x128 : Shape := ⟨2, ![4096, 128]⟩
abbrev S16384x2048 : Shape := ⟨2, ![16384, 2048]⟩
abbrev S1x2048 : Shape := ⟨2, ![1, 2048]⟩
abbrev S1x128 : Shape := ⟨2, ![1, 128]⟩
abbrev S1024 : Shape := ⟨1, ![1024]⟩
abbrev S1x1024 : Shape := ⟨2, ![1, 1024]⟩
abbrev S16384x1024 : Shape := ⟨2, ![16384, 1024]⟩
abbrev S16384x256 : Shape := ⟨2, ![16384, 256]⟩
abbrev S16384x512 : Shape := ⟨2, ![16384, 512]⟩
abbrev S512x2048 : Shape := ⟨2, ![512, 2048]⟩
abbrev S512x128 : Shape := ⟨2, ![512, 128]⟩
abbrev S512x1024 : Shape := ⟨2, ![512, 1024]⟩
abbrev S512x256 : Shape := ⟨2, ![512, 256]⟩
abbrev S512x512 : Shape := ⟨2, ![512, 512]⟩
abbrev S512x1 : Shape := ⟨2, ![512, 1]⟩
abbrev S2048x32 : Shape := ⟨2, ![2048, 32]⟩
abbrev S512x32 : Shape := ⟨2, ![512, 32]⟩
abbrev S2048x512 : Shape := ⟨2, ![2048, 512]⟩

abbrev nBuf : Space → Nat
  | .hbm => 87
  | .vmem => 30
  | .smem => 0
  | _ => 0

abbrev bufTy : (tb : Table) → Fin (tcTables nBuf tb) → BufTy
  | .hbm, ⟨0, _⟩ => ⟨S4x4096x2048, .f32⟩
  | .hbm, ⟨1, _⟩ => ⟨S2048, .f32⟩
  | .hbm, ⟨2, _⟩ => ⟨S2048x4640, .f32⟩
  | .hbm, ⟨3, _⟩ => ⟨S128, .f32⟩
  | .hbm, ⟨4, _⟩ => ⟨S128, .f32⟩
  | .hbm, ⟨5, _⟩ => ⟨S16x512, .f32⟩
  | .hbm, ⟨6, _⟩ => ⟨S512, .f32⟩
  | .hbm, ⟨7, _⟩ => ⟨S16x512, .f32⟩
  | .hbm, ⟨8, _⟩ => ⟨S512, .f32⟩
  | .hbm, ⟨9, _⟩ => ⟨S_, .f32⟩
  | .hbm, ⟨10, _⟩ => ⟨S16x512, .f32⟩
  | .hbm, ⟨11, _⟩ => ⟨S16x1024, .f32⟩
  | .hbm, ⟨12, _⟩ => ⟨S16x1024, .f32⟩
  | .hbm, ⟨13, _⟩ => ⟨S32x1024, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S_, .f32⟩
  | .hbm, ⟨26, _⟩ => ⟨S32, .f32⟩
  | .hbm, ⟨27, _⟩ => ⟨S32, .f32⟩
  | .hbm, ⟨28, _⟩ => ⟨S64, .f32⟩
  | .hbm, ⟨29, _⟩ => ⟨S64x1, .f32⟩
  | .hbm, ⟨30, _⟩ => ⟨S1x32, .f32⟩
  | .hbm, ⟨31, _⟩ => ⟨S64x32, .f32⟩
  | .hbm, ⟨32, _⟩ => ⟨S64x32, .f32⟩
  | .hbm, ⟨33, _⟩ => ⟨S64x32, .f32⟩
  | .hbm, ⟨34, _⟩ => ⟨S64, .f32⟩
  | .hbm, ⟨35, _⟩ => ⟨S64x1, .f32⟩
  | .hbm, ⟨36, _⟩ => ⟨S1x32, .f32⟩
  | .hbm, ⟨37, _⟩ => ⟨S64x32, .f32⟩
  | .hbm, ⟨38, _⟩ => ⟨S64x32, .f32⟩
  | .hbm, ⟨39, _⟩ => ⟨S64x32, .f32⟩
  | .hbm, ⟨40, _⟩ => ⟨S_, .f32⟩
  | .hbm, ⟨41, _⟩ => ⟨S64x32, .f32⟩
  | .hbm, ⟨42, _⟩ => ⟨S_, .f32⟩
  | .hbm, ⟨43, _⟩ => ⟨S64x32, .f32⟩
  | .hbm, ⟨44, _⟩ => ⟨S64x32, .f32⟩
  | .hbm, ⟨45, _⟩ => ⟨S64x32, .f32⟩
  | .hbm, ⟨46, _⟩ => ⟨S64x128, .f32⟩
  | .hbm, ⟨47, _⟩ => ⟨S64x32, .f32⟩
  | .hbm, ⟨48, _⟩ => ⟨S64x32, .f32⟩
  | .hbm, ⟨49, _⟩ => ⟨S64x128, .f32⟩
  | .hbm, ⟨50, _⟩ => ⟨S64x1x128, .f32⟩
  | .hbm, ⟨51, _⟩ => ⟨S1x64x128, .f32⟩
  | .hbm, ⟨52, _⟩ => ⟨S64x64x128, .f32⟩
  | .hbm, ⟨53, _⟩ => ⟨S64x64x128, .f32⟩
  | .hbm, ⟨54, _⟩ => ⟨S64x64x128, .f32⟩
  | .hbm, ⟨55, _⟩ => ⟨S4096x128, .f32⟩
  | .hbm, ⟨56, _⟩ => ⟨S64x32, .f32⟩
  | .hbm, ⟨57, _⟩ => ⟨S64x32, .f32⟩
  | .hbm, ⟨58, _⟩ => ⟨S64x32, .f32⟩
  | .hbm, ⟨59, _⟩ => ⟨S64x128, .f32⟩
  | .hbm, ⟨60, _⟩ => ⟨S64x32, .f32⟩
  | .hbm, ⟨61, _⟩ => ⟨S64x32, .f32⟩
  | .hbm, ⟨62, _⟩ => ⟨S64x32, .f32⟩
  | .hbm, ⟨63, _⟩ => ⟨S64x128, .f32⟩
  | .hbm, ⟨64, _⟩ => ⟨S64x1x128, .f32⟩
  | .hbm, ⟨65, _⟩ => ⟨S1x64x128, .f32⟩
  | .hbm, ⟨66, _⟩ => ⟨S64x64x128, .f32⟩
  | .hbm, ⟨67, _⟩ => ⟨S64x64x128, .f32⟩
  | .hbm, ⟨68, _⟩ => ⟨S64x64x128, .f32⟩
  | .hbm, ⟨69, _⟩ => ⟨S4096x128, .f32⟩
  | .hbm, ⟨70, _⟩ => ⟨S16384x2048, .f32⟩
  | .hbm, ⟨71, _⟩ => ⟨S1x2048, .f32⟩
  | .hbm, ⟨72, _⟩ => ⟨S2048x4640, .bf16⟩
  | .hbm, ⟨73, _⟩ => ⟨S1x128, .f32⟩
  | .hbm, ⟨74, _⟩ => ⟨S1x128, .f32⟩
  | .hbm, ⟨75, _⟩ => ⟨S32x1024, .bf16⟩
  | .hbm, ⟨76, _⟩ => ⟨S1024, .f32⟩
  | .hbm, ⟨77, _⟩ => ⟨S1x1024, .f32⟩
  | .hbm, ⟨78, _⟩ => ⟨S16384x1024, .bf16⟩
  | .hbm, ⟨79, _⟩ => ⟨S16384x256, .bf16⟩
  | .hbm, ⟨80, _⟩ => ⟨S16384x256, .bf16⟩
  | .hbm, ⟨81, _⟩ => ⟨S16384x512, .bf16⟩
  | .hbm, ⟨82, _⟩ => ⟨S16384x512, .bf16⟩
  | .hbm, ⟨83, _⟩ => ⟨S16384x1024, .bf16⟩
  | .hbm, ⟨84, _⟩ => ⟨S16384x1024, .bf16⟩
  | .hbm, ⟨85, _⟩ => ⟨S16384x512, .f32⟩
  | .hbm, ⟨86, _⟩ => ⟨S16384x512, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x4640, .bf16⟩
  | .local _ .vmem, ⟨4, _⟩ => ⟨S1x128, .f32⟩
  | .local _ .vmem, ⟨5, _⟩ => ⟨S1x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S32x1024, .bf16⟩
  | .local _ .vmem, ⟨11, _⟩ => ⟨S1x1024, .f32⟩
  | .local _ .vmem, ⟨12, _⟩ => ⟨S512x1024, .bf16⟩
  | .local _ .vmem, ⟨13, _⟩ => ⟨S512x1024, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x1024, .bf16⟩
  | .local _ .vmem, ⟨23, _⟩ => ⟨S512x1024, .bf16⟩
  | .local _ .vmem, ⟨24, _⟩ => ⟨S512x1024, .bf16⟩
  | .local _ .vmem, ⟨25, _⟩ => ⟨S512x1024, .bf16⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_cst_1 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62_0 : Ref sig .tc := ⟨.hbm, 78, rfl⟩
abbrev main_v62_1 : Ref sig .tc := ⟨.hbm, 79, rfl⟩
abbrev main_v62_2 : Ref sig .tc := ⟨.hbm, 80, rfl⟩
abbrev main_v62_3 : Ref sig .tc := ⟨.hbm, 81, rfl⟩
abbrev main_v62_4 : Ref sig .tc := ⟨.hbm, 82, rfl⟩
abbrev main_v62_5 : Ref sig .tc := ⟨.hbm, 83, rfl⟩
abbrev main_v62_6 : Ref sig .tc := ⟨.hbm, 84, rfl⟩
abbrev main_v62_7 : Ref sig .tc := ⟨.hbm, 85, rfl⟩
abbrev main_v62_8 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x4640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== InRefIdeal.lean ====
abbrev S4x4096x2048 : Shape := ⟨3, ![4, 4096, 2048]⟩
abbrev S2048 : Shape := ⟨1, ![2048]⟩
abbrev S2048x4640 : Shape := ⟨2, ![2048, 4640]⟩
abbrev S128 : Shape := ⟨1, ![128]⟩
abbrev S16x512 : Shape := ⟨2, ![16, 512]⟩
abbrev S512 : Shape := ⟨1, ![512]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4x4096 : Shape := ⟨2, ![4, 4096]⟩
abbrev S4x4096x1 : Shape := ⟨3, ![4, 4096, 1]⟩
abbrev S1x1x2048 : Shape := ⟨3, ![1, 1, 2048]⟩
abbrev S4x4096x4640 : Shape := ⟨3, ![4, 4096, 4640]⟩
abbrev S4x4096x1024 : Shape := ⟨3, ![4, 4096, 1024]⟩
abbrev S4x4096x256 : Shape := ⟨3, ![4, 4096, 256]⟩
abbrev S4x4096x512 : Shape := ⟨3, ![4, 4096, 512]⟩
abbrev S4x4096x16 : Shape := ⟨3, ![4, 4096, 16]⟩
abbrev S4x4096x8x128 : Shape := ⟨4, ![4, 4096, 8, 128]⟩
abbrev S4x4096x8 : Shape := ⟨3, ![4, 4096, 8]⟩
abbrev S4x4096x8x1 : Shape := ⟨4, ![4, 4096, 8, 1]⟩
abbrev S1x1x1x128 : Shape := ⟨4, ![1, 1, 1, 128]⟩
abbrev S4x4096x8x64 : Shape := ⟨4, ![4, 4096, 8, 64]⟩
abbrev S4x4096x8x32 : Shape := ⟨4, ![4, 4096, 8, 32]⟩
abbrev S1x4096x1x32 : Shape := ⟨4, ![1, 4096, 1, 32]⟩
abbrev S4x4096x2x128 : Shape := ⟨4, ![4, 4096, 2, 128]⟩
abbrev S4x4096x2 : Shape := ⟨3, ![4, 4096, 2]⟩
abbrev S4x4096x2x1 : Shape := ⟨4, ![4, 4096, 2, 1]⟩
abbrev S4x4096x2x64 : Shape := ⟨4, ![4, 4096, 2, 64]⟩
abbrev S4x4096x2x32 : Shape := ⟨4, ![4, 4096, 2, 32]⟩
abbrev S1x1x512 : Shape := ⟨3, ![1, 1, 512]⟩
abbrev S16384x1024 : Shape := ⟨2, ![16384, 1024]⟩
abbrev S16384x256 : Shape := ⟨2, ![16384, 256]⟩
abbrev S16384x512 : Shape := ⟨2, ![16384, 512]⟩

abbrev nBuf : Space → Nat
  | .hbm => 261
  | .vmem => 0
  | .smem => 0
  | _ => 0

abbrev hbmTy0_0 (i : Nat) : BufTy := match i % 128 with
  | 0 => ⟨S4x4096x2048, .f32⟩
  | 1 => ⟨S2048, .f32⟩
  | 2 => ⟨S2048x4640, .f32⟩
  | 3 => ⟨S128, .f32⟩
  | 4 => ⟨S128, .f32⟩
  | 5 => ⟨S16x512, .f32⟩
  | 6 => ⟨S512, .f32⟩
  | 7 => ⟨S16x512, .f32⟩
  | 8 => ⟨S512, .f32⟩
  | 9 => ⟨S64, .f32⟩
  | 10 => ⟨S64x64, .f32⟩
  | 11 => ⟨S4096, .f32⟩
  | 12 => ⟨S64, .f32⟩
  | 13 => ⟨S1x64, .f32⟩
  | 14 => ⟨S64x64, .f32⟩
  | 15 => ⟨S4096, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S32, .f32⟩
  | 24 => ⟨S_, .f32⟩
  | 25 => ⟨S32, .f32⟩
  | 26 => ⟨S32, .f32⟩
  | 27 => ⟨S_, .f32⟩
  | 28 => ⟨S32, .f32⟩
  | 29 => ⟨S32, .f32⟩
  | 30 => ⟨S4096x1, .f32⟩
  | 31 => ⟨S1x32, .f32⟩
  | 32 => ⟨S4096x32, .f32⟩
  | 33 => ⟨S4096x32, .f32⟩
  | 34 => ⟨S4096x32, .f32⟩
  | 35 => ⟨S4096x1x32, .f32⟩
  | 36 => ⟨S4096x1, .f32⟩
  | 37 => ⟨S1x32, .f32⟩
  | 38 => ⟨S4096x32, .f32⟩
  | 39 => ⟨S4096x32, .f32⟩
  | 40 => ⟨S4096x32, .f32⟩
  | 41 => ⟨S4096x1x32, .f32⟩
  | 42 => ⟨S4x4096x2048, .f32⟩
  | 43 => ⟨S_, .f32⟩
  | 44 => ⟨S4x4096, .f32⟩
  | 45 => ⟨S4x4096x1, .f32⟩
  | 46 => ⟨S_, .f32⟩
  | 47 => ⟨S4x4096x1, .f32⟩
  | 48 => ⟨S4x4096x1, .f32⟩
  | 49 => ⟨S_, .f32⟩
  | 50 => ⟨S4x4096x1, .f32⟩
  | 51 => ⟨S4x4096x1, .f32⟩
  | 52 => ⟨S4x4096x1, .f32⟩
  | 53 => ⟨S4x4096x2048, .f32⟩
  | 54 => ⟨S4x4096x2048, .f32⟩
  | 55 => ⟨S1x1x2048, .f32⟩
  | 56 => ⟨S4x4096x2048, .f32⟩
  | 57 => ⟨S4x4096x2048, .f32⟩
  | 58 => ⟨S4x4096x4640, .f32⟩
  | 59 => ⟨S4x4096x1024, .f32⟩
  | 60 => ⟨S4x4096x256, .f32⟩
  | 61 => ⟨S4x4096x256, .f32⟩
  | 62 => ⟨S4x4096x512, .f32⟩
  | 63 => ⟨S4x4096x512, .f32⟩
  | 64 => ⟨S4x4096x1024, .f32⟩
  | 65 => ⟨S4x4096x1024, .f32⟩
  | 66 => ⟨S4x4096x16, .f32⟩
  | 67 => ⟨S4x4096x16, .f32⟩
  | 68 => ⟨S4x4096x8x128, .f32⟩
  | 69 => ⟨S4x4096x8x128, .f32⟩
  | 70 => ⟨S_, .f32⟩
  | 71 => ⟨S4x4096x8, .f32⟩
  | 72 => ⟨S4x4096x8x1, .f32⟩
  | 73 => ⟨S_, .f32⟩
  | 74 => ⟨S4x4096x8x1, .f32⟩
  | 75 => ⟨S4x4096x8x1, .f32⟩
  | 76 => ⟨S_, .f32⟩
  | 77 => ⟨S4x4096x8x1, .f32⟩
  | 78 => ⟨S4x4096x8x1, .f32⟩
  | 79 => ⟨S4x4096x8x1, .f32⟩
  | 80 => ⟨S4x4096x8x128, .f32⟩
  | 81 => ⟨S4x4096x8x128, .f32⟩
  | 82 => ⟨S1x1x1x128, .f32⟩
  | 83 => ⟨S4x4096x8x128, .f32⟩
  | 84 => ⟨S4x4096x8x128, .f32⟩
  | 85 => ⟨S4x4096x8x64, .f32⟩
  | 86 => ⟨S4096x1x32, .f32⟩
  | 87 => ⟨S4096x1x32, .f32⟩
  | 88 => ⟨S4x4096x8x32, .f32⟩
  | 89 => ⟨S4x4096x8x32, .f32⟩
  | 90 => ⟨S1x4096x1x32, .f32⟩
  | 91 => ⟨S4x4096x8x32, .f32⟩
  | 92 => ⟨S4x4096x8x32, .f32⟩
  | 93 => ⟨S1x4096x1x32, .f32⟩
  | 94 => ⟨S4x4096x8x32, .f32⟩
  | 95 => ⟨S4x4096x8x32, .f32⟩
  | 96 => ⟨S4x4096x8x32, .f32⟩
  | 97 => ⟨S1x4096x1x32, .f32⟩
  | 98 => ⟨S4x4096x8x32, .f32⟩
  | 99 => ⟨S4x4096x8x32, .f32⟩
  | 100 => ⟨S1x4096x1x32, .f32⟩
  | 101 => ⟨S4x4096x8x32, .f32⟩
  | 102 => ⟨S4x4096x8x32, .f32⟩
  | 103 => ⟨S4x4096x8x32, .f32⟩
  | 104 => ⟨S4x4096x8x64, .f32⟩
  | 105 => ⟨S4x4096x8x64, .f32⟩
  | 106 => ⟨S4096x1x32, .f32⟩
  | 107 => ⟨S4096x1x32, .f32⟩
  | 108 => ⟨S4x4096x8x32, .f32⟩
  | 109 => ⟨S4x4096x8x32, .f32⟩
  | 110 => ⟨S1x4096x1x32, .f32⟩
  | 111 => ⟨S4x4096x8x32, .f32⟩
  | 112 => ⟨S4x4096x8x32, .f32⟩
  | 113 => ⟨S1x4096x1x32, .f32⟩
  | 114 => ⟨S4x4096x8x32, .f32⟩
  | 115 => ⟨S4x4096x8x32, .f32⟩
  | 116 => ⟨S4x4096x8x32, .f32⟩
  | 117 => ⟨S1x4096x1x32, .f32⟩
  | 118 => ⟨S4x4096x8x32, .f32⟩
  | 119 => ⟨S4x4096x8x32, .f32⟩
  | 120 => ⟨S1x4096x1x32, .f32⟩
  | 121 => ⟨S4x4096x8x32, .f32⟩
  | 122 => ⟨S4x4096x8x32, .f32⟩
  | 123 => ⟨S4x4096x8x32, .f32⟩
  | 124 => ⟨S4x4096x8x64, .f32⟩
  | 125 => ⟨S4x4096x8x128, .f32⟩
  | 126 => ⟨S_, .f32⟩
  | 127 => ⟨S4x4096x8x128, .f32⟩
  | _ => ⟨S4x4096x2048, .f32⟩

abbrev hbmTy0_1 (i : Nat) : BufTy := match i % 128 with
  | 0 => ⟨S4x4096x8x128, .f32⟩
  | 1 => ⟨S4x4096x2x128, .f32⟩
  | 2 => ⟨S4x4096x2x128, .f32⟩
  | 3 => ⟨S_, .f32⟩
  | 4 => ⟨S4x4096x2, .f32⟩
  | 5 => ⟨S4x4096x2x1, .f32⟩
  | 6 => ⟨S_, .f32⟩
  | 7 => ⟨S4x4096x2x1, .f32⟩
  | 8 => ⟨S4x4096x2x1, .f32⟩
  | 9 => ⟨S_, .f32⟩
  | 10 => ⟨S4x4096x2x1, .f32⟩
  | 11 => ⟨S4x4096x2x1, .f32⟩
  | 12 => ⟨S4x4096x2x1, .f32⟩
  | 13 => ⟨S4x4096x2x128, .f32⟩
  | 14 => ⟨S4x4096x2x128, .f32⟩
  | 15 => ⟨S1x1x1x128, .f32⟩
  | 16 => ⟨S4x4096x2x128, .f32⟩
  | 17 => ⟨S4x4096x2x128, .f32⟩
  | 18 => ⟨S4x4096x2x64, .f32⟩
  | 19 => ⟨S4096x1x32, .f32⟩
  | 20 => ⟨S4096x1x32, .f32⟩
  | 21 => ⟨S4x4096x2x32, .f32⟩
  | 22 => ⟨S4x4096x2x32, .f32⟩
  | 23 => ⟨S1x4096x1x32, .f32⟩
  | 24 => ⟨S4x4096x2x32, .f32⟩
  | 25 => ⟨S4x4096x2x32, .f32⟩
  | 26 => ⟨S1x4096x1x32, .f32⟩
  | 27 => ⟨S4x4096x2x32, .f32⟩
  | 28 => ⟨S4x4096x2x32, .f32⟩
  | 29 => ⟨S4x4096x2x32, .f32⟩
  | 30 => ⟨S1x4096x1x32, .f32⟩
  | 31 => ⟨S4x4096x2x32, .f32⟩
  | 32 => ⟨S4x4096x2x32, .f32⟩
  | 33 => ⟨S1x4096x1x32, .f32⟩
  | 34 => ⟨S4x4096x2x32, .f32⟩
  | 35 => ⟨S4x4096x2x32, .f32⟩
  | 36 => ⟨S4x4096x2x32, .f32⟩
  | 37 => ⟨S4x4096x2x64, .f32⟩
  | 38 => ⟨S4x4096x2x64, .f32⟩
  | 39 => ⟨S4096x1x32, .f32⟩
  | 40 => ⟨S4096x1x32, .f32⟩
  | 41 => ⟨S4x4096x2x32, .f32⟩
  | 42 => ⟨S4x4096x2x32, .f32⟩
  | 43 => ⟨S1x4096x1x32, .f32⟩
  | 44 => ⟨S4x4096x2x32, .f32⟩
  | 45 => ⟨S4x4096x2x32, .f32⟩
  | 46 => ⟨S1x4096x1x32, .f32⟩
  | 47 => ⟨S4x4096x2x32, .f32⟩
  | 48 => ⟨S4x4096x2x32, .f32⟩
  | 49 => ⟨S4x4096x2x32, .f32⟩
  | 50 => ⟨S1x4096x1x32, .f32⟩
  | 51 => ⟨S4x4096x2x32, .f32⟩
  | 52 => ⟨S4x4096x2x32, .f32⟩
  | 53 => ⟨S1x4096x1x32, .f32⟩
  | 54 => ⟨S4x4096x2x32, .f32⟩
  | 55 => ⟨S4x4096x2x32, .f32⟩
  | 56 => ⟨S4x4096x2x32, .f32⟩
  | 57 => ⟨S4x4096x2x64, .f32⟩
  | 58 => ⟨S4x4096x2x128, .f32⟩
  | 59 => ⟨S4x4096x512, .f32⟩
  | 60 => ⟨S1x1x512, .f32⟩
  | 61 => ⟨S4x4096x512, .f32⟩
  | 62 => ⟨S4x4096x512, .f32⟩
  | 63 => ⟨S4x4096x512, .f32⟩
  | 64 => ⟨S_, .f32⟩
  | 65 => ⟨S4x4096x512, .f32⟩
  | 66 => ⟨S4x4096x512, .f32⟩
  | 67 => ⟨S4x4096x512, .f32⟩
  | 68 => ⟨S4x4096x512, .f32⟩
  | 69 => ⟨S4x4096x512, .i1⟩
  | 70 => ⟨S4x4096x512, .f32⟩
  | 71 => ⟨S4x4096x512, .f32⟩
  | 72 => ⟨S4x4096x512, .f32⟩
  | 73 => ⟨S4x4096x512, .f32⟩
  | 74 => ⟨S4x4096x512, .f32⟩
  | 75 => ⟨S4x4096x512, .f32⟩
  | 76 => ⟨S4x4096x512, .f32⟩
  | 77 => ⟨S4x4096x512, .f32⟩
  | 78 => ⟨S4x4096x512, .f32⟩
  | 79 => ⟨S_, .f32⟩
  | 80 => ⟨S4x4096x512, .f32⟩
  | 81 => ⟨S4x4096x512, .f32⟩
  | 82 => ⟨S4x4096x512, .f32⟩
  | 83 => ⟨S1x1x512, .f32⟩
  | 84 => ⟨S4x4096x512, .f32⟩
  | 85 => ⟨S4x4096x512, .f32⟩
  | 86 => ⟨S4x4096x512, .f32⟩
  | 87 => ⟨S_, .f32⟩
  | 88 => ⟨S4x4096x512, .f32⟩
  | 89 => ⟨S4x4096x512, .f32⟩
  | 90 => ⟨S4x4096x512, .f32⟩
  | 91 => ⟨S4x4096x512, .f32⟩
  | 92 => ⟨S4x4096x512, .i1⟩
  | 93 => ⟨S4x4096x512, .f32⟩
  | 94 => ⟨S4x4096x512, .f32⟩
  | 95 => ⟨S4x4096x512, .f32⟩
  | 96 => ⟨S4x4096x512, .f32⟩
  | 97 => ⟨S4x4096x512, .f32⟩
  | 98 => ⟨S4x4096x512, .f32⟩
  | 99 => ⟨S4x4096x512, .f32⟩
  | 100 => ⟨S4x4096x512, .f32⟩
  | 101 => ⟨S4x4096x512, .f32⟩
  | 102 => ⟨S_, .f32⟩
  | 103 => ⟨S4x4096x512, .f32⟩
  | 104 => ⟨S4x4096x512, .f32⟩
  | 105 => ⟨S16384x1024, .f32⟩
  | 106 => ⟨S16384x1024, .bf16⟩
  | 107 => ⟨S16384x256, .f32⟩
  | 108 => ⟨S16384x256, .bf16⟩
  | 109 => ⟨S16384x256, .f32⟩
  | 110 => ⟨S16384x256, .bf16⟩
  | 111 => ⟨S_, .f32⟩
  | 112 => ⟨S4x4096x512, .f32⟩
  | 113 => ⟨S4x4096x512, .f32⟩
  | 114 => ⟨S16384x512, .f32⟩
  | 115 => ⟨S16384x512, .bf16⟩
  | 116 => ⟨S16384x512, .f32⟩
  | 117 => ⟨S16384x512, .bf16⟩
  | 118 => ⟨S16384x1024, .f32⟩
  | 119 => ⟨S16384x1024, .bf16⟩
  | 120 => ⟨S4x4096x1024, .f32⟩
  | 121 => ⟨S4x4096x1024, .f32⟩
  | 122 => ⟨S_, .f32⟩
  | 123 => ⟨S4x4096x1024, .f32⟩
  | 124 => ⟨S4x4096x1024, .f32⟩
  | 125 => ⟨S_, .f32⟩
  | 126 => ⟨S4x4096x1024, .f32⟩
  | 127 => ⟨S4x4096x1024, .f32⟩
  | _ => ⟨S4x4096x2048, .f32⟩

abbrev hbmTy0_2 (i : Nat) : BufTy := match i % 128 with
  | 0 => ⟨S4x4096x1024, .f32⟩
  | 1 => ⟨S16384x1024, .f32⟩
  | 2 => ⟨S16384x1024, .bf16⟩
  | 3 => ⟨S16384x512, .f32⟩
  | 4 => ⟨S16384x512, .f32⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_cst_4 : Ref sig .tc := ⟨.hbm, 46, rfl⟩
abbrev main_v32 : Ref sig .tc := ⟨.hbm, 47, rfl⟩
abbrev main_v33 : Ref sig .tc := ⟨.hbm, 48, rfl⟩
abbrev main_cst_5 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_6 : Ref sig .tc := ⟨.hbm, 70, rfl⟩
abbrev main_v54 : Ref sig .tc := ⟨.hbm, 71, rfl⟩
abbrev main_v55 : Ref sig .tc := ⟨.hbm, 72, rfl⟩
abbrev main_cst_7 : Ref sig .tc := ⟨.hbm, 73, rfl⟩
abbrev main_v56 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_9 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_cst_10 : Ref sig .tc := ⟨.hbm, 131, rfl⟩
abbrev main_v111 : Ref sig .tc := ⟨.hbm, 132, rfl⟩
abbrev main_v112 : Ref sig .tc := ⟨.hbm, 133, rfl⟩
abbrev main_cst_11 : Ref sig .tc := ⟨.hbm, 134, rfl⟩
abbrev main_v113 : Ref sig .tc := ⟨.hbm, 135, rfl⟩
abbrev main_v114 : Ref sig .tc := ⟨.hbm, 136, rfl⟩
abbrev main_cst_12 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_v148 : Ref sig .tc := ⟨.hbm, 171, rfl⟩
abbrev main_v149 : Ref sig .tc := ⟨.hbm, 172, rfl⟩
abbrev main_v150 : Ref sig .tc := ⟨.hbm, 173, rfl⟩
abbrev main_v151 : Ref sig .tc := ⟨.hbm, 174, rfl⟩
abbrev main_v152 : Ref sig .tc := ⟨.hbm, 175, rfl⟩
abbrev main_v153 : Ref sig .tc := ⟨.hbm, 176, rfl⟩
abbrev main_v154 : Ref sig .tc := ⟨.hbm, 177, rfl⟩
abbrev main_v155 : Ref sig .tc := ⟨.hbm, 178, rfl⟩
abbrev main_v156 : Ref sig .tc := ⟨.hbm, 179, rfl⟩
abbrev main_v157 : Ref sig .tc := ⟨.hbm, 180, rfl⟩
abbrev main_v158 : Ref sig .tc := ⟨.hbm, 181, rfl⟩
abbrev main_v159 : Ref sig .tc := ⟨.hbm, 182, rfl⟩
abbrev main_v160 : Ref sig .tc := ⟨.hbm, 183, rfl⟩
abbrev main_v161 : Ref sig .tc := ⟨.hbm, 184, rfl⟩
abbrev main_v162 : Ref sig .tc := ⟨.hbm, 185, rfl⟩
abbrev main_v163 : Ref sig .tc := ⟨.hbm, 186, rfl⟩
abbrev main_v164 : Ref sig .tc := ⟨.hbm, 187, rfl⟩
abbrev main_v165 : Ref sig .tc := ⟨.hbm, 188, rfl⟩
abbrev main_v166 : Ref sig .tc := ⟨.hbm, 189, rfl⟩
abbrev main_v167 : Ref sig .tc := ⟨.hbm, 190, rfl⟩
abbrev main_call0_v0 : Ref sig .tc := ⟨.hbm, 191, rfl⟩
abbrev main_call0_call0_cst : Ref sig .tc := ⟨.hbm, 192, rfl⟩
abbrev main_call0_call0_v0 : Ref sig .tc := ⟨.hbm, 193, rfl⟩
abbrev main_call0_call0_v1 : Ref sig .tc := ⟨.hbm, 194, rfl⟩
abbrev main_call0_call0_v2 : Ref sig .tc := ⟨.hbm, 195, rfl⟩
abbrev main_call0_call0_v3 : Ref sig .tc := ⟨.hbm, 196, rfl⟩
abbrev main_call0_call0_v4 : Ref sig .tc := ⟨.hbm, 197, rfl⟩
abbrev main_call0_call0_v5 : Ref sig .tc := ⟨.hbm, 198, rfl⟩
abbrev main_call0_call0_v6 : Ref sig .tc := ⟨.hbm, 199, rfl⟩
abbrev main_call0_call0_v7 : Ref sig .tc := ⟨.hbm, 200, rfl⟩
abbrev main_call0_call0_v8 : Ref sig .tc := ⟨.hbm, 201, rfl⟩
abbrev main_call0_call0_v9 : Ref sig .tc := ⟨.hbm, 202, rfl⟩
abbrev main_call0_call0_v10 : Ref sig .tc := ⟨.hbm, 203, rfl⟩
abbrev main_call0_call0_v11 : Ref sig .tc := ⟨.hbm, 204, rfl⟩
abbrev main_call0_v1 : Ref sig .tc := ⟨.hbm, 205, rfl⟩
abbrev main_v168 : Ref sig .tc := ⟨.hbm, 206, rfl⟩
abbrev main_cst_13 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_call1_v0 : Ref sig .tc := ⟨.hbm, 214, rfl⟩
abbrev main_call1_call0_cst : Ref sig .tc := ⟨.hbm, 215, rfl⟩
abbrev main_call1_call0_v0 : Ref sig .tc := ⟨.hbm, 216, rfl⟩
abbrev main_call1_call0_v1 : Ref sig .tc := ⟨.hbm, 217, rfl⟩
abbrev main_call1_call0_v2 : Ref sig .tc := ⟨.hbm, 218, rfl⟩
abbrev main_call1_call0_v3 : Ref sig .tc := ⟨.hbm, 219, rfl⟩
abbrev main_call1_call0_v4 : Ref sig .tc := ⟨.hbm, 220, rfl⟩
abbrev main_call1_call0_v5 : Ref sig .tc := ⟨.hbm, 221, rfl⟩
abbrev main_call1_call0_v6 : Ref sig .tc := ⟨.hbm, 222, rfl⟩
abbrev main_call1_call0_v7 : Ref sig .tc := ⟨.hbm, 223, rfl⟩
abbrev main_call1_call0_v8 : Ref sig .tc := ⟨.hbm, 224, rfl⟩
abbrev main_call1_call0_v9 : Ref sig .tc := ⟨.hbm, 225, rfl⟩
abbrev main_call1_call0_v10 : Ref sig .tc := ⟨.hbm, 226, rfl⟩
abbrev main_call1_call0_v11 : Ref sig .tc := ⟨.hbm, 227, rfl⟩
abbrev main_call1_v1 : Ref sig .tc := ⟨.hbm, 228, rfl⟩
abbrev main_v175 : Ref sig .tc := ⟨.hbm, 229, rfl⟩
abbrev main_cst_14 : Ref sig .tc := ⟨.hbm, 230, rfl⟩
abbrev main_v176 : Ref sig .tc := ⟨.hbm, 231, rfl⟩
abbrev main_v177 : Ref sig .tc := ⟨.hbm, 232, rfl⟩
abbrev main_v178 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_cst_15 : Ref sig .tc := ⟨.hbm, 239, rfl⟩
abbrev main_v184 : Ref sig .tc := ⟨.hbm, 240, rfl⟩
abbrev main_v185 : Ref sig .tc := ⟨.hbm, 241, rfl⟩
abbrev main_v186 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_cst_16 : Ref sig .tc := ⟨.hbm, 250, rfl⟩
abbrev main_v194 : Ref sig .tc := ⟨.hbm, 251, rfl⟩
abbrev main_v195 : Ref sig .tc := ⟨.hbm, 252, rfl⟩
abbrev main_cst_17 : Ref sig .tc := ⟨.hbm, 253, rfl⟩
abbrev main_v196 : Ref sig .tc := ⟨.hbm, 254, rfl⟩
abbrev main_v197 : Ref sig .tc := ⟨.hbm, 255, rfl⟩
abbrev main_v198 : Ref sig .tc := ⟨.hbm, 256, rfl⟩
abbrev main_v199 : Ref sig .tc := ⟨.hbm, 257, rfl⟩
abbrev main_v200 : Ref sig .tc := ⟨.hbm, 258, rfl⟩
abbrev main_v201 : Ref sig .tc := ⟨.hbm, 259, rfl⟩
abbrev main_v202 : Ref sig .tc := ⟨.hbm, 260, rfl⟩

abbrev nD : Nat := 1
abbrev τ : Topo := Topo.v7x

variable {F : FTy → Type} [FloatOps F]
-- ==== Proof.AttnMath.lean ====
/- The online softmax over the extended reals: sums kept relative to a running maximum and rescaled whenever it moves
   are the sums relative to the last maximum, and a softmax does not depend on what its exponents are relative to. -/
module

public import Idealize.ShloMosaic.PureOps
public import Idealize.ShloMosaic.Lib.IdealHost
public import Idealize.ShloMosaic.Lib.Pointwise

@[expose] public section

noncomputable section

namespace Cert.Attn

open Idealize.ShloMosaic

/-- A nonnegative real times a finite sum, whatever the terms. -/
theorem coe_mul_sum {ι : Type*} (s : Finset ι) {a : ℝ} (ha : 0 ≤ a) (f : ι → EReal) :
    (a : EReal) * ∑ i ∈ s, f i = ∑ i ∈ s, (a : EReal) * f i := by
  classical
  induction s using Finset.induction_on with
  | empty => simp
  | insert i s hi ih =>
    rw [Finset.sum_insert hi, Finset.sum_insert hi, ← ih]
    exact EReal.left_distrib_of_nonneg_of_ne_top (by exact_mod_cast ha) (EReal.coe_ne_top a) _ _

theorem coe_sum {ι : Type*} (s : Finset ι) (f : ι → ℝ) :
    ∑ i ∈ s, (f i : EReal) = ((∑ i ∈ s, f i : ℝ) : EReal) := by
  classical
  induction s using Finset.induction_on with
  | empty => simp
  | insert i s hi ih => rw [Finset.sum_insert hi, Finset.sum_insert hi, ih, EReal.coe_add]

/-- The word `0xFF800000` is minus infinity. -/
theorem negInf : Ideal.ofBits .f32 4286578688#32 = ⊥ := by simp [Ideal.ofBits, Ideal.ieee]

/-- The word `0x7F800000` is plus infinity. -/
theorem posInf : Ideal.ofBits .f32 2139095040#32 = ⊤ := by simp [Ideal.ofBits, Ideal.ieee]

/-- An extended real that is neither infinity is real. -/
theorem real_of {x : EReal} (h : x ≠ ⊥) (h' : x ≠ ⊤) : ∃ r : ℝ, x = r := ⟨x.toReal, (EReal.coe_toReal h' h).symm⟩

/-- A maximum of reals, taken from minus infinity, is real. -/
theorem fold_real {ι : Type*} [Fintype ι] [Nonempty ι] (f : ι → EReal) (hf : ∀ i, ∃ r : ℝ, f i = r) :
    ∃ r : ℝ, Finset.univ.fold max ⊥ f = r := by
  apply real_of
  · have h : ⊥ < Finset.univ.fold max ⊥ f := by
      rw [Finset.lt_fold_max]
      obtain ⟨i⟩ := ‹Nonempty ι›
      obtain ⟨r, hr⟩ := hf i
      exact Or.inr ⟨i, Finset.mem_univ _, hr ▸ EReal.bot_lt_coe r⟩
    exact h.ne'
  · have h : Finset.univ.fold max ⊥ f < ⊤ := by
      rw [Finset.fold_max_lt]
      refine ⟨bot_lt_top, fun i _ => ?_⟩
      obtain ⟨r, hr⟩ := hf i
      exact hr ▸ EReal.coe_lt_top r
    exact h.ne

/-- So is the host's maximum of an array of reals along one axis. -/
theorem reduce_real {s t u : Shape} {a : Fin s.rank} (x : FVec Ideal s .f32) (init : FVec Ideal u .f32)
    (h' : s.ReducesTo [a] t) (h : s.Reduces [a] t) (hu : 0 < u.numel) (hn : 0 < s.size a)
    (hi : ∀ i, init i = (⊥ : EReal)) (hx : ∀ i, ∃ r : ℝ, x i = (r : EReal)) (j : t.Idx) :
    ∃ r : ℝ, Host.reduce FloatOps.maximumf x init h' hu j = (r : EReal) := by
  haveI : Nonempty (Fin (s.size a)) := ⟨⟨0, hn⟩⟩
  rw [Host.reduce_eq_fold_single _ x init h' h hu j, hi]
  exact fold_real (x ∘ h.lift j) fun i => hx _

/-- The larger of a real and of a real or minus infinity is real. -/
theorem max_real {x y : EReal} (hx : x = ⊥ ∨ ∃ r : ℝ, x = r) (hy : ∃ r : ℝ, y = r) : ∃ r : ℝ, max x y = r := by
  obtain ⟨b, rfl⟩ := hy
  rcases hx with rfl | ⟨a, rfl⟩
  · exact ⟨b, max_eq_right bot_le⟩
  · exact ⟨max a b, (EReal.coe_strictMono.monotone.map_max).symm⟩

/-- Sums kept relative to a running maximum `m n`, rescaled by `2^(m n - m (n+1))` at each step, are the sums relative
    to the last one: the maximum starts at minus infinity and is real after that. -/
theorem online {ι : Type*} [Fintype ι] (s : ℕ → ι → ℝ) (v : ℕ → ι → EReal) (m a : ℕ → EReal) (μ : ℕ → ℝ)
    (hm : ∀ n, m (n + 1) = μ n) (h0 : a 0 = 0)
    (hs : ∀ n, a (n + 1) = Ideal.exp2 (m n - m (n + 1)) * a n + ∑ k, v n k * Ideal.exp2 ((s n k : EReal) - m (n + 1)))
    (n : ℕ) :
    a (n + 1) = ∑ c ∈ Finset.range (n + 1), ∑ k, v c k * ((Real.rpow 2 (s c k - μ n) : ℝ) : EReal) := by
  induction n with
  | zero =>
    rw [hs 0, h0, mul_zero, zero_add, Finset.sum_range_one, hm 0]
    exact Finset.sum_congr rfl fun k _ => by rw [← EReal.coe_sub, Ideal.exp2_coe]
  | succ n ih =>
    rw [hs (n + 1), ih, hm n, hm (n + 1), Finset.sum_range_succ _ (n + 1), ← EReal.coe_sub, Ideal.exp2_coe,
      coe_mul_sum _ (show 0 ≤ Real.rpow 2 (μ n - μ (n + 1)) from Real.rpow_nonneg (by norm_num) _)]
    congr 1
    · refine Finset.sum_congr rfl fun c _ => ?_
      rw [coe_mul_sum _ (show 0 ≤ Real.rpow 2 (μ n - μ (n + 1)) from Real.rpow_nonneg (by norm_num) _)]
      refine Finset.sum_congr rfl fun k _ => ?_
      rw [mul_left_comm, ← EReal.coe_mul]
      congr 2
      show (2 : ℝ) ^ (μ n - μ (n + 1)) * (2 : ℝ) ^ (s c k - μ n) = (2 : ℝ) ^ (s c k - μ (n + 1))
      rw [← Real.rpow_add (by norm_num)]
      congr 1; ring

/-- The softmax of real scores over `ι`. -/
def wt {ι : Type*} [Fintype ι] (x : ι → ℝ) (i : ι) : ℝ := Real.exp (x i) / ∑ j, Real.exp (x j)

/-- Weights `2^(y - μ)` over their sum, with scores `y = x / log 2`, are the softmax of `x`. -/
theorem two_wt {ι : Type*} [Fintype ι] [Nonempty ι] (x y : ι → ℝ) (μ : ℝ) (h : ∀ i, y i * Real.log 2 = x i) (i : ι) :
    Real.rpow 2 (y i - μ) * (1 / ∑ j, Real.rpow 2 (y j - μ)) = wt x i := by
  have e (j : ι) : Real.rpow 2 (y j - μ) = Real.exp (x j) * Real.exp (-(μ * Real.log 2)) := by
    show (2 : ℝ) ^ (y j - μ) = _
    rw [Real.rpow_def_of_pos (by norm_num), ← Real.exp_add, ← h j]
    congr 1; ring
  simp only [e]
  rw [← Finset.sum_mul, wt]
  have h1 : (∑ j, Real.exp (x j)) ≠ 0 := (Finset.sum_pos (fun j _ => Real.exp_pos _) Finset.univ_nonempty).ne'
  have h2 := (Real.exp_pos (-(μ * Real.log 2))).ne'
  field_simp

/-- Weights `exp (x - M)` over their sum are the softmax of `x`. -/
theorem exp_wt {ι : Type*} [Fintype ι] [Nonempty ι] (x : ι → ℝ) (M : ℝ) (i : ι) :
    Real.exp (x i - M) * (1 / ∑ j, Real.exp (x j - M)) = wt x i := by
  simp only [sub_eq_add_neg, Real.exp_add]
  rw [← Finset.sum_mul, wt]
  have h1 : (∑ j, Real.exp (x j)) ≠ 0 := (Finset.sum_pos (fun j _ => Real.exp_pos _) Finset.univ_nonempty).ne'
  have h2 := (Real.exp_pos (-M)).ne'
  field_simp

/-- The quotient of the two sums of the kernel is the softmax's mean of the values. -/
theorem quot {ι : Type*} [Fintype ι] [Nonempty ι] (x y : ι → ℝ) (v : ι → EReal) (μ : ℝ)
    (h : ∀ i, y i * Real.log 2 = x i) :
    Ideal.div (∑ i, v i * ((Real.rpow 2 (y i - μ) : ℝ) : EReal))
        (∑ i, 1 * ((Real.rpow 2 (y i - μ) : ℝ) : EReal))
      = ∑ i, (wt x i : EReal) * v i := by
  simp only [one_mul]
  have hp : 0 < ∑ i, Real.rpow 2 (y i - μ) :=
    Finset.sum_pos (fun j _ => Real.rpow_pos_of_pos (by norm_num) _) Finset.univ_nonempty
  rw [coe_sum, Ideal.div_coe hp.ne', mul_comm, coe_mul_sum _ (by positivity)]
  refine Finset.sum_congr rfl fun i _ => ?_
  rw [← two_wt x y μ h i, EReal.coe_mul, mul_comm _ ((1 / _ : ℝ) : EReal), mul_assoc, mul_comm (v i)]

/-- The quotient the reference takes, exponentials relative to any real. -/
theorem ref_wt {ι : Type*} [Fintype ι] [Nonempty ι] (x : ι → ℝ) (M : ℝ) (i : ι) :
    Ideal.div (Ideal.exp ((x i : EReal) - (M : EReal))) (∑ j, Ideal.exp ((x j : EReal) - (M : EReal))) = (wt x i : EReal) := by
  have hp : 0 < ∑ j, Real.exp (x j - M) := Finset.sum_pos (fun j _ => Real.exp_pos _) Finset.univ_nonempty
  simp only [← EReal.coe_sub, Ideal.exp_coe]
  rw [coe_sum, Ideal.div_coe hp.ne', ← EReal.coe_mul, exp_wt]

end Cert.Attn

end
-- ==== Proof.AttnPre.lean ====
/- What the precondition says of the arrays: every query and every key is a real number. -/
module
public import proofs.«01_k».proof.Pre_finite_queries_and_keys
public import proofs.«01_k».proof.Proof.AttnMath
public import Idealize.ShloMosaic.Lib.Pointwise
@[expose] public section
noncomputable section
namespace Cert.Attn
open Idealize.ShloMosaic
open Cert.Pre_finite_queries_and_keys

theorem preFacts : Cert.Pre_finite_queries_and_keys.Facts where
  bcast_S_S4x4096x8x128 := by decide
  bcast_S_S4x4096x2x128 := by decide

/-- An extended real whose absolute value is below infinity is real. -/
theorem real_of_abs (x : EReal) (h : BitVec.ofBool (decide ((FloatOps.absf (F := Ideal) (φ := .f32) x : EReal) < ⊤)) = 1#1) :
    ∃ r : ℝ, x = (r : EReal) := by
  have h : (max x (-x) : EReal) < ⊤ := by
    by_contra hc
    have : (decide ((FloatOps.absf (F := Ideal) (φ := .f32) x : EReal) < ⊤)) = false := decide_eq_false hc
    rw [this] at h
    exact absurd h (by decide)
  refine real_of (fun e => ?_) fun e => ?_
  · subst e; simp at h
  · subst e; simp at h

theorem pre_queries [Facts] (x0 : FVec Ideal S4x4096x8x128 .f32) (x1 x2 : FVec Ideal S4x4096x2x128 .f32)
    (h : (fn (F := Ideal) x0 x1 x2).1 = fun _ => 1#1) (i : S4x4096x8x128.Idx) : ∃ r : ℝ, x0 i = (r : EReal) := by
  have h := congrFun h i
  pointwise [fn] at h
  rw [posInf] at h
  exact real_of_abs _ h

theorem pre_keys [Facts] (x0 : FVec Ideal S4x4096x8x128 .f32) (x1 x2 : FVec Ideal S4x4096x2x128 .f32)
    (h : (fn (F := Ideal) x0 x1 x2).2 = fun _ => 1#1) (i : S4x4096x2x128.Idx) : ∃ r : ℝ, x1 i = (r : EReal) := by
  have h := congrFun h i
  pointwise [fn] at h
  rw [posInf] at h
  exact real_of_abs _ h

end Cert.Attn
end
-- ==== Proof.AttnSpec.lean ====
/- What one grid point of the attention kernel computes, as plain functions of the three blocks it reads: the scores
   of a chunk of keys, the running maximum after a number of chunks, and the running sums after a number of chunks. -/
module

public import proofs.«01_k».proof.Proof.Gen.KernelIdeal.Skeleton
public import proofs.«01_k».proof.Proof.Gen.KernelIdeal.Frame.Runs
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

variable {F : FTy → Type} [FloatOps F]

theorem kch_inb (c : ℕ) : ∀ a, (![512 * (c % 8), 0] : Fin 2 → ℕ) a + S512x128.size a ≤ S4096x128.size a := by
  intro a; have := Nat.mod_lt c (show 0 < 8 by omega)
  fin_cases a
  · show 512 * (c % 8) + 512 ≤ 4096; omega
  · show 0 + 128 ≤ 128; omega

theorem vch_inb (c : ℕ) : ∀ a, (![0, c % 8, 0, 0] : Fin 4 → ℕ) a + S1x1x144x512.size a ≤ S1x8x144x512.size a := by
  intro a; have := Nat.mod_lt c (show 0 < 8 by omega)
  fin_cases a
  · show 0 + 1 ≤ 1; omega
  · show c % 8 + 1 ≤ 8; omega
  · show 0 + 144 ≤ 144; omega
  · show 0 + 512 ≤ 512; omega

theorem qh_inb (g : Fin 4) : ∀ a, (![0, 128 * g.val] : Fin 2 → ℕ) a + S1024x128.size a ≤ S1024x512.size a := by
  intro a; have := g.isLt
  fin_cases a
  · show 0 + 1024 ≤ 1024; omega
  · show 128 * g.val + 128 ≤ 512; omega

/-- Chunk `c` of the keys: 512 rows of the key block. -/
def kch (x1 : Vec F S4096x128 .bf16) (c : ℕ) : Vec F S512x128 .bf16 :=
  View.ld x1 (Rect.unit (s := S4096x128) ![512 * (c % 8), 0] S512x128.size (kch_inb c))

/-- Chunk `c` of the transposed values: 144 rows of 512 columns. -/
def vch (x2 : Vec F S1x8x144x512 .bf16) (c : ℕ) : Vec F S1x1x144x512 .bf16 :=
  View.ld x2 (Rect.unit (s := S1x8x144x512) ![0, c % 8, 0, 0] S1x1x144x512.size (vch_inb c))

/-- The queries of head `g` of the group: 128 columns of the query block. -/
def qh (x0 : Vec F S1024x512 .bf16) (g : Fin 4) : Vec F S1024x128 .bf16 :=
  View.ld x0 (Rect.unit (s := S1024x512) ![0, 128 * g.val] S1024x128.size (qh_inb g))

/-- The scores of chunk `c` for head `g`. -/
def scB (x0 : Vec F S1024x512 .bf16) (x1 : Vec F S4096x128 .bf16) (g : Fin 4) (c : ℕ) : FVec F S1x512x1024 .f32 :=
  k0_pay7 (kch x1 c) (qh x0 g)

/-- The running maximum of head `g` over the first `n` chunks. -/
def mx (x0 : Vec F S1024x512 .bf16) (x1 : Vec F S4096x128 .bf16) (g : Fin 4) : ℕ → FVec F S1x1024 .f32
  | 0 => k0_pay44
  | n + 1 => k0_pay8 (mx x0 x1 g n) (kch x1 n) (qh x0 g)

/-- The zeros one head's sums start from. -/
def zer : FVec F S1x144x1024 .f32 := constant S1x144x1024 .f32 0x00000000#32

/-- The running sums of head `g` over the first `n` chunks: row `r` is `Σ v_r · 2^(score − maximum)`. -/
def ac (x0 : Vec F S1024x512 .bf16) (x1 : Vec F S4096x128 .bf16) (x2 : Vec F S1x8x144x512 .bf16) (g : Fin 4) :
    ℕ → FVec F S1x144x1024 .f32
  | 0 => zer
  | n + 1 => k0_pay19 (k0_pay18 (mx x0 x1 g n) (mx x0 x1 g (n + 1)) (k0_pay5 (vch x2 n)) (scB x0 x1 g n) (ac x0 x1 x2 g n))

/-- Row 128 of the sums, the denominators; -/
def den (a : FVec F S1x144x1024 .f32) : Vec F S1x1x1024 .f32 :=
  fun j => a (ix3 (0 : Fin 1) (128 : Fin 144) (j 2 : Fin 1024))

/-- and rows 0 to 127, the numerators. -/
def num (a : FVec F S1x144x1024 .f32) : Vec F S1x128x1024 .f32 :=
  fun j => a (ix3 (0 : Fin 1) (⟨(j 1).val, Nat.lt_of_lt_of_le (j 1).isLt (by decide)⟩ : Fin 144) (j 2 : Fin 1024))

/-- The block of results of head `g`: 1024 rows of 128 columns. -/
def outH (x0 : Vec F S1024x512 .bf16) (x1 : Vec F S4096x128 .bf16) (x2 : Vec F S1x8x144x512 .bf16) (g : Fin 4) :
    FVec F S1024x128 .bf16 :=
  k0_pay2 (den (ac x0 x1 x2 g 8)) (num (ac x0 x1 x2 g 8))

/-- The whole block of results: head `g` in columns `128 g` to `128 g + 127`. -/
def outB (x0 : Vec F S1024x512 .bf16) (x1 : Vec F S4096x128 .bf16) (x2 : Vec F S1x8x144x512 .bf16) :
    Vec F S1024x512 .bf16 :=
  fun y => outH x0 x1 x2 (⟨(y 1).val / 128, Nat.div_lt_of_lt_mul (y 1).isLt⟩ : Fin 4)
    (ix2 (y 0 : Fin 1024) (⟨(y 1).val % 128, Nat.mod_lt _ (by decide)⟩ : Fin 128))

/-! ## Loads -/

section Loads
variable {sig : RefSig} {κ : Kind} {sp : Space} {s : Shape} {e : EltTy} (v : View sig κ sp s e) (f : v.ty.Contents (Elt F))

/-- A load of the box last stored reads what was stored; -/
theorem rd_same (r : Rect s) (w : r.shape.Idx → Elt F e) (L : List (View.Piece (Elt F) s e)) :
    v.readAt (Elt F) r.toLoadRect (v.writes (Elt F) f (⟨r, w⟩ :: L)) = w :=
  funext fun j => View.read_writes_cons_emb v f r w L j

/-- of a box apart from it, what was there before. -/
theorem rd_skip (p : View.Piece (Elt F) s e) (L : List (View.Piece (Elt F) s e)) (B : LoadRect s)
    (h : Disjoint p.1.set B.set) :
    v.readAt (Elt F) B (v.writes (Elt F) f (p :: L)) = v.readAt (Elt F) B (v.writes (Elt F) f L) := by
  funext j
  have hy : B.idx j ∉ Finset.univ.map p.1.emb := by
    rw [Rect.map_emb_univ]; exact Finset.disjoint_right.mp h (B.idx_mem j)
  show v.read (Elt F) (v.writes (Elt F) f (p :: L)) (B.idx j) = v.read (Elt F) (v.writes (Elt F) f L) (B.idx j)
  rw [View.writes_cons, View.read_slice_write_of_not_mem p.1 _ _ _ hy]

/-- A load of part of the box last stored. -/
theorem rc_sub (r : Rect s) (w : r.shape.Idx → Elt F e) (L : List (View.Piece (Elt F) s e)) (B : LoadRect s)
    (φ : B.shape.Idx → r.shape.Idx) (h : ∀ j, B.idx j = r.emb (φ j)) :
    v.readCov (⟨r, w⟩ :: L) B = fun j => w (φ j) := by
  rw [View.readCov_eq_canon']
  funext j
  rw [h j]; exact View.canon_cons_emb r w L (φ j)

end Loads

/-- Boxes whose ranges on one axis are apart are disjoint. -/
theorem dj {S : Shape} (r r' : Rect S) (a : Fin S.rank) (hs : r.stride a = 1) (hs' : r'.stride a = 1)
    (hne : r.off a + r.size a ≤ r'.off a ∨ r'.off a + r'.size a ≤ r.off a) : Disjoint r.set r'.toLoadRect.set := by
  rw [Finset.disjoint_left]
  intro y hy hy'
  obtain ⟨u, hu, e⟩ := (LoadRect.mem_set _).mp (show y ∈ r.toLoadRect.set from hy) a
  obtain ⟨u', hu', e'⟩ := (LoadRect.mem_set _).mp hy' a
  change u < r.size a at hu
  change u' < r'.size a at hu'
  change (y a : ℕ) = r.off a + r.stride a * u at e
  change (y a : ℕ) = r'.off a + r'.stride a * u' at e'
  rw [hs] at e; rw [hs'] at e'; omega

end Cert.Attn

end
-- ==== Proof.AttnLoop.lean ====
/- The attention kernel's loop over pairs of key chunks, by an invariant that says what the scratch arrays hold: before
   trip `k` the first array of scores holds chunk `2k`, the sums and maxima are those over the first `2k` chunks, and
   the next maxima those over the first `2k + 1`. -/
module

public import proofs.«01_k».proof.Proof.AttnSpec

@[expose] public section

set_option maxRecDepth 16384
set_option maxHeartbeats 4000000

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable {U : Type} [RA.URA U]

local notation "𝕄" => MT nD τ sig Unit (Elt F) ℕ U ℕ

/-- The four heads' rows of a scratch array of scores read `w`. -/
def Sc (v : View sig .tc .vmem S4x512x1024 .f32) (f : v.ty.Contents (Elt F)) (w : Fin 4 → FVec F S1x512x1024 .f32) : Prop :=
  v.readAt (Elt F) (Rect.unit (s := S4x512x1024) ![0, 0, 0] S1x512x1024.size inb_S4x512x1024_S1x512x1024_0_0_0).toLoadRect f = w 0
  ∧ v.readAt (Elt F) (Rect.unit (s := S4x512x1024) ![1, 0, 0] S1x512x1024.size inb_S4x512x1024_S1x512x1024_1_0_0).toLoadRect f = w 1
  ∧ v.readAt (Elt F) (Rect.unit (s := S4x512x1024) ![2, 0, 0] S1x512x1024.size inb_S4x512x1024_S1x512x1024_2_0_0).toLoadRect f = w 2
  ∧ v.readAt (Elt F) (Rect.unit (s := S4x512x1024) ![3, 0, 0] S1x512x1024.size inb_S4x512x1024_S1x512x1024_3_0_0).toLoadRect f = w 3

/-- The four heads' rows of the scratch array of sums read `w`. -/
def Ac (v : View sig .tc .vmem S4x144x1024 .f32) (f : v.ty.Contents (Elt F)) (w : Fin 4 → FVec F S1x144x1024 .f32) : Prop :=
  v.readAt (Elt F) (Rect.unit (s := S4x144x1024) ![0, 0, 0] S1x144x1024.size inb_S4x144x1024_S1x144x1024_0_0_0).toLoadRect f = w 0
  ∧ v.readAt (Elt F) (Rect.unit (s := S4x144x1024) ![1, 0, 0] S1x144x1024.size inb_S4x144x1024_S1x144x1024_1_0_0).toLoadRect f = w 1
  ∧ v.readAt (Elt F) (Rect.unit (s := S4x144x1024) ![2, 0, 0] S1x144x1024.size inb_S4x144x1024_S1x144x1024_2_0_0).toLoadRect f = w 2
  ∧ v.readAt (Elt F) (Rect.unit (s := S4x144x1024) ![3, 0, 0] S1x144x1024.size inb_S4x144x1024_S1x144x1024_3_0_0).toLoadRect f = w 3

/-- Last written, head by head, in the order of the heads. -/
theorem Sc_writes (v : View sig .tc .vmem S4x512x1024 .f32) (f : v.ty.Contents (Elt F)) (w0 w1 w2 w3 : FVec F S1x512x1024 .f32)
    (L : List (View.Piece (Elt F) S4x512x1024 .f32)) (w : Fin 4 → FVec F S1x512x1024 .f32)
    (h0 : w0 = w 0) (h1 : w1 = w 1) (h2 : w2 = w 2) (h3 : w3 = w 3) :
    Sc v (v.writes (Elt F) f
      (⟨Rect.unit (s := S4x512x1024) ![3, 0, 0] S1x512x1024.size inb_S4x512x1024_S1x512x1024_3_0_0, w3⟩
        :: ⟨Rect.unit (s := S4x512x1024) ![2, 0, 0] S1x512x1024.size inb_S4x512x1024_S1x512x1024_2_0_0, w2⟩
        :: ⟨Rect.unit (s := S4x512x1024) ![1, 0, 0] S1x512x1024.size inb_S4x512x1024_S1x512x1024_1_0_0, w1⟩
        :: ⟨Rect.unit (s := S4x512x1024) ![0, 0, 0] S1x512x1024.size inb_S4x512x1024_S1x512x1024_0_0_0, w0⟩ :: L)) w := by
  subst h0 h1 h2 h3
  refine ⟨?_, ?_, ?_, ?_⟩
  · rw [rd_skip, rd_skip, rd_skip, rd_same] <;> exact dj _ _ 0 rfl rfl (Or.inr (Nat.le_of_ble_eq_true rfl))
  · rw [rd_skip, rd_skip, rd_same] <;> exact dj _ _ 0 rfl rfl (Or.inr (Nat.le_of_ble_eq_true rfl))
  · rw [rd_skip, rd_same]; exact dj _ _ 0 rfl rfl (Or.inr (Nat.le_of_ble_eq_true rfl))
  · rw [rd_same]

theorem Ac_writes (v : View sig .tc .vmem S4x144x1024 .f32) (f : v.ty.Contents (Elt F)) (w0 w1 w2 w3 : FVec F S1x144x1024 .f32)
    (L : List (View.Piece (Elt F) S4x144x1024 .f32)) (w : Fin 4 → FVec F S1x144x1024 .f32)
    (h0 : w0 = w 0) (h1 : w1 = w 1) (h2 : w2 = w 2) (h3 : w3 = w 3) :
    Ac v (v.writes (Elt F) f
      (⟨Rect.unit (s := S4x144x1024) ![3, 0, 0] S1x144x1024.size inb_S4x144x1024_S1x144x1024_3_0_0, w3⟩
        :: ⟨Rect.unit (s := S4x144x1024) ![2, 0, 0] S1x144x1024.size inb_S4x144x1024_S1x144x1024_2_0_0, w2⟩
        :: ⟨Rect.unit (s := S4x144x1024) ![1, 0, 0] S1x144x1024.size inb_S4x144x1024_S1x144x1024_1_0_0, w1⟩
        :: ⟨Rect.unit (s := S4x144x1024) ![0, 0, 0] S1x144x1024.size inb_S4x144x1024_S1x144x1024_0_0_0, w0⟩ :: L)) w := by
  subst h0 h1 h2 h3
  refine ⟨?_, ?_, ?_, ?_⟩
  · rw [rd_skip, rd_skip, rd_skip, rd_same] <;> exact dj _ _ 0 rfl rfl (Or.inr (Nat.le_of_ble_eq_true rfl))
  · rw [rd_skip, rd_skip, rd_same] <;> exact dj _ _ 0 rfl rfl (Or.inr (Nat.le_of_ble_eq_true rfl))
  · rw [rd_skip, rd_same]; exact dj _ _ 0 rfl rfl (Or.inr (Nat.le_of_ble_eq_true rfl))
  · rw [rd_same]

/-! ## The loads of the blocks -/

theorem ld_k (arg : Memref sig .tc .vmem S4096x128 .bf16) (h : arg.IsWhole) (x : Vec F S4096x128 .bf16) (c : ℕ)
    (off : Fin 2 → ℕ) (inb) (ho : off = ![512 * (c % 8), 0]) :
    arg.view.readAt (Elt F) (Rect.unit (s := S4096x128) off S512x128.size inb).toLoadRect (h.unread x) = kch x c := by
  subst ho; rw [View.readAt_eq_ld, h.read_unread]; rfl

theorem ld_v (arg : Memref sig .tc .vmem S1x8x144x512 .bf16) (h : arg.IsWhole) (x : Vec F S1x8x144x512 .bf16) (c : ℕ)
    (off : Fin 4 → ℕ) (inb) (ho : off = ![0, c % 8, 0, 0]) :
    arg.view.readAt (Elt F) (Rect.unit (s := S1x8x144x512) off S1x1x144x512.size inb).toLoadRect (h.unread x) = vch x c := by
  subst ho; rw [View.readAt_eq_ld, h.read_unread]; rfl

theorem ld_q (arg : Memref sig .tc .vmem S1024x512 .bf16) (h : arg.IsWhole) (x : Vec F S1024x512 .bf16) (g : Fin 4)
    (off : Fin 2 → ℕ) (inb) (ho : off = ![0, 128 * g.val]) :
    arg.view.readAt (Elt F) (Rect.unit (s := S1024x512) off S1024x128.size inb).toLoadRect (h.unread x) = qh x g := by
  subst ho; rw [View.readAt_eq_ld, h.read_unread]; rfl

/-- One more chunk. -/
theorem mxS (x0 : Vec F S1024x512 .bf16) (x1 : Vec F S4096x128 .bf16) (g : Fin 4) (n : ℕ) {m : FVec F S1x1024 .f32}
    {kc : Vec F S512x128 .bf16} {q : Vec F S1024x128 .bf16} (hm : m = mx x0 x1 g n) (hk : kc = kch x1 n) (hq : q = qh x0 g) :
    k0_pay8 m kc q = mx x0 x1 g (n + 1) := by
  subst hm hk hq; rfl

theorem acS (x0 : Vec F S1024x512 .bf16) (x1 : Vec F S4096x128 .bf16) (x2 : Vec F S1x8x144x512 .bf16) (g : Fin 4) (n : ℕ)
    {m m' : FVec F S1x1024 .f32} {vt : FVec F S144x512 .bf16} {st : Vec F S1x512x1024 .f32} {a : Vec F S1x144x1024 .f32}
    (hm : m = mx x0 x1 g n) (hm' : m' = mx x0 x1 g (n + 1)) (hv : vt = k0_pay5 (vch x2 n)) (hs : st = scB x0 x1 g n)
    (ha : a = ac x0 x1 x2 g n) : k0_pay19 (k0_pay18 m m' vt st a) = ac x0 x1 x2 g (n + 1) := by
  subst hm hm' hv hs ha; rfl

/-- Loads of one head's scores once all four have been stored. -/
theorem rc7 (v : View sig .tc .vmem S4x512x1024 .f32) (w0 w1 w2 w3 : FVec F S1x512x1024 .f32) (L : List (View.Piece (Elt F) S4x512x1024 .f32)) :
    let M : List (View.Piece (Elt F) S4x512x1024 .f32) :=
      ⟨Rect.unit (s := S4x512x1024) ![3, 0, 0] S1x512x1024.size inb_S4x512x1024_S1x512x1024_3_0_0, w3⟩
        :: ⟨Rect.unit (s := S4x512x1024) ![2, 0, 0] S1x512x1024.size inb_S4x512x1024_S1x512x1024_2_0_0, w2⟩
        :: ⟨Rect.unit (s := S4x512x1024) ![1, 0, 0] S1x512x1024.size inb_S4x512x1024_S1x512x1024_1_0_0, w1⟩
        :: ⟨Rect.unit (s := S4x512x1024) ![0, 0, 0] S1x512x1024.size inb_S4x512x1024_S1x512x1024_0_0_0, w0⟩ :: L
    v.readCov M (Rect.unit (s := S4x512x1024) ![0, 0, 0] S1x512x1024.size inb_S4x512x1024_S1x512x1024_0_0_0).toLoadRect = w0
    ∧ v.readCov M (Rect.unit (s := S4x512x1024) ![1, 0, 0] S1x512x1024.size inb_S4x512x1024_S1x512x1024_1_0_0).toLoadRect = w1
    ∧ v.readCov M (Rect.unit (s := S4x512x1024) ![2, 0, 0] S1x512x1024.size inb_S4x512x1024_S1x512x1024_2_0_0).toLoadRect = w2
    ∧ v.readCov M (Rect.unit (s := S4x512x1024) ![3, 0, 0] S1x512x1024.size inb_S4x512x1024_S1x512x1024_3_0_0).toLoadRect = w3 := by
  intro M
  refine ⟨?_, ?_, ?_, ?_⟩
  · rw [View.readCov_cons_of_disjoint, View.readCov_cons_of_disjoint, View.readCov_cons_of_disjoint, View.readCov_cons_toLoadRect] <;>
      exact dj _ _ 0 rfl rfl (Or.inr (Nat.le_of_ble_eq_true rfl))
  · rw [View.readCov_cons_of_disjoint, View.readCov_cons_of_disjoint, View.readCov_cons_toLoadRect] <;>
      exact dj _ _ 0 rfl rfl (Or.inr (Nat.le_of_ble_eq_true rfl))
  · rw [View.readCov_cons_of_disjoint, View.readCov_cons_toLoadRect]; exact dj _ _ 0 rfl rfl (Or.inr (Nat.le_of_ble_eq_true rfl))
  · rw [View.readCov_cons_toLoadRect]

/-- A load of one head's sums once that head, and then others, have been stored. -/
theorem rc9 (v : View sig .tc .vmem S4x144x1024 .f32) (w0 w1 w2 w3 u0 u1 u2 : FVec F S1x144x1024 .f32)
    (L : List (View.Piece (Elt F) S4x144x1024 .f32)) :
    let P0 (w : FVec F S1x144x1024 .f32) : View.Piece (Elt F) S4x144x1024 .f32 :=
      ⟨Rect.unit (s := S4x144x1024) ![0, 0, 0] S1x144x1024.size inb_S4x144x1024_S1x144x1024_0_0_0, w⟩
    let P1 (w : FVec F S1x144x1024 .f32) : View.Piece (Elt F) S4x144x1024 .f32 :=
      ⟨Rect.unit (s := S4x144x1024) ![1, 0, 0] S1x144x1024.size inb_S4x144x1024_S1x144x1024_1_0_0, w⟩
    let P2 (w : FVec F S1x144x1024 .f32) : View.Piece (Elt F) S4x144x1024 .f32 :=
      ⟨Rect.unit (s := S4x144x1024) ![2, 0, 0] S1x144x1024.size inb_S4x144x1024_S1x144x1024_2_0_0, w⟩
    let P3 (w : FVec F S1x144x1024 .f32) : View.Piece (Elt F) S4x144x1024 .f32 :=
      ⟨Rect.unit (s := S4x144x1024) ![3, 0, 0] S1x144x1024.size inb_S4x144x1024_S1x144x1024_3_0_0, w⟩
    v.readCov (P3 w3 :: P2 w2 :: P1 w1 :: P0 w0 :: L) (Rect.unit (s := S4x144x1024) ![0, 0, 0] S1x144x1024.size inb_S4x144x1024_S1x144x1024_0_0_0).toLoadRect = w0
    ∧ v.readCov (P0 u0 :: P3 w3 :: P2 w2 :: P1 w1 :: P0 w0 :: L) (Rect.unit (s := S4x144x1024) ![1, 0, 0] S1x144x1024.size inb_S4x144x1024_S1x144x1024_1_0_0).toLoadRect = w1
    ∧ v.readCov (P1 u1 :: P0 u0 :: P3 w3 :: P2 w2 :: P1 w1 :: P0 w0 :: L) (Rect.unit (s := S4x144x1024) ![2, 0, 0] S1x144x1024.size inb_S4x144x1024_S1x144x1024_2_0_0).toLoadRect = w2
    ∧ v.readCov (P2 u2 :: P1 u1 :: P0 u0 :: P3 w3 :: P2 w2 :: P1 w1 :: P0 w0 :: L) (Rect.unit (s := S4x144x1024) ![3, 0, 0] S1x144x1024.size inb_S4x144x1024_S1x144x1024_3_0_0).toLoadRect = w3 := by
  intro P0 P1 P2 P3
  refine ⟨?_, ?_, ?_, ?_⟩
  · rw [View.readCov_cons_of_disjoint, View.readCov_cons_of_disjoint, View.readCov_cons_of_disjoint, View.readCov_cons_toLoadRect] <;>
      exact dj _ _ 0 rfl rfl (Or.inr (Nat.le_of_ble_eq_true rfl))
  · rw [View.readCov_cons_of_disjoint, View.readCov_cons_of_disjoint, View.readCov_cons_of_disjoint, View.readCov_cons_toLoadRect] <;>
      first | exact dj _ _ 0 rfl rfl (Or.inr (Nat.le_of_ble_eq_true rfl)) | exact dj _ _ 0 rfl rfl (Or.inl (Nat.le_of_ble_eq_true rfl))
  · rw [View.readCov_cons_of_disjoint, View.readCov_cons_of_disjoint, View.readCov_cons_of_disjoint, View.readCov_cons_toLoadRect] <;>
      first | exact dj _ _ 0 rfl rfl (Or.inr (Nat.le_of_ble_eq_true rfl)) | exact dj _ _ 0 rfl rfl (Or.inl (Nat.le_of_ble_eq_true rfl))
  · rw [View.readCov_cons_of_disjoint, View.readCov_cons_of_disjoint, View.readCov_cons_of_disjoint, View.readCov_cons_toLoadRect] <;>
      exact dj _ _ 0 rfl rfl (Or.inl (Nat.le_of_ble_eq_true rfl))

/-- What the loop carries before trip `k`. -/
def carry (x0 : Vec F S1024x512 .bf16) (x1 : Vec F S4096x128 .bf16) (k : ℕ) :
    FVec F S1x1024 .f32 × FVec F S1x1024 .f32 × FVec F S1x1024 .f32 × FVec F S1x1024 .f32 × FVec F S1x1024 .f32 × FVec F S1x1024 .f32 × FVec F S1x1024 .f32 × FVec F S1x1024 .f32 :=
  (mx x0 x1 0 (2 * k), mx x0 x1 1 (2 * k), mx x0 x1 2 (2 * k), mx x0 x1 3 (2 * k),
   mx x0 x1 0 (2 * k + 1), mx x0 x1 1 (2 * k + 1), mx x0 x1 2 (2 * k + 1), mx x0 x1 3 (2 * k + 1))

/-- The invariant before trip `k`. -/
def inv (c : Dev nD) (arg3 : Memref sig .tc .vmem S1024x512 .bf16) (harg3 : arg3.IsWhole) (arg4 : Memref sig .tc .vmem S4096x128 .bf16) (harg4 : arg4.IsWhole)
    (arg5 : Memref sig .tc .vmem S1x8x144x512 .bf16) (harg5 : arg5.IsWhole)
    (arg7 : Memref sig .tc .vmem S4x512x1024 .f32) (arg8 : Memref sig .tc .vmem S4x512x1024 .f32) (arg9 : Memref sig .tc .vmem S4x144x1024 .f32)
    (x0 : Vec F S1024x512 .bf16) (x1 : Vec F S4096x128 .bf16) (x2 : Vec F S1x8x144x512 .bf16) (k : ℕ)
    (acc : FVec F S1x1024 .f32 × FVec F S1x1024 .f32 × FVec F S1x1024 .f32 × FVec F S1x1024 .f32 × FVec F S1x1024 .f32 × FVec F S1x1024 .f32 × FVec F S1x1024 .f32 × FVec F S1x1024 .f32) : sProp 𝕄 :=
  iprop((arg3.view.loc (c : Thread nD τ) ↦[arg3.view.set]{fullShare} harg3.unread x0)
    ∗ (arg4.view.loc (c : Thread nD τ) ↦[arg4.view.set]{fullShare} harg4.unread x1)
    ∗ (arg5.view.loc (c : Thread nD τ) ↦[arg5.view.set]{fullShare} harg5.unread x2)
    ∗ (∃ f, (arg7.view.loc (c : Thread nD τ) ↦[arg7.view.set]{fullShare} f) ∗ ⌜Sc arg7.view f fun g => scB x0 x1 g (2 * k)⌝)
    ∗ (∃ f, (arg8.view.loc (c : Thread nD τ) ↦[arg8.view.set]{fullShare} f))
    ∗ (∃ f, (arg9.view.loc (c : Thread nD τ) ↦[arg9.view.set]{fullShare} f) ∗ ⌜Ac arg9.view f fun g => ac x0 x1 x2 g (2 * k)⌝)
    ∗ ⌜acc = carry x0 x1 k⌝)

theorem step (c : Dev nD) (E : Set ℕ) (i : grid0.Coords) (arg3 : Memref sig .tc .vmem S1024x512 .bf16) (harg3 : arg3.IsWhole) (arg4 : Memref sig .tc .vmem S4096x128 .bf16) (harg4 : arg4.IsWhole)
    (arg5 : Memref sig .tc .vmem S1x8x144x512 .bf16) (harg5 : arg5.IsWhole) (arg6 : Memref sig .tc .vmem S1024x512 .bf16) (harg6 : arg6.IsWhole)
    (arg7 : Memref sig .tc .vmem S4x512x1024 .f32) (harg7 : arg7.IsWhole) (arg8 : Memref sig .tc .vmem S4x512x1024 .f32) (harg8 : arg8.IsWhole)
    (arg9 : Memref sig .tc .vmem S4x144x1024 .f32) (harg9 : arg9.IsWhole)
    (v4 v5 v6 v7 v22 v37 v52 : FVec F S1x1024 .f32) (v64 : FVec F S32x1024 .f32)
    (x0 : Vec F S1024x512 .bf16) (x1 : Vec F S4096x128 .bf16) (x2 : Vec F S1x8x144x512 .bf16) (k : Fin k0_t1_loop.trips)
    (acc : FVec F S1x1024 .f32 × FVec F S1x1024 .f32 × FVec F S1x1024 .f32 × FVec F S1x1024 .f32 × FVec F S1x1024 .f32 × FVec F S1x1024 .f32 × FVec F S1x1024 .f32 × FVec F S1x1024 .f32) :
    inv (U := U) c arg3 harg3 arg4 harg4 arg5 harg5 arg7 arg8 arg9 x0 x1 x2 k.val acc
      ⊢ wp frame (wpE (defs₀ (F := F)) Variants.none (c : Thread nD τ) none) E
          (k0_t1_body (F := F) i arg3 harg3 arg4 harg4 arg5 harg5 arg6 harg6 arg7 harg7 arg8 harg8 arg9 harg9 v4 v5 v6 v7 v22 v37 v52 v64 k acc)
          (inv c arg3 harg3 arg4 harg4 arg5 harg5 arg7 arg8 arg9 x0 x1 x2 (k.val + 1)) := by
  have hk : k.val < 3 := Nat.lt_of_lt_of_le k.isLt k0_t1_abs.2.1
  unfold inv k0_t1_body
  iintro ⟨HR_arg3, HR_arg4, HR_arg5, ⟨%f_arg7, HW_arg7, %h7⟩, ⟨%f_arg8, HW_arg8⟩, ⟨%f_arg9, HW_arg9, %h9⟩, %hacc⟩
  subst hacc
  have h1 : k0_off1 k = ![512 * ((2 * k.val + 1) % 8), 0] := by
    rw [k0_off1_eq, show 1024 * k.val + 512 = 512 * ((2 * k.val + 1) % 8) by omega]
  have h2 : k0_off2 k = ![0, (2 * k.val) % 8, 0, 0] := by
    rw [k0_off2_eq, show 2 * k.val = (2 * k.val) % 8 by omega]; simp
  have h3 : k0_off3 k = ![512 * ((2 * k.val + 1 + 1) % 8), 0] := by
    rw [k0_off3_eq, show 1024 * k.val + 1024 = 512 * ((2 * k.val + 1 + 1) % 8) by omega]
  have h4 : k0_off4 k = ![0, (2 * k.val + 1) % 8, 0, 0] := by
    rw [k0_off4_eq, show 2 * k.val + 1 = (2 * k.val + 1) % 8 by omega]; simp
  sl_exec
  sl_step
  have K1 := ld_k arg4 harg4 x1 (2 * k.val + 1) _ (k0_off1_inb k) h1
  have K3 := ld_k arg4 harg4 x1 (2 * k.val + 1 + 1) _ (k0_off3_inb k) h3
  have V2 := ld_v arg5 harg5 x2 (2 * k.val) _ (k0_off2_inb k) h2
  have V4 := ld_v arg5 harg5 x2 (2 * k.val + 1) _ (k0_off4_inb k) h4
  have Q0 := ld_q arg3 harg3 x0 0 _ inb_S1024x512_S1024x128_0_0 rfl
  have Q1 := ld_q arg3 harg3 x0 1 _ inb_S1024x512_S1024x128_0_128 rfl
  have Q2 := ld_q arg3 harg3 x0 2 _ inb_S1024x512_S1024x128_0_256 rfl
  have Q3 := ld_q arg3 harg3 x0 3 _ inb_S1024x512_S1024x128_0_384 rfl
  have M0 : step.sl.r_2 arg3 harg3 arg4 harg4 x0 x1 k = _ := mxS x0 x1 0 (2 * k.val + 1) rfl K1 Q0
  have M1 : step.sl.r_3 arg3 harg3 arg4 harg4 x0 x1 k = _ := mxS x0 x1 1 (2 * k.val + 1) rfl K1 Q1
  have M2 : step.sl.r_4 arg3 harg3 arg4 harg4 x0 x1 k = _ := mxS x0 x1 2 (2 * k.val + 1) rfl K1 Q2
  have M3 : step.sl.r_5 arg3 harg3 arg4 harg4 x0 x1 k = _ := mxS x0 x1 3 (2 * k.val + 1) rfl K1 Q3
  have N0 : step.sl.r_11 arg3 harg3 arg4 harg4 x0 x1 k = _ := mxS x0 x1 0 (2 * k.val + 1 + 1) M0 K3 Q0
  have N1 : step.sl.r_12 arg3 harg3 arg4 harg4 x0 x1 k = _ := mxS x0 x1 1 (2 * k.val + 1 + 1) M1 K3 Q1
  have N2 : step.sl.r_13 arg3 harg3 arg4 harg4 x0 x1 k = _ := mxS x0 x1 2 (2 * k.val + 1 + 1) M2 K3 Q2
  have N3 : step.sl.r_15 arg3 harg3 arg4 harg4 x0 x1 k = _ := mxS x0 x1 3 (2 * k.val + 1 + 1) M3 K3 Q3
  isplitl [HR_arg3]; · iexact HR_arg3
  isplitl [HR_arg4]; · iexact HR_arg4
  isplitl [HR_arg5]; · iexact HR_arg5
  isplitl [HW_arg7]
  · iexists _; isplitl [HW_arg7]; · iexact HW_arg7
    ipureintro
    refine Sc_writes _ _ _ _ _ _ _ _ ?_ ?_ ?_ ?_
    · exact congrArg₂ k0_pay7 K3 Q0
    · exact congrArg₂ k0_pay7 K3 Q1
    · exact congrArg₂ k0_pay7 K3 Q2
    · exact congrArg₂ k0_pay7 K3 Q3
  isplitl [HW_arg8]
  · iexists _; iexact HW_arg8
  isplitl [HW_arg9]
  · iexists _; isplitl [HW_arg9]; · iexact HW_arg9
    ipureintro
    refine Ac_writes _ _ _ _ _ _ _ _ ?_ ?_ ?_ ?_
    · exact acS x0 x1 x2 0 (2 * k.val + 1) rfl M0 (congrArg k0_pay5 V4)
        ((rc7 _ _ _ _ _ _).1.trans (congrArg₂ k0_pay7 K1 Q0))
        ((rc9 _ _ _ _ _ zer zer zer _).1.trans (acS x0 x1 x2 0 (2 * k.val) rfl rfl (congrArg k0_pay5 V2) h7.1 h9.1))
    · exact acS x0 x1 x2 1 (2 * k.val + 1) rfl M1 (congrArg k0_pay5 V4)
        ((rc7 _ _ _ _ _ _).2.1.trans (congrArg₂ k0_pay7 K1 Q1))
        ((rc9 _ _ _ _ _ _ zer zer _).2.1.trans (acS x0 x1 x2 1 (2 * k.val) rfl rfl (congrArg k0_pay5 V2) h7.2.1 h9.2.1))
    · exact acS x0 x1 x2 2 (2 * k.val + 1) rfl M2 (congrArg k0_pay5 V4)
        ((rc7 _ _ _ _ _ _).2.2.1.trans (congrArg₂ k0_pay7 K1 Q2))
        ((rc9 _ _ _ _ _ _ _ zer _).2.2.1.trans (acS x0 x1 x2 2 (2 * k.val) rfl rfl (congrArg k0_pay5 V2) h7.2.2.1 h9.2.2.1))
    · exact acS x0 x1 x2 3 (2 * k.val + 1) rfl M3 (congrArg k0_pay5 V4)
        ((rc7 _ _ _ _ _ _).2.2.2.trans (congrArg₂ k0_pay7 K1 Q3))
        ((rc9 _ _ _ _ _ _ _ _ _).2.2.2.trans (acS x0 x1 x2 3 (2 * k.val) rfl rfl (congrArg k0_pay5 V2) h7.2.2.2 h9.2.2.2))
  ipureintro
  show _ = (mx x0 x1 0 (2 * k.val + 1 + 1), mx x0 x1 1 (2 * k.val + 1 + 1), mx x0 x1 2 (2 * k.val + 1 + 1), mx x0 x1 3 (2 * k.val + 1 + 1),
    mx x0 x1 0 (2 * k.val + 1 + 1 + 1), mx x0 x1 1 (2 * k.val + 1 + 1 + 1), mx x0 x1 2 (2 * k.val + 1 + 1 + 1), mx x0 x1 3 (2 * k.val + 1 + 1 + 1))
  rw [M0, M1, M2, M3, N0, N1, N2, N3]

end Cert.Attn

end
-- ==== Proof.AttnStore.lean ====
/- Loads and stores of the scratch and result blocks of one grid point of the attention kernel. -/
module

public import proofs.«01_k».proof.Proof.AttnLoop

@[expose] public section

set_option maxRecDepth 16384
set_option maxHeartbeats 4000000

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable {U : Type} [RA.URA U]

local notation "𝕄" => MT nD τ sig Unit (Elt F) ℕ U ℕ

/-- The zeros stored over all the sums, read at one head. -/
theorem rd_zero (v : View sig .tc .vmem S4x144x1024 .f32) (f : v.ty.Contents (Elt F)) (off : Fin 3 → ℕ) (inb) :
    v.readAt (Elt F) (Rect.unit (s := S4x144x1024) off S1x144x1024.size inb).toLoadRect
      (v.writes (Elt F) f [⟨Rect.unit (s := S4x144x1024) ![0, 0, 0] S4x144x1024.size inb_S4x144x1024_S4x144x1024_0_0_0, k0_pay43⟩]) = zer := by
  funext j
  have e : (Rect.unit (s := S4x144x1024) off S1x144x1024.size inb).toLoadRect.idx j
      = (Rect.unit (s := S4x144x1024) ![0, 0, 0] S4x144x1024.size inb_S4x144x1024_S4x144x1024_0_0_0).emb
          ((Rect.unit (s := S4x144x1024) off S1x144x1024.size inb).toLoadRect.idx j) := by
    funext a; apply Fin.ext; rw [Rect.emb_apply]
    have h0 : (![0, 0, 0] : Fin 3 → ℕ) a = 0 := by fin_cases a <;> rfl
    show _ = (![0, 0, 0] : Fin 3 → ℕ) a + 1 * _
    rw [h0, Nat.zero_add, Nat.one_mul]
  show v.read (Elt F) (v.writes (Elt F) f _) ((Rect.unit (s := S4x144x1024) off S1x144x1024.size inb).toLoadRect.idx j) = _
  rw [e, View.read_writes_cons_emb]; rfl

/-- The sums of head `g`, once stored, read back row 128 and rows 0 to 127 apart. -/
theorem rc_den (v : View sig .tc .vmem S4x144x1024 .f32) (g : ℕ) (inb inb') (w : FVec F S1x144x1024 .f32)
    (L : List (View.Piece (Elt F) S4x144x1024 .f32)) :
    v.readCov (⟨Rect.unit (s := S4x144x1024) ![g, 0, 0] S1x144x1024.size inb, w⟩ :: L)
      (Rect.unit (s := S4x144x1024) ![g, 128, 0] S1x1x1024.size inb').toLoadRect = den w := by
  have hd : ∀ j : S1x1x1024.Idx, den w j = w (ix3 (0 : Fin 1) (128 : Fin 144) (j 2 : Fin 1024)) := fun j => rfl
  have hi : ∀ j : S1x1x1024.Idx, (Rect.unit (s := S4x144x1024) ![g, 128, 0] S1x1x1024.size inb').toLoadRect.idx j
      = (Rect.unit (s := S4x144x1024) ![g, 0, 0] S1x144x1024.size inb).emb (ix3 (0 : Fin 1) (128 : Fin 144) (j 2 : Fin 1024)) := by
    intro j
    have h0 : (j 0 : ℕ) < 1 := (j 0).isLt
    funext a; apply Fin.ext; rw [Rect.emb_apply]
    match a with
    | ⟨0, _⟩ => show g + 1 * (j 0 : ℕ) = g + 1 * 0; omega
    | ⟨1, _⟩ => have h1 : (j 1 : ℕ) < 1 := (j 1).isLt
                show 128 + 1 * (j 1 : ℕ) = 0 + 1 * 128; omega
    | ⟨2, _⟩ => rfl
  rw [View.readCov_eq_canon']
  funext j
  have h := View.canon_cons_emb (Rect.unit (s := S4x144x1024) ![g, 0, 0] S1x144x1024.size inb) w L (ix3 (0 : Fin 1) (128 : Fin 144) (j 2 : Fin 1024))
  rw [← hi] at h
  exact h.trans (hd j).symm

theorem rc_num (v : View sig .tc .vmem S4x144x1024 .f32) (g : ℕ) (inb inb') (w : FVec F S1x144x1024 .f32)
    (L : List (View.Piece (Elt F) S4x144x1024 .f32)) :
    v.readCov (⟨Rect.unit (s := S4x144x1024) ![g, 0, 0] S1x144x1024.size inb, w⟩ :: L)
      (Rect.unit (s := S4x144x1024) ![g, 0, 0] S1x128x1024.size inb').toLoadRect = num w := by
  have hd : ∀ j : S1x128x1024.Idx, num w j = w (ix3 (0 : Fin 1) (⟨(j 1).val, Nat.lt_of_lt_of_le (j 1).isLt (by decide)⟩ : Fin 144) (j 2 : Fin 1024)) := fun j => rfl
  have hi : ∀ j : S1x128x1024.Idx, (Rect.unit (s := S4x144x1024) ![g, 0, 0] S1x128x1024.size inb').toLoadRect.idx j
      = (Rect.unit (s := S4x144x1024) ![g, 0, 0] S1x144x1024.size inb).emb (ix3 (0 : Fin 1) (⟨(j 1).val, Nat.lt_of_lt_of_le (j 1).isLt (by decide)⟩ : Fin 144) (j 2 : Fin 1024)) := by
    intro j
    have h0 : (j 0 : ℕ) < 1 := (j 0).isLt
    funext a; apply Fin.ext; rw [Rect.emb_apply]
    match a with
    | ⟨0, _⟩ => show g + 1 * (j 0 : ℕ) = g + 1 * 0; omega
    | ⟨1, _⟩ => rfl
    | ⟨2, _⟩ => rfl
  rw [View.readCov_eq_canon']
  funext j
  have h := View.canon_cons_emb (Rect.unit (s := S4x144x1024) ![g, 0, 0] S1x144x1024.size inb) w L (ix3 (0 : Fin 1) (⟨(j 1).val, Nat.lt_of_lt_of_le (j 1).isLt (show (128:ℕ) ≤ 144 by decide)⟩ : Fin 144) (j 2 : Fin 1024))
  rw [← hi] at h
  exact h.trans (hd j).symm

/-- The four heads' columns, stored one after the other, are the block of results. -/
theorem out_writes (v : View sig .tc .vmem S1024x512 .bf16) (f : v.ty.Contents (Elt F)) (b0 b1 b2 b3 : FVec F S1024x128 .bf16)
    (x0 : Vec F S1024x512 .bf16) (x1 : Vec F S4096x128 .bf16) (x2 : Vec F S1x8x144x512 .bf16)
    (h0 : b0 = outH x0 x1 x2 0) (h1 : b1 = outH x0 x1 x2 1) (h2 : b2 = outH x0 x1 x2 2) (h3 : b3 = outH x0 x1 x2 3) :
    v.read (Elt F) (v.writes (Elt F) f
      [⟨Rect.unit (s := S1024x512) ![0, 384] S1024x128.size inb_S1024x512_S1024x128_0_384, b3⟩,
       ⟨Rect.unit (s := S1024x512) ![0, 256] S1024x128.size inb_S1024x512_S1024x128_0_256, b2⟩,
       ⟨Rect.unit (s := S1024x512) ![0, 128] S1024x128.size inb_S1024x512_S1024x128_0_128, b1⟩,
       ⟨Rect.unit (s := S1024x512) ![0, 0] S1024x128.size inb_S1024x512_S1024x128_0_0, b0⟩]) = outB x0 x1 x2 := by
  subst h0 h1 h2 h3
  have key : ∀ (g : Fin 4) (W : v.ty.Contents (Elt F)) (inb),
      v.readAt (Elt F) (Rect.unit (s := S1024x512) ![0, 128 * g.val] S1024x128.size inb).toLoadRect W = outH x0 x1 x2 g →
      ∀ y : S1024x512.Idx, (y 1).val / 128 = g.val → v.read (Elt F) W y = outB x0 x1 x2 y := by
    intro g W inb h y hy
    have e := congrFun h (ix2 (y 0 : Fin 1024) (⟨(y 1).val % 128, Nat.mod_lt _ (by decide)⟩ : Fin 128))
    have hg : (⟨(y 1).val / 128, Nat.div_lt_of_lt_mul (y 1).isLt⟩ : Fin 4) = g := Fin.ext hy
    unfold outB
    rw [hg]
    refine Eq.trans ?_ e
    refine congrArg (v.read (Elt F) W) ?_
    funext a; apply Fin.ext
    match a with
    | ⟨0, _⟩ => show (y 0 : ℕ) = 0 + 1 * (y 0 : ℕ); omega
    | ⟨1, _⟩ => show (y 1 : ℕ) = 128 * g.val + 1 * ((y 1 : ℕ) % 128); omega
  funext y
  have hy : (y 1).val < 512 := (y 1).isLt
  rcases (by omega : (y 1).val / 128 = 0 ∨ (y 1).val / 128 = 1 ∨ (y 1).val / 128 = 2 ∨ (y 1).val / 128 = 3) with h | h | h | h
  · refine key 0 _ (qh_inb 0) ?_ y h
    refine (rd_skip _ _ _ _ _ (dj _ _ 1 rfl rfl (Or.inr (Nat.le_of_ble_eq_true rfl)))).trans ?_
    refine (rd_skip _ _ _ _ _ (dj _ _ 1 rfl rfl (Or.inr (Nat.le_of_ble_eq_true rfl)))).trans ?_
    refine (rd_skip _ _ _ _ _ (dj _ _ 1 rfl rfl (Or.inr (Nat.le_of_ble_eq_true rfl)))).trans ?_
    exact rd_same _ _ _ _ _
  · refine key 1 _ (qh_inb 1) ?_ y h
    refine (rd_skip _ _ _ _ _ (dj _ _ 1 rfl rfl (Or.inr (Nat.le_of_ble_eq_true rfl)))).trans ?_
    refine (rd_skip _ _ _ _ _ (dj _ _ 1 rfl rfl (Or.inr (Nat.le_of_ble_eq_true rfl)))).trans ?_
    exact rd_same _ _ _ _ _
  · refine key 2 _ (qh_inb 2) ?_ y h
    refine (rd_skip _ _ _ _ _ (dj _ _ 1 rfl rfl (Or.inr (Nat.le_of_ble_eq_true rfl)))).trans ?_
    exact rd_same _ _ _ _ _
  · refine key 3 _ (qh_inb 3) ?_ y h
    exact rd_same _ _ _ _ _

/-- Row 128 and rows 0 to 127 of each head's sums, once the sums of all four heads have been stored. -/
theorem rcf (v : View sig .tc .vmem S4x144x1024 .f32) (w0 w1 w2 w3 : FVec F S1x144x1024 .f32) (L : List (View.Piece (Elt F) S4x144x1024 .f32)) :
    let M : List (View.Piece (Elt F) S4x144x1024 .f32) :=
      ⟨Rect.unit (s := S4x144x1024) ![3, 0, 0] S1x144x1024.size inb_S4x144x1024_S1x144x1024_3_0_0, w3⟩
        :: ⟨Rect.unit (s := S4x144x1024) ![2, 0, 0] S1x144x1024.size inb_S4x144x1024_S1x144x1024_2_0_0, w2⟩
        :: ⟨Rect.unit (s := S4x144x1024) ![1, 0, 0] S1x144x1024.size inb_S4x144x1024_S1x144x1024_1_0_0, w1⟩
        :: ⟨Rect.unit (s := S4x144x1024) ![0, 0, 0] S1x144x1024.size inb_S4x144x1024_S1x144x1024_0_0_0, w0⟩ :: L
    (v.readCov M (Rect.unit (s := S4x144x1024) ![0, 128, 0] S1x1x1024.size inb_S4x144x1024_S1x1x1024_0_128_0).toLoadRect = den w0
      ∧ v.readCov M (Rect.unit (s := S4x144x1024) ![0, 0, 0] S1x128x1024.size inb_S4x144x1024_S1x128x1024_0_0_0).toLoadRect = num w0)
    ∧ (v.readCov M (Rect.unit (s := S4x144x1024) ![1, 128, 0] S1x1x1024.size inb_S4x144x1024_S1x1x1024_1_128_0).toLoadRect = den w1
      ∧ v.readCov M (Rect.unit (s := S4x144x1024) ![1, 0, 0] S1x128x1024.size inb_S4x144x1024_S1x128x1024_1_0_0).toLoadRect = num w1)
    ∧ (v.readCov M (Rect.unit (s := S4x144x1024) ![2, 128, 0] S1x1x1024.size inb_S4x144x1024_S1x1x1024_2_128_0).toLoadRect = den w2
      ∧ v.readCov M (Rect.unit (s := S4x144x1024) ![2, 0, 0] S1x128x1024.size inb_S4x144x1024_S1x128x1024_2_0_0).toLoadRect = num w2)
    ∧ (v.readCov M (Rect.unit (s := S4x144x1024) ![3, 128, 0] S1x1x1024.size inb_S4x144x1024_S1x1x1024_3_128_0).toLoadRect = den w3
      ∧ v.readCov M (Rect.unit (s := S4x144x1024) ![3, 0, 0] S1x128x1024.size inb_S4x144x1024_S1x128x1024_3_0_0).toLoadRect = num w3) := by
  intro M
  refine ⟨⟨?_, ?_⟩, ⟨?_, ?_⟩, ⟨?_, ?_⟩, ⟨?_, ?_⟩⟩
  · rw [View.readCov_cons_of_disjoint, View.readCov_cons_of_disjoint, View.readCov_cons_of_disjoint, rc_den] <;>
      exact dj _ _ 0 rfl rfl (Or.inr (Nat.le_of_ble_eq_true rfl))
  · rw [View.readCov_cons_of_disjoint, View.readCov_cons_of_disjoint, View.readCov_cons_of_disjoint, rc_num] <;>
      exact dj _ _ 0 rfl rfl (Or.inr (Nat.le_of_ble_eq_true rfl))
  · rw [View.readCov_cons_of_disjoint, View.readCov_cons_of_disjoint, rc_den] <;>
      exact dj _ _ 0 rfl rfl (Or.inr (Nat.le_of_ble_eq_true rfl))
  · rw [View.readCov_cons_of_disjoint, View.readCov_cons_of_disjoint, rc_num] <;>
      exact dj _ _ 0 rfl rfl (Or.inr (Nat.le_of_ble_eq_true rfl))
  · rw [View.readCov_cons_of_disjoint, rc_den]; exact dj _ _ 0 rfl rfl (Or.inr (Nat.le_of_ble_eq_true rfl))
  · rw [View.readCov_cons_of_disjoint, rc_num]; exact dj _ _ 0 rfl rfl (Or.inr (Nat.le_of_ble_eq_true rfl))
  · rw [rc_den]
  · rw [rc_num]

theorem outS (x0 : Vec F S1024x512 .bf16) (x1 : Vec F S4096x128 .bf16) (x2 : Vec F S1x8x144x512 .bf16) (g : Fin 4)
    {d : Vec F S1x1x1024 .f32} {n : Vec F S1x128x1024 .f32} {a : FVec F S1x144x1024 .f32} (hd : d = den a) (hn : n = num a)
    (ha : a = ac x0 x1 x2 g 8) : k0_pay2 d n = outH x0 x1 x2 g := by
  subst hd hn ha; rfl

end Cert.Attn

end
-- ==== Proof.AttnBody.lean ====
/- One grid point of the attention kernel: on the blocks it is given it leaves the block of results `outB`. -/
module

public import proofs.«01_k».proof.Proof.AttnStore

@[expose] public section

set_option maxRecDepth 16384
set_option maxHeartbeats 4000000

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable {U : Type} [RA.URA U]

local notation "𝕄" => MT nD τ sig Unit (Elt F) ℕ U ℕ

/-! The same step of the running maximum, as the different places of the body spell it. -/

theorem p50 (a : Vec F S512x128 .bf16) (b) : k0_pay50 a b = k0_pay8 k0_pay44 a b := rfl
theorem p53 (m : FVec F S1x1024 .f32) (a : Vec F S512x128 .bf16) (b) : k0_pay53 m (k0_pay51 a b) = k0_pay8 m a b := rfl
theorem p56 (m : FVec F S1x1024 .f32) (a : Vec F S512x128 .bf16) (b) : k0_pay56 m a b = k0_pay8 m a b := rfl
theorem p60 (m : FVec F S1x1024 .f32) (a : Vec F S512x128 .bf16) (b) : k0_pay60 m (k0_pay59 a b) = k0_pay8 m a b := rfl
theorem p69 (m : FVec F S1x1024 .f32) (a : Vec F S512x128 .bf16) (b) : k0_pay69 m (k0_pay68 a b) = k0_pay8 m a b := rfl
theorem p65 (m : FVec F S1x1024 .f32) (a : Vec F S512x128 .bf16) (b) : k0_pay65 m a b = k0_pay8 m a b := rfl
theorem p72 (m : FVec F S1x1024 .f32) (a : Vec F S512x128 .bf16) (b) : k0_pay72 m (k0_pay61 a) b = k0_pay8 m a b := rfl
theorem p75 (m : FVec F S1x1024 .f32) (a : Vec F S512x128 .bf16) (b) : k0_pay75 m (k0_pay61 a) b = k0_pay8 m a b := rfl

/-- The running maximum over no chunk is the constant −∞. -/
theorem Z (x0 : Vec F S1024x512 .bf16) (x1 : Vec F S4096x128 .bf16) (g : Fin 4) : k0_pay44 = mx x0 x1 g 0 := rfl

/-- What the loop carries at its start, -/
theorem Z8 (x0 : Vec F S1024x512 .bf16) (x1 : Vec F S4096x128 .bf16) :
    (k0_pay44, k0_pay45, k0_pay46, k0_pay47, mx x0 x1 0 (0 + 1), mx x0 x1 1 (0 + 1), mx x0 x1 2 (0 + 1), mx x0 x1 3 (0 + 1)) = carry x0 x1 0 := by
  have h5 : k0_pay45 (F := F) = k0_pay44 := rfl
  have h6 : k0_pay46 (F := F) = k0_pay44 := rfl
  have h7 : k0_pay47 (F := F) = k0_pay44 := rfl
  rw [h5, h6, h7]; unfold carry; rw [Nat.mul_zero, ← Z x0 x1 0, ← Z x0 x1 1, ← Z x0 x1 2, ← Z x0 x1 3]

/-- and at its end. -/
theorem C3 (x0 : Vec F S1024x512 .bf16) (x1 : Vec F S4096x128 .bf16) :
    carry x0 x1 3 = (mx x0 x1 0 6, mx x0 x1 1 6, mx x0 x1 2 6, mx x0 x1 3 6, mx x0 x1 0 7, mx x0 x1 1 7, mx x0 x1 2 7, mx x0 x1 3 7) := rfl

/-- One grid point of the attention kernel on any blocks of queries, keys and values. -/
theorem body (c : Dev nD) (i : grid0.Coords) (arg3 : Memref sig .tc .vmem S1024x512 .bf16) (harg3 : arg3.IsWhole) (arg4 : Memref sig .tc .vmem S4096x128 .bf16) (harg4 : arg4.IsWhole)
    (arg5 : Memref sig .tc .vmem S1x8x144x512 .bf16) (harg5 : arg5.IsWhole) (arg6 : Memref sig .tc .vmem S1024x512 .bf16) (harg6 : arg6.IsWhole)
    (arg7 : Memref sig .tc .vmem S4x512x1024 .f32) (harg7 : arg7.IsWhole) (arg8 : Memref sig .tc .vmem S4x512x1024 .f32) (harg8 : arg8.IsWhole)
    (arg9 : Memref sig .tc .vmem S4x144x1024 .f32) (harg9 : arg9.IsWhole)
    (x0 : Vec F S1024x512 .bf16) (x1 : Vec F S4096x128 .bf16) (x2 : Vec F S1x8x144x512 .bf16) (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (outB x0 x1 x2) ∗ (∃ d, owns (c : Thread nD τ) arg7 fullShare d)
            ∗ (∃ d, owns (c : Thread nD τ) arg8 fullShare d) ∗ (∃ d, owns (c : Thread nD τ) arg9 fullShare d)) -∗ K ⟨⟩))
      ⊢ wp frame (wpE (defs₀ (F := F)) Variants.none c none) E (cc0_attention i arg3 harg3 arg4 harg4 arg5 harg5 arg6 harg6 arg7 harg7 arg8 harg8 arg9 harg9) K := by
  simp only [cc0_attention_eq_skeleton]; unfold cc0_attention_skel
  simp only [k0_part8_eq_skeleton, k0_part9_eq_skeleton, k0_part10_eq_skeleton, k0_part11_eq_skeleton, k0_part12_eq_skeleton, k0_part13_eq_skeleton, k0_part14_eq_skeleton, k0_part15_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, Hk⟩
  obtain rfl := harg3.eq_unread hf0; obtain rfl := harg4.eq_unread hf1; obtain rfl := harg5.eq_unread hf2
  sl_exec
  sl_for (inv c arg3 harg3 arg4 harg4 arg5 harg5 arg7 arg8 arg9 x0 x1 x2) $$ [H0 H1 H2 HS0 HS1 HS2]
  · intro k acc
    exact step c E i arg3 harg3 arg4 harg4 arg5 harg5 arg6 harg6 arg7 harg7 arg8 harg8 arg9 harg9 _ _ _ _ _ _ _ _ x0 x1 x2 k acc
  · have K0 := ld_k arg4 harg4 x1 0 _ inb_S4096x128_S512x128_0_0 rfl
    have Q0 := ld_q arg3 harg3 x0 0 _ inb_S1024x512_S1024x128_0_0 rfl
    have Q1 := ld_q arg3 harg3 x0 1 _ inb_S1024x512_S1024x128_0_128 rfl
    have Q2 := ld_q arg3 harg3 x0 2 _ inb_S1024x512_S1024x128_0_256 rfl
    have Q3 := ld_q arg3 harg3 x0 3 _ inb_S1024x512_S1024x128_0_384 rfl
    unfold inv
    isplitl [H0]; · iexact H0
    isplitl [H1]; · iexact H1
    isplitl [H2]; · iexact H2
    isplitl [HS0]
    · iexists _; isplitl [HS0]; · iexact HS0
      ipureintro
      refine Sc_writes _ _ _ _ _ _ _ _ ?_ ?_ ?_ ?_
      · exact congrArg₂ k0_pay7 K0 Q0
      · exact congrArg₂ k0_pay7 K0 Q1
      · exact congrArg₂ k0_pay7 K0 Q2
      · exact congrArg₂ k0_pay7 K0 Q3
    isplitl [HS1]; · iexists _; iexact HS1
    isplitl [HS2]
    · iexists _; isplitl [HS2]; · iexact HS2
      ipureintro
      exact ⟨rd_zero _ _ _ _, rd_zero _ _ _ _, rd_zero _ _ _ _, rd_zero _ _ _ _⟩
    ipureintro
    have M0 : body.sl.r c arg3 harg3 arg4 harg4 x0 x1 = _ := (p50 _ _).trans (mxS (m := k0_pay44) x0 x1 0 0 (Z x0 x1 0) K0 Q0)
    have M1 : body.sl.r_2 c arg3 harg3 arg4 harg4 x0 x1 = _ := (p53 _ _ _).trans (mxS (m := k0_pay45) x0 x1 1 0 (Z x0 x1 1) K0 Q1)
    have M2 : body.sl.r_3 c arg3 harg3 arg4 harg4 x0 x1 = _ := (p56 _ _ _).trans (mxS (m := k0_pay46) x0 x1 2 0 (Z x0 x1 2) K0 Q2)
    have M3 : k0_pay60 k0_pay47 (body.sl.r_4 c arg3 harg3 arg4 harg4 x0 x1) = _ := (p60 _ _ _).trans (mxS (m := k0_pay47) x0 x1 3 0 (Z x0 x1 3) K0 Q3)
    rw [M0, M1, M2, M3]; exact Z8 x0 x1
  have ht : Scf.trips k0_t1_loop.lb k0_t1_loop.ub k0_t1_loop.st = 3 := by decide +kernel
  rw [ht]
  unfold inv
  iintro %acc ⟨H0, H1, H2, ⟨%f7, HS0, %h7⟩, ⟨%f8, HS1⟩, ⟨%f9, HS2, %h9⟩, %hacc⟩
  rw [C3 x0 x1] at hacc
  subst hacc
  sl_exec
  sl_step
  iapply Hk
  have K7 := ld_k arg4 harg4 x1 7 _ inb_S4096x128_S512x128_3584_0 rfl
  have Q0 := ld_q arg3 harg3 x0 0 _ inb_S1024x512_S1024x128_0_0 rfl
  have Q1 := ld_q arg3 harg3 x0 1 _ inb_S1024x512_S1024x128_0_128 rfl
  have Q2 := ld_q arg3 harg3 x0 2 _ inb_S1024x512_S1024x128_0_256 rfl
  have Q3 := ld_q arg3 harg3 x0 3 _ inb_S1024x512_S1024x128_0_384 rfl
  have V6 := ld_v arg5 harg5 x2 6 _ inb_S1x8x144x512_S1x1x144x512_0_6_0_0 rfl
  have V7 := ld_v arg5 harg5 x2 7 _ inb_S1x8x144x512_S1x1x144x512_0_7_0_0 rfl
  have N0 : body.sl.r_15 arg3 harg3 arg4 harg4 x0 x1 = mx x0 x1 0 8 := (p65 _ _ _).trans (mxS (m := mx x0 x1 0 7) x0 x1 0 7 rfl K7 Q0)
  have N1 : body.sl.r_17 arg3 harg3 arg4 harg4 x0 x1 = mx x0 x1 1 8 := (p69 _ _ _).trans (mxS (m := mx x0 x1 1 7) x0 x1 1 7 rfl K7 Q1)
  have N2 : body.sl.r_18 arg3 harg3 arg4 harg4 x0 x1 = mx x0 x1 2 8 := (p72 _ _ _).trans (mxS (m := mx x0 x1 2 7) x0 x1 2 7 rfl K7 Q2)
  have N3 : body.sl.r_19 arg3 harg3 arg4 harg4 x0 x1 = mx x0 x1 3 8 := (p75 _ _ _).trans (mxS (m := mx x0 x1 3 7) x0 x1 3 7 rfl K7 Q3)
  isplitl [H0]; · iexists _; isplitr; · ipureintro; exact harg3.read_unread x0
                  iexact H0
  isplitl [H1]; · iexists _; isplitr; · ipureintro; exact harg4.read_unread x1
                  iexact H1
  isplitl [H2]; · iexists _; isplitr; · ipureintro; exact harg5.read_unread x2
                  iexact H2
  isplitl [H3]
  · iexists _; isplitr; swap; · iexact H3
    ipureintro
    refine out_writes _ _ _ _ _ _ x0 x1 x2 ?_ ?_ ?_ ?_
    · refine outS x0 x1 x2 0 (rcf _ _ _ _ _ _).1.1 (rcf _ _ _ _ _ _).1.2 ?_
      exact acS x0 x1 x2 0 7 rfl N0 (congrArg k0_pay5 V7)
        ((rc7 _ _ _ _ _ _).1.trans (congrArg₂ k0_pay7 K7 Q0))
        ((rc9 _ _ _ _ _ zer zer zer _).1.trans (acS x0 x1 x2 0 6 rfl rfl (congrArg k0_pay5 V6) h7.1 h9.1))
    · refine outS x0 x1 x2 1 (rcf _ _ _ _ _ _).2.1.1 (rcf _ _ _ _ _ _).2.1.2 ?_
      exact acS x0 x1 x2 1 7 rfl N1 (congrArg k0_pay5 V7)
        ((rc7 _ _ _ _ _ _).2.1.trans (congrArg₂ k0_pay7 K7 Q1))
        ((rc9 _ _ _ _ _ _ zer zer _).2.1.trans (acS x0 x1 x2 1 6 rfl rfl (congrArg k0_pay5 V6) h7.2.1 h9.2.1))
    · refine outS x0 x1 x2 2 (rcf _ _ _ _ _ _).2.2.1.1 (rcf _ _ _ _ _ _).2.2.1.2 ?_
      exact acS x0 x1 x2 2 7 rfl N2 (congrArg k0_pay5 V7)
        ((rc7 _ _ _ _ _ _).2.2.1.trans (congrArg₂ k0_pay7 K7 Q2))
        ((rc9 _ _ _ _ _ _ _ zer _).2.2.1.trans (acS x0 x1 x2 2 6 rfl rfl (congrArg k0_pay5 V6) h7.2.2.1 h9.2.2.1))
    · refine outS x0 x1 x2 3 (rcf _ _ _ _ _ _).2.2.2.1 (rcf _ _ _ _ _ _).2.2.2.2 ?_
      exact acS x0 x1 x2 3 7 rfl N3 (congrArg k0_pay5 V7)
        ((rc7 _ _ _ _ _ _).2.2.2.trans (congrArg₂ k0_pay7 K7 Q3))
        ((rc9 _ _ _ _ _ _ _ _ _).2.2.2.trans (acS x0 x1 x2 3 6 rfl rfl (congrArg k0_pay5 V6) h7.2.2.2 h9.2.2.2))
  isplitl [HS0]; · iexists _; iexists _; isplitr; swap; · iexact HS0
                   ipureintro; rfl
  isplitl [HS1]; · iexists _; iexists _; isplitr; swap; · iexact HS1
                   ipureintro; rfl
  iexists _; iexists _; isplitr; swap; · iexact HS2
  ipureintro; rfl

end Cert.Attn

end
-- ==== Proof.AttnRun.lean ====
/- The whole run of the attention kernel: every grid point takes its blocks of queries, keys and values and leaves the
   block of results `outB`; so every array ends where the pipeline says, with every counter at zero. -/
module

public import proofs.«01_k».proof.Proof.AttnBody
public import Idealize.ShloMosaic.Lib.Claim

@[expose] public section

set_option maxRecDepth 16384

noncomputable section

namespace Cert.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What grid point `t` leaves in the block of results. -/
def outAt (c : Dev nD) (t : Fin cfg0.N) : Vec F S1024x512 .bf16 :=
  outB (iblk m c 0 t) (iblk m c 1 t) (iblk m c 2 t)

/-- The pipeline's data: inputs stay at their blocks, the result is `outAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- What a grid point starts from, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it leaves. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- A grid point does what the data say. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl, PhiA0_eq]
  iintro ⟨⟨⟨HS0, HS1, HS2⟩, Hg⟩, Ho, ⟨%d0, H0⟩, ⟨%d1, H1⟩, ⟨%d2, H2⟩, ⟨%d3, H3⟩⟩
  iapply (body c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  iintro ⟨H0, H1, H2, H3, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every array of the pipeline ends at what the data say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Attn

end
-- ==== Proof.AttnPay.lean ====
/- What the attention kernel leaves in a block of results, over the extended reals: where the blocks of queries and keys
   hold reals and row 128 of the values' block is ones, each entry is the softmax's mean of a row of the values. -/
module

public import proofs.«01_k».proof.Proof.AttnSpec
public import proofs.«01_k».proof.Proof.AttnMath
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen

/-! ## The stored values at an index -/

theorem pay6_at (kc : Vec Ideal S512x128 .bf16) (q : Vec Ideal S1024x128 .bf16) (k : Fin 512) (j : Fin 1024) :
    k0_pay6 (F := Ideal) kc q (ix2 k j) = ∑ d : Fin 128, kc (ix2 k d) * q (ix2 j d) := by
  pointwise [k0_pay6, k0_pay4]

theorem pay7_at (kc : Vec Ideal S512x128 .bf16) (q : Vec Ideal S1024x128 .bf16) (k : Fin 512) (j : Fin 1024) :
    k0_pay7 (F := Ideal) kc q (ix3 (0 : Fin 1) k j) = k0_pay6 (F := Ideal) kc q (ix2 k j) := by
  pointwise [k0_pay7]

theorem pay8_at (m : FVec Ideal S1x1024 .f32) (kc : Vec Ideal S512x128 .bf16) (q : Vec Ideal S1024x128 .bf16) (j : Fin 1024)
    (hm : m (ix2 (0 : Fin 1) j) = (⊥ : EReal) ∨ ∃ r : ℝ, m (ix2 (0 : Fin 1) j) = (r : EReal))
    (h : ∀ k : Fin 512, ∃ r : ℝ, k0_pay6 (F := Ideal) kc q (ix2 k j) = (r : EReal)) :
    ∃ r : ℝ, k0_pay8 (F := Ideal) m kc q (ix2 (0 : Fin 1) j) = (r : EReal) := by
  pointwise [k0_pay8]
  rw [negInf]
  exact max_real hm (fold_real _ fun i => fold_real _ fun i' => h _)

theorem pay18_at (m m' : FVec Ideal S1x1024 .f32) (vt : FVec Ideal S144x512 .bf16) (st : Vec Ideal S1x512x1024 .f32)
    (a : Vec Ideal S1x144x1024 .f32) (r : Fin 144) (j : Fin 1024) :
    k0_pay19 (k0_pay18 (F := Ideal) m m' vt st a) (ix3 (0 : Fin 1) r j)
      = Ideal.exp2 (m (ix2 (0 : Fin 1) j) - m' (ix2 (0 : Fin 1) j)) * a (ix3 (0 : Fin 1) r j)
        + ∑ k : Fin 512, vt (ix2 r k) * Ideal.exp2 (st (ix3 (0 : Fin 1) k j) - m' (ix2 (0 : Fin 1) j)) := by
  pointwise [k0_pay18, k0_pay19]
  rfl

theorem pay5_at (v : Vec Ideal S1x1x144x512 .bf16) (r : Fin 144) (k : Fin 512) :
    k0_pay5 (F := Ideal) v (ix2 r k) = v (ix4 (0 : Fin 1) (0 : Fin 1) r k) := by
  pointwise [k0_pay5]

theorem pay2_at (d : Vec Ideal S1x1x1024 .f32) (n : Vec Ideal S1x128x1024 .f32) (j : Fin 1024) (e : Fin 128) :
    k0_pay2 (F := Ideal) d n (ix2 j e)
      = Ideal.div (n (ix3 (0 : Fin 1) e j)) (d (ix3 (0 : Fin 1) (0 : Fin 1) j)) := by
  pointwise [k0_pay2]

theorem pay44_at (j : Fin 1024) : k0_pay44 (F := Ideal) (ix2 (0 : Fin 1) j) = (⊥ : EReal) := by
  show Ideal.ofBits .f32 4286578688#32 = ⊥
  exact negInf

/-! ## The chunks at an index -/

theorem kch_at (x1 : Vec Ideal S4096x128 .bf16) (c : ℕ) (k : Fin 512) (d : Fin 128) :
    kch x1 c (ix2 k d) = x1 (ix2 (⟨512 * (c % 8) + k.val, by omega⟩ : Fin 4096) d) := by
  refine congrArg x1 (funext fun a => Fin.ext ?_)
  match a with
  | ⟨0, _⟩ => show 512 * (c % 8) + 1 * k.val = 512 * (c % 8) + k.val; omega
  | ⟨1, _⟩ => show 0 + 1 * d.val = d.val; omega

theorem vch_at (x2 : Vec Ideal S1x8x144x512 .bf16) (c : ℕ) (r : Fin 144) (k : Fin 512) :
    vch x2 c (ix4 (0 : Fin 1) (0 : Fin 1) r k) = x2 (ix4 (0 : Fin 1) (⟨c % 8, by omega⟩ : Fin 8) r k) := by
  refine congrArg x2 (funext fun a => Fin.ext ?_)
  match a with
  | ⟨0, _⟩ => rfl
  | ⟨1, _⟩ => show c % 8 + 1 * 0 = c % 8; omega
  | ⟨2, _⟩ => show 0 + 1 * r.val = r.val; omega
  | ⟨3, _⟩ => show 0 + 1 * k.val = k.val; omega

theorem qh_at (x0 : Vec Ideal S1024x512 .bf16) (g : Fin 4) (j : Fin 1024) (d : Fin 128) :
    qh x0 g (ix2 j d) = x0 (ix2 j (⟨128 * g.val + d.val, by omega⟩ : Fin 512)) := by
  refine congrArg x0 (funext fun a => Fin.ext ?_)
  match a with
  | ⟨0, _⟩ => show 0 + 1 * j.val = j.val; omega
  | ⟨1, _⟩ => show 128 * g.val + 1 * d.val = 128 * g.val + d.val; omega

/-! ## The block of results -/

section Block
variable (x0 : Vec Ideal S1024x512 .bf16) (x1 : Vec Ideal S4096x128 .bf16) (x2 : Vec Ideal S1x8x144x512 .bf16)
variable (z0 : S1024x512.Idx → ℝ) (z1 : S4096x128.Idx → ℝ)

/-- The score of key `t` and query `j` of head `g`, in base two. -/
def scR (g : Fin 4) (j : Fin 1024) (t : Fin 4096) : ℝ :=
  ∑ d : Fin 128, z1 (ix2 t d) * z0 (ix2 j (⟨128 * g.val + d.val, by omega⟩ : Fin 512))

/-- The same by chunk and place in the chunk. -/
def scC (g : Fin 4) (j : Fin 1024) (c : ℕ) (k : Fin 512) : ℝ :=
  scR z0 z1 g j (⟨512 * (c % 8) + k.val, by omega⟩ : Fin 4096)

variable (h0 : ∀ i, x0 i = ((z0 i : ℝ) : EReal)) (h1 : ∀ i, x1 i = ((z1 i : ℝ) : EReal))

include h0 h1 in
theorem sc6 (g : Fin 4) (c : ℕ) (k : Fin 512) (j : Fin 1024) :
    k0_pay6 (F := Ideal) (kch x1 c) (qh x0 g) (ix2 k j) = ((scC z0 z1 g j c k : ℝ) : EReal) := by
  rw [pay6_at, scC, scR, ← coe_sum]
  exact Finset.sum_congr rfl fun d _ => by rw [kch_at, qh_at, h0, h1, EReal.coe_mul]

include h0 h1 in
theorem scB_at (g : Fin 4) (c : ℕ) (k : Fin 512) (j : Fin 1024) :
    scB x0 x1 g c (ix3 (0 : Fin 1) k j) = ((scC z0 z1 g j c k : ℝ) : EReal) :=
  (pay7_at _ _ k j).trans (sc6 x0 x1 z0 z1 h0 h1 g c k j)

include h0 h1 in
/-- After one chunk or more the running maximum is real. -/
theorem mx_real (g : Fin 4) (j : Fin 1024) (n : ℕ) : ∃ r : ℝ, mx x0 x1 g (n + 1) (ix2 (0 : Fin 1) j) = (r : EReal) := by
  induction n with
  | zero => exact pay8_at _ _ _ j (Or.inl (pay44_at j)) fun k => ⟨_, sc6 x0 x1 z0 z1 h0 h1 g 0 k j⟩
  | succ n ih => exact pay8_at _ _ _ j (Or.inr ih) fun k => ⟨_, sc6 x0 x1 z0 z1 h0 h1 g (n + 1) k j⟩

/-- Eight chunks of 512 are the 4096 keys. -/
theorem sum_chunks (f : ℕ → Fin 512 → EReal) :
    ∑ c ∈ Finset.range 8, ∑ k, f c k = ∑ t : Fin 4096, f (t.val / 512) ⟨t.val % 512, Nat.mod_lt _ (by norm_num)⟩ := by
  rw [Finset.sum_range, ← Fintype.sum_prod_type' (f := fun (c : Fin 8) (k : Fin 512) => f c.val k)]
  exact (Equiv.sum_comp (finProdFinEquiv (m := 8) (n := 512)).symm fun p : Fin 8 × Fin 512 => f p.1.val p.2).symm

include h0 h1 in
/-- The running sums after all chunks, relative to one real that does not depend on the row. -/
theorem ac_at (g : Fin 4) (j : Fin 1024) : ∃ μ : ℝ, ∀ r : Fin 144,
    ac x0 x1 x2 g 8 (ix3 (0 : Fin 1) r j)
      = ∑ t : Fin 4096, x2 (ix4 (0 : Fin 1) (⟨t.val / 512, by omega⟩ : Fin 8) r (⟨t.val % 512, by omega⟩ : Fin 512))
          * ((Real.rpow 2 (scR z0 z1 g j t - μ) : ℝ) : EReal) := by
  choose μ hμ using mx_real x0 x1 z0 z1 h0 h1 g j
  refine ⟨μ 7, fun r => ?_⟩
  have h := online (scC z0 z1 g j) (fun c k => x2 (ix4 (0 : Fin 1) (⟨c % 8, by omega⟩ : Fin 8) r k))
    (fun n => mx x0 x1 g n (ix2 (0 : Fin 1) j)) (fun n => ac x0 x1 x2 g n (ix3 (0 : Fin 1) r j)) μ hμ
    (show Ideal.ofBits .f32 0#32 = 0 from Ideal.ofBits_zero_f32)
    (fun n => (pay18_at _ _ _ _ _ r j).trans (congrArg₂ (· + ·) rfl (Finset.sum_congr rfl fun k _ => by
      rw [pay5_at, vch_at, scB_at x0 x1 z0 z1 h0 h1]))) 7
  refine h.trans ((sum_chunks _).trans (Finset.sum_congr rfl fun t _ => ?_))
  have e8 : t.val / 512 % 8 = t.val / 512 := by omega
  have et : (⟨512 * (t.val / 512) + t.val % 512, by omega⟩ : Fin 4096) = t := Fin.ext (by show 512 * (t.val / 512) + t.val % 512 = t.val; omega)
  show x2 (ix4 (0 : Fin 1) (⟨t.val / 512 % 8, _⟩ : Fin 8) r _)
      * ((Real.rpow 2 (scR z0 z1 g j (⟨512 * (t.val / 512 % 8) + t.val % 512, _⟩ : Fin 4096) - μ 7) : ℝ) : EReal) = _
  simp only [e8]
  rw [et]

variable (h2 : ∀ (n : Fin 8) (k : Fin 512), x2 (ix4 (0 : Fin 1) n (128 : Fin 144) k) = (1 : EReal))

include h0 h1 h2 in
/-- The block of results of head `g`. -/
theorem outH_at (g : Fin 4) (j : Fin 1024) (e : Fin 128) :
    outH x0 x1 x2 g (ix2 j e)
      = ∑ t : Fin 4096, ((wt (fun t => scR z0 z1 g j t * Real.log 2) t : ℝ) : EReal)
          * x2 (ix4 (0 : Fin 1) (⟨t.val / 512, by omega⟩ : Fin 8) (⟨e.val, by omega⟩ : Fin 144) (⟨t.val % 512, by omega⟩ : Fin 512)) := by
  obtain ⟨μ, hμ⟩ := ac_at x0 x1 x2 z0 z1 h0 h1 g j
  haveI : Nonempty (Fin 4096) := ⟨0⟩
  refine (pay2_at _ _ j e).trans ?_
  show Ideal.div (ac x0 x1 x2 g 8 (ix3 (0 : Fin 1) (⟨e.val, by omega⟩ : Fin 144) j))
    (ac x0 x1 x2 g 8 (ix3 (0 : Fin 1) (128 : Fin 144) j)) = _
  rw [hμ, hμ]
  simp only [h2]
  exact quot (fun t => scR z0 z1 g j t * Real.log 2) (scR z0 z1 g j) _ μ fun _ => rfl

include h0 h1 h2 in
/-- The whole block of results. -/
theorem outB_at (j : Fin 1024) (l : Fin 512) :
    outB x0 x1 x2 (ix2 j l)
      = ∑ t : Fin 4096, ((wt (fun t => scR z0 z1 (⟨l.val / 128, by omega⟩ : Fin 4) j t * Real.log 2) t : ℝ) : EReal)
          * x2 (ix4 (0 : Fin 1) (⟨t.val / 512, by omega⟩ : Fin 8) (⟨l.val % 128, by omega⟩ : Fin 144) (⟨t.val % 512, by omega⟩ : Fin 512)) :=
  outH_at x0 x1 x2 z0 z1 h0 h1 h2 (⟨l.val / 128, by omega⟩ : Fin 4) j (⟨l.val % 128, by omega⟩ : Fin 128)

end Block

end Cert.Attn

end
-- ==== Proof.AttnHost.lean ====
/- The attention kernel's arrays in HBM, read at an index, and its result array: the host's scales, casts, reshapes and
   transposes before the call, the blocks the call reads, and the array it leaves, as one function of the arguments. -/
module

public import proofs.«01_k».proof.Proof.AttnRun
public import proofs.«01_k».proof.Proof.AttnPay
public import Idealize.ShloMosaic.Lib.Pointwise
public import Idealize.ShloMosaic.Lib.IdealHost
public import Idealize.ShloMosaic.Lib.Routing.OpsSet
public import Idealize.ShloMosaic.Lib.Routing.OpsPair

@[expose] public section

set_option maxRecDepth 16384

noncomputable section

namespace Cert.Attn

open Idealize.ShloMosaic Idealize.ShloMosaic.TcCoe Idealize.SL.Sem
open Cert.KernelIdeal Cert.KernelIdeal.Gen Cert.KernelIdeal.Facts

/-! ## The host's arrays -/

/-- The scaled queries, -/
def hQ (x0 : FVec Ideal S4x4096x8x128 .f32) : FVec Ideal S16384x1024 .bf16 :=
  truncf .bf16 (mulf (shapeCast _ x0 shapeCasts_S4x4096x8x128_S16384x1024)
    (broadcastInDim S16384x1024 ![] bcast_S_S16384x1024
      (Host.divf (constant S_ .f32 0x3F800000#32)
        (mulf (Host.sqrt (constant S_ .f32 0x43000000#32)) (Host.log (constant S_ .f32 0x40000000#32)))))) bitsLt_bf16_f32

/-- the keys (and the values before they are transposed), -/
def hK (x1 : FVec Ideal S4x4096x2x128 .f32) : FVec Ideal S16384x256 .bf16 :=
  truncf .bf16 (shapeCast _ x1 shapeCasts_S4x4096x2x128_S16384x256) bitsLt_bf16_f32

/-- the values by head and chunk, transposed, -/
def hT (x2 : FVec Ideal S4x4096x2x128 .f32) : FVec Ideal S8x8x128x512 .bf16 :=
  shapeCast _ (transpose S4x2x8x128x512 [0, 3, 1, 4, 2] (shapeCast _ (hK x2) shapeCasts_S16384x256_S4x8x512x2x128)
    transposes_S4x8x512x2x128_S4x2x8x128x512_0_3_1_4_2) shapeCasts_S4x2x8x128x512_S8x8x128x512

/-- sixteen rows of which the first is ones, -/
def hOne : FVec Ideal S8x8x16x512 .bf16 :=
  Host.scatter scatter_S8x8x16x512_S1_S8x8x512_012_2_2_0 (fun _ b => b)
    (broadcastInDim S8x8x16x512 ![] bcast_S_S8x8x16x512 (constant S_ .bf16 0x0000#16))
    (broadcastInDim S1 ![] bcast_S_S1 (constantI S_ 32 0#32))
    (broadcastInDim S8x8x512 ![] bcast_S_S8x8x512 (constant S_ .bf16 0x3F80#16))

/-- and the two together. -/
def hV (x2 : FVec Ideal S4x4096x2x128 .f32) : FVec Ideal S8x8x144x512 .bf16 :=
  concatenate S8x8x144x512 2 [⟨S8x8x128x512, hT x2⟩, ⟨S8x8x16x512, hOne⟩]
    concatenates_S8x8x128x512_S8x8x16x512_S8x8x144x512_d2

/-- The factor of the queries: one over the root of 128 and the logarithm of 2. -/
def cs : ℝ := 1 / (Real.sqrt 128 * Real.log 2)

theorem w128 : Ideal.ofBits .f32 1124073472#32 = ((128 : ℝ) : EReal) := by
  simp [Ideal.ofBits, Ideal.ieee]; norm_cast; norm_num
theorem w2 : Ideal.ofBits .f32 1073741824#32 = ((2 : ℝ) : EReal) := by
  simp [Ideal.ofBits, Ideal.ieee]; norm_cast; norm_num

theorem root : Ideal.sqrt (Ideal.ofBits .f32 1124073472#32) = ((Real.sqrt 128 : ℝ) : EReal) := by
  rw [w128, Ideal.sqrt_coe, if_neg (by norm_num)]

theorem log2_pos : 0 < Real.log 2 := Real.log_pos (by norm_num)
theorem root_pos : 0 < Real.sqrt 128 := Real.sqrt_pos.mpr (by norm_num)

theorem scale_eq : Ideal.div 1 (Ideal.sqrt (Ideal.ofBits .f32 1124073472#32) * Ideal.log (Ideal.ofBits .f32 1073741824#32))
    = ((cs : ℝ) : EReal) := by
  rw [root, w2, Ideal.log_coe, if_neg (by norm_num), ← EReal.coe_mul, Ideal.div_coe (mul_pos root_pos log2_pos).ne', one_mul, cs]

theorem hQ_at (x0 : FVec Ideal S4x4096x8x128 .f32) (r : Fin 16384) (l : Fin 1024) :
    hQ x0 (ix2 r l) = x0 (ix4 (⟨r.val / 4096, by omega⟩ : Fin 4) (⟨r.val % 4096, by omega⟩ : Fin 4096)
      (⟨l.val / 128, by omega⟩ : Fin 8) (⟨l.val % 128, by omega⟩ : Fin 128)) * ((cs : ℝ) : EReal) := by
  rw [← scale_eq]
  pointwise [hQ]

theorem hK_at (x1 : FVec Ideal S4x4096x2x128 .f32) (r : Fin 16384) (l : Fin 256) :
    hK x1 (ix2 r l) = x1 (ix4 (⟨r.val / 4096, by omega⟩ : Fin 4) (⟨r.val % 4096, by omega⟩ : Fin 4096)
      (⟨l.val / 128, by omega⟩ : Fin 2) (⟨l.val % 128, by omega⟩ : Fin 128)) := by
  pointwise [hK]

theorem hT_at (x2 : FVec Ideal S4x4096x2x128 .f32) (i n : Fin 8) (e : Fin 128) (k : Fin 512) :
    hT x2 (ix4 i n e k) = x2 (ix4 (⟨i.val / 2, by omega⟩ : Fin 4) (⟨512 * n.val + k.val, by omega⟩ : Fin 4096)
      (⟨i.val % 2, by omega⟩ : Fin 2) e) := by
  pointwise [hT, hK]
  refine congrArg x2 (funext fun a => Fin.ext ?_)
  match a with
  | ⟨0, _⟩ => show (i.val / 2 * 4096 + n.val * 512 + k.val) / 4096 = i.val / 2; omega
  | ⟨1, _⟩ => show (i.val / 2 * 4096 + n.val * 512 + k.val) % 4096 = 512 * n.val + k.val; omega
  | ⟨2, _⟩ => show (i.val % 2 * 128 + e.val) / 128 = i.val % 2; omega
  | ⟨3, _⟩ => rfl

theorem hOne_at (i n : Fin 8) (k : Fin 512) : hOne (ix4 i n (0 : Fin 16) k) = (1 : EReal) := by
  refine Routing.scatter_set_hit _ _ _ _ _ _ (fun _ _ => ?_) (ix3 i n k) ?_
  · exact Ideal.ofBits_one_bf16
  · rw [Routing.resultIdx?_eq_some]
    intro a
    match a with
    | ⟨0, _⟩ => exact zero_add ((i.val : ℕ) : ℤ)
    | ⟨1, _⟩ => exact zero_add ((n.val : ℕ) : ℤ)
    | ⟨2, _⟩ => rfl
    | ⟨3, _⟩ => exact zero_add ((k.val : ℕ) : ℤ)

theorem hV_at (x2 : FVec Ideal S4x4096x2x128 .f32) (i n : Fin 8) (e : Fin 144) (k : Fin 512) :
    hV x2 (ix4 i n e k) = if h : e.val < 128 then hT x2 (ix4 i n (⟨e.val, h⟩ : Fin 128) k)
      else hOne (ix4 i n (⟨e.val - 128, by omega⟩ : Fin 16) k) := by
  pointwise [hV]

variable (m : (ℓ : Loc nD τ sig) → Buf (Elt Ideal) ℓ)

theorem V7 (c : Dev nD) : V m c main_v7 = hQ (m ((c.tc : Thread nD τ).loc main_arg0)) := by
  unfold V
  after_results <;> rfl

theorem V9 (c : Dev nD) : V m c main_v9 = hK (m ((c.tc : Thread nD τ).loc main_arg1)) := by
  unfold V
  after_results <;> rfl

theorem V19 (c : Dev nD) : V m c main_v19 = hV (m ((c.tc : Thread nD τ).loc main_arg2)) := by
  unfold V
  after_results <;> rfl

/-! ## The blocks -/

theorem ix_0 : ∀ t : Fin cfg0.N, win0_0.index t (0 : Fin 2) = t.val / 8 * 4 + t.val % 4 ∧ win0_0.index t (1 : Fin 2) = t.val / 4 % 2 :=
  (by decide +kernel : ∀ t : Fin grid0.N, _)
theorem ix_1 : ∀ t : Fin cfg0.N, win0_1.index t (0 : Fin 2) = t.val / 8 ∧ win0_1.index t (1 : Fin 2) = t.val / 4 % 2 :=
  (by decide +kernel : ∀ t : Fin grid0.N, _)
theorem ix_2 : ∀ t : Fin cfg0.N, win0_2.index t (0 : Fin 4) = t.val / 4 ∧ win0_2.index t (1 : Fin 4) = 0
    ∧ win0_2.index t (2 : Fin 4) = 0 ∧ win0_2.index t (3 : Fin 4) = 0 :=
  (by decide +kernel : ∀ t : Fin grid0.N, _)
theorem ix_3 : ∀ t : Fin cfg0.N, win0_3.index t (0 : Fin 2) = t.val / 8 * 4 + t.val % 4 ∧ win0_3.index t (1 : Fin 2) = t.val / 4 % 2 :=
  (by decide +kernel : ∀ t : Fin grid0.N, _)

theorem tlt (t : Fin cfg0.N) : t.val < 32 := t.isLt

theorem emb_0 (t : Fin cfg0.N) (j : Fin 1024) (l : Fin 512) : ((cfg0.win 0).blk t).view.emb (ix2 j l)
    = ix2 (⟨(t.val / 8 * 4 + t.val % 4) * 1024 + j.val, by have := tlt t; omega⟩ : Fin 16384)
        (⟨t.val / 4 % 2 * 512 + l.val, by omega⟩ : Fin 1024) := by
  obtain ⟨e0, e1⟩ := ix_0 t
  funext a; apply Fin.ext
  match a with
  | ⟨0, _⟩ => show win0_0.index t (0 : Fin 2) * 1024 + 1 * j.val = (t.val / 8 * 4 + t.val % 4) * 1024 + j.val; omega
  | ⟨1, _⟩ => show win0_0.index t (1 : Fin 2) * 512 + 1 * l.val = t.val / 4 % 2 * 512 + l.val; omega

theorem emb_1 (t : Fin cfg0.N) (j : Fin 4096) (d : Fin 128) : ((cfg0.win 1).blk t).view.emb (ix2 j d)
    = ix2 (⟨t.val / 8 * 4096 + j.val, by have := tlt t; omega⟩ : Fin 16384)
        (⟨t.val / 4 % 2 * 128 + d.val, by omega⟩ : Fin 256) := by
  obtain ⟨e0, e1⟩ := ix_1 t
  funext a; apply Fin.ext
  match a with
  | ⟨0, _⟩ => show win0_1.index t (0 : Fin 2) * 4096 + 1 * j.val = t.val / 8 * 4096 + j.val; omega
  | ⟨1, _⟩ => show win0_1.index t (1 : Fin 2) * 128 + 1 * d.val = t.val / 4 % 2 * 128 + d.val; omega

theorem emb_2 (t : Fin cfg0.N) (n : Fin 8) (e : Fin 144) (k : Fin 512) :
    ((cfg0.win 2).blk t).view.emb (ix4 (0 : Fin 1) n e k)
      = ix4 (⟨t.val / 4, by have := tlt t; omega⟩ : Fin 8) n e k := by
  obtain ⟨e0, e1, e2, e3⟩ := ix_2 t
  funext a; apply Fin.ext
  match a with
  | ⟨0, _⟩ => show win0_2.index t (0 : Fin 4) * 1 + 1 * 0 = t.val / 4; omega
  | ⟨1, _⟩ => show win0_2.index t (1 : Fin 4) * 8 + 1 * n.val = n.val; omega
  | ⟨2, _⟩ => show win0_2.index t (2 : Fin 4) * 144 + 1 * e.val = e.val; omega
  | ⟨3, _⟩ => show win0_2.index t (3 : Fin 4) * 512 + 1 * k.val = k.val; omega

theorem emb_3 (t : Fin cfg0.N) (j : Fin 1024) (l : Fin 512) : ((cfg0.win 3).blk t).view.emb (ix2 j l)
    = ix2 (⟨(t.val / 8 * 4 + t.val % 4) * 1024 + j.val, by have := tlt t; omega⟩ : Fin 16384)
        (⟨t.val / 4 % 2 * 512 + l.val, by omega⟩ : Fin 1024) := by
  obtain ⟨e0, e1⟩ := ix_3 t
  funext a; apply Fin.ext
  match a with
  | ⟨0, _⟩ => show win0_3.index t (0 : Fin 2) * 1024 + 1 * j.val = (t.val / 8 * 4 + t.val % 4) * 1024 + j.val; omega
  | ⟨1, _⟩ => show win0_3.index t (1 : Fin 2) * 512 + 1 * l.val = t.val / 4 % 2 * 512 + l.val; omega

end Cert.Attn

end
-- ==== Proof.AttnSoft.lean ====
/- The mathematics both programs compute: softmax attention with grouped heads, as a function of the argument arrays. -/
module

public import proofs.«01_k».proof.Proof.AttnMath
public import Idealize.ShloMosaic.Lib.Pointwise

@[expose] public section

noncomputable section

namespace Cert.Attn

open Idealize.ShloMosaic

/-- Queries: batch, position, head, feature. -/
abbrev SQ : Shape := ⟨4, ![4, 4096, 8, 128]⟩
/-- Keys and values: batch, position, head of keys, feature. -/
abbrev SK : Shape := ⟨4, ![4, 4096, 2, 128]⟩
/-- Results: a row for a batch and a position, a column for a head and a feature. -/
abbrev SO : Shape := ⟨2, ![16384, 1024]⟩

/-- The score of key `t` for the query of row `r` and the head of column `l`: their product over the root of 128. -/
def sc (y0 : SQ.Idx → ℝ) (y1 : SK.Idx → ℝ) (r : Fin 16384) (l : Fin 1024) (t : Fin 4096) : ℝ :=
  (∑ d : Fin 128, y0 (ix4 (⟨r.val / 4096, by omega⟩ : Fin 4) (⟨r.val % 4096, by omega⟩ : Fin 4096) (⟨l.val / 128, by omega⟩ : Fin 8) d)
    * y1 (ix4 (⟨r.val / 4096, by omega⟩ : Fin 4) t (⟨l.val / 512, by omega⟩ : Fin 2) d)) * (1 / Real.sqrt 128)

/-- The mean of the values under the softmax of the scores. -/
def attAt (y0 : SQ.Idx → ℝ) (y1 : SK.Idx → ℝ) (x2 : SK.Idx → EReal) (r : Fin 16384) (l : Fin 1024) : EReal :=
  ∑ t : Fin 4096, ((wt (sc y0 y1 r l) t : ℝ) : EReal)
    * x2 (ix4 (⟨r.val / 4096, by omega⟩ : Fin 4) t (⟨l.val / 512, by omega⟩ : Fin 2) (⟨l.val % 128, by omega⟩ : Fin 128))

/-- The array of them. -/
def att (y0 : SQ.Idx → ℝ) (y1 : SK.Idx → ℝ) (x2 : SK.Idx → EReal) : SO.Idx → EReal := fun i =>
  attAt y0 y1 x2 (i 0 : Fin 16384) (i 1 : Fin 1024)

end Cert.Attn

end
-- ==== Proof.AttnValue.lean ====
/- The attention kernel's result array is softmax attention of its arguments. -/
module

public import proofs.«01_k».proof.Proof.AttnHost
public import proofs.«01_k».proof.Proof.AttnSoft

@[expose] public section

set_option maxRecDepth 16384

noncomputable section

namespace Cert.Attn

open Idealize.ShloMosaic Idealize.ShloMosaic.TcCoe Idealize.SL.Sem
open Cert.KernelIdeal Cert.KernelIdeal.Gen Cert.KernelIdeal.Facts

variable (m : (ℓ : Loc nD τ sig) → Buf (Elt Ideal) ℓ) (ρ : Dev nD → PrngReg)

/-- The arguments of a device. -/
def A0 (c : Dev nD) : FVec Ideal S4x4096x8x128 .f32 := m ((c.tc : Thread nD τ).loc main_arg0)
def A1 (c : Dev nD) : FVec Ideal S4x4096x2x128 .f32 := m ((c.tc : Thread nD τ).loc main_arg1)
def A2 (c : Dev nD) : FVec Ideal S4x4096x2x128 .f32 := m ((c.tc : Thread nD τ).loc main_arg2)

theorem blk0_at (c : Dev nD) (t : Fin cfg0.N) (j : Fin 1024) (l : Fin 512) : iblk m c 0 t (ix2 j l)
    = hQ (A0 m c) (ix2 (⟨(t.val / 8 * 4 + t.val % 4) * 1024 + j.val, by have := tlt t; omega⟩ : Fin 16384)
        (⟨t.val / 4 % 2 * 512 + l.val, by omega⟩ : Fin 1024)) := by
  show V m c main_v7 (((cfg0.win 0).blk t).view.emb (ix2 j l)) = _
  rw [V7, emb_0]; rfl

theorem blk1_at (c : Dev nD) (t : Fin cfg0.N) (j : Fin 4096) (d : Fin 128) : iblk m c 1 t (ix2 j d)
    = hK (A1 m c) (ix2 (⟨t.val / 8 * 4096 + j.val, by have := tlt t; omega⟩ : Fin 16384)
        (⟨t.val / 4 % 2 * 128 + d.val, by omega⟩ : Fin 256)) := by
  show V m c main_v9 (((cfg0.win 1).blk t).view.emb (ix2 j d)) = _
  rw [V9, emb_1]; rfl

theorem blk2_at (c : Dev nD) (t : Fin cfg0.N) (n : Fin 8) (e : Fin 144) (k : Fin 512) :
    iblk m c 2 t (ix4 (0 : Fin 1) n e k) = hV (A2 m c) (ix4 (⟨t.val / 4, by have := tlt t; omega⟩ : Fin 8) n e k) := by
  show V m c main_v19 (((cfg0.win 2).blk t).view.emb (ix4 (0 : Fin 1) n e k)) = _
  rw [V19, emb_2]; rfl

section
variable (c : Dev nD) (y0 : SQ.Idx → ℝ) (y1 : SK.Idx → ℝ)
variable (h0 : ∀ i, A0 m c i = ((y0 i : ℝ) : EReal)) (h1 : ∀ i, A1 m c i = ((y1 i : ℝ) : EReal))

/-- The reals in the block of queries at point `t`, -/
def z0At (t : Fin cfg0.N) (j : Fin 1024) (l : Fin 512) : ℝ :=
  y0 (ix4 (⟨((t.val / 8 * 4 + t.val % 4) * 1024 + j.val) / 4096, by have := tlt t; omega⟩ : Fin 4)
    (⟨((t.val / 8 * 4 + t.val % 4) * 1024 + j.val) % 4096, by omega⟩ : Fin 4096)
    (⟨(t.val / 4 % 2 * 512 + l.val) / 128, by omega⟩ : Fin 8)
    (⟨(t.val / 4 % 2 * 512 + l.val) % 128, by omega⟩ : Fin 128)) * cs

def z0 (t : Fin cfg0.N) : S1024x512.Idx → ℝ := fun i => z0At y0 t (i 0 : Fin 1024) (i 1 : Fin 512)

/-- and in the block of keys. -/
def z1At (t : Fin cfg0.N) (j : Fin 4096) (d : Fin 128) : ℝ :=
  y1 (ix4 (⟨(t.val / 8 * 4096 + j.val) / 4096, by have := tlt t; omega⟩ : Fin 4)
    (⟨(t.val / 8 * 4096 + j.val) % 4096, by omega⟩ : Fin 4096)
    (⟨(t.val / 4 % 2 * 128 + d.val) / 128, by omega⟩ : Fin 2)
    (⟨(t.val / 4 % 2 * 128 + d.val) % 128, by omega⟩ : Fin 128))

def z1 (t : Fin cfg0.N) : S4096x128.Idx → ℝ := fun i => z1At y1 t (i 0 : Fin 4096) (i 1 : Fin 128)

include h0 in
theorem blk0_real (t : Fin cfg0.N) (i : S1024x512.Idx) : iblk m c 0 t i = ((z0 y0 t i : ℝ) : EReal) := by
  rw [show i = ix2 (i 0 : Fin 1024) (i 1 : Fin 512) from eq_ix2 i]
  refine (blk0_at m c t _ _).trans ?_
  rw [hQ_at, h0, ← EReal.coe_mul]; rfl

include h1 in
theorem blk1_real (t : Fin cfg0.N) (i : S4096x128.Idx) : iblk m c 1 t i = ((z1 y1 t i : ℝ) : EReal) := by
  rw [show i = ix2 (i 0 : Fin 4096) (i 1 : Fin 128) from eq_ix2 i]
  refine (blk1_at m c t _ _).trans ?_
  rw [hK_at, h1]; rfl

theorem blk2_one (t : Fin cfg0.N) (n : Fin 8) (k : Fin 512) :
    iblk m c 2 t (ix4 (0 : Fin 1) n (128 : Fin 144) k) = (1 : EReal) := by
  rw [blk2_at, hV_at, dif_neg (by decide)]
  exact hOne_at _ n k

/-- The scores of a block, times the logarithm of 2, are the scores. -/
theorem sc_eq (t : Fin cfg0.N) (j : Fin 1024) (l : Fin 512) (u : Fin 4096) :
    scR (z0 y0 t) (z1 y1 t) (⟨l.val / 128, by omega⟩ : Fin 4) j u * Real.log 2
      = sc y0 y1 (⟨(t.val / 8 * 4 + t.val % 4) * 1024 + j.val, by have := tlt t; omega⟩ : Fin 16384)
          (⟨t.val / 4 % 2 * 512 + l.val, by omega⟩ : Fin 1024) u := by
  have ht := tlt t
  unfold scR sc
  rw [Finset.sum_mul, Finset.sum_mul]
  refine Finset.sum_congr rfl fun d _ => ?_
  have hz : z0 y0 t (ix2 j (⟨128 * (l.val / 128) + d.val, by omega⟩ : Fin 512))
      = y0 (ix4 (⟨((t.val / 8 * 4 + t.val % 4) * 1024 + j.val) / 4096, by omega⟩ : Fin 4)
          (⟨((t.val / 8 * 4 + t.val % 4) * 1024 + j.val) % 4096, by omega⟩ : Fin 4096)
          (⟨(t.val / 4 % 2 * 512 + l.val) / 128, by omega⟩ : Fin 8) d) * cs := by
    refine congrArg (fun x => y0 x * cs) (funext fun a => Fin.ext ?_)
    match a with
    | ⟨0, _⟩ => rfl
    | ⟨1, _⟩ => rfl
    | ⟨2, _⟩ => show (t.val / 4 % 2 * 512 + (128 * (l.val / 128) + d.val)) / 128 = (t.val / 4 % 2 * 512 + l.val) / 128; omega
    | ⟨3, _⟩ => show (t.val / 4 % 2 * 512 + (128 * (l.val / 128) + d.val)) % 128 = d.val; omega
  have hk : z1 y1 t (ix2 u d)
      = y1 (ix4 (⟨((t.val / 8 * 4 + t.val % 4) * 1024 + j.val) / 4096, by omega⟩ : Fin 4) u
          (⟨(t.val / 4 % 2 * 512 + l.val) / 512, by omega⟩ : Fin 2) d) := by
    refine congrArg y1 (funext fun a => Fin.ext ?_)
    match a with
    | ⟨0, _⟩ => show (t.val / 8 * 4096 + u.val) / 4096 = ((t.val / 8 * 4 + t.val % 4) * 1024 + j.val) / 4096; omega
    | ⟨1, _⟩ => show (t.val / 8 * 4096 + u.val) % 4096 = u.val; omega
    | ⟨2, _⟩ => show (t.val / 4 % 2 * 128 + d.val) / 128 = (t.val / 4 % 2 * 512 + l.val) / 512; omega
    | ⟨3, _⟩ => show (t.val / 4 % 2 * 128 + d.val) % 128 = d.val; omega
  refine (congrArg₂ (fun x y => x * y * Real.log 2) hk hz).trans ?_
  have h1 := root_pos.ne'
  have h2 := log2_pos.ne'
  rw [cs]
  field_simp

include h0 h1 in
/-- What point `t` leaves is its block of the attention. -/
theorem outAt_at (t : Fin cfg0.N) (j : Fin 1024) (l : Fin 512) :
    outAt m c t (ix2 j l) = attAt y0 y1 (A2 m c) (⟨(t.val / 8 * 4 + t.val % 4) * 1024 + j.val, by have := tlt t; omega⟩ : Fin 16384)
        (⟨t.val / 4 % 2 * 512 + l.val, by omega⟩ : Fin 1024) := by
  have ht := tlt t
  refine (outB_at (iblk m c 0 t) (iblk m c 1 t) (iblk m c 2 t) (z0 y0 t) (z1 y1 t) (blk0_real m c y0 h0 t) (blk1_real m c y1 h1 t)
    (blk2_one m c t) j l).trans ?_
  refine Finset.sum_congr rfl fun u _ => ?_
  refine congrArg₂ (fun a b : EReal => a * b) ?_ ?_
  · refine congrArg (fun f : Fin 4096 → ℝ => ((wt f u : ℝ) : EReal)) (funext fun u => ?_)
    exact sc_eq y0 y1 t j l u
  · rw [blk2_at, hV_at, dif_pos (show l.val % 128 < 128 by omega), hT_at]
    refine congrArg (A2 m c) (funext fun a => Fin.ext ?_)
    match a with
    | ⟨0, _⟩ => show t.val / 4 / 2 = ((t.val / 8 * 4 + t.val % 4) * 1024 + j.val) / 4096; omega
    | ⟨1, _⟩ => show 512 * (u.val / 512) + u.val % 512 = u.val; omega
    | ⟨2, _⟩ => show t.val / 4 % 2 = (t.val / 4 % 2 * 512 + l.val) / 512; omega
    | ⟨3, _⟩ => show l.val % 128 = (t.val / 4 % 2 * 512 + l.val) % 128; omega

theorem read_at (G : SO.Idx → EReal) (t : Fin cfg0.N) (j : Fin 1024) (l : Fin 512) :
    ((cfg0.win 3).blk t).view.read (Elt Ideal) G (ix2 j l)
      = G (ix2 (⟨(t.val / 8 * 4 + t.val % 4) * 1024 + j.val, by have := tlt t; omega⟩ : Fin 16384)
        (⟨t.val / 4 % 2 * 512 + l.val, by omega⟩ : Fin 1024)) := by
  show G (((cfg0.win 3).blk t).view.emb (ix2 j l)) = _
  rw [emb_3]

include h0 h1 in
theorem outAt_eq (t : Fin cfg0.N) : outAt m c t = ((cfg0.win 3).blk t).view.read (Elt Ideal) (att y0 y1 (A2 m c)) := by
  funext i
  rw [show i = ix2 (i 0 : Fin 1024) (i 1 : Fin 512) from eq_ix2 i]
  exact (outAt_at m c y0 y1 h0 h1 t _ _).trans (read_at (att y0 y1 (A2 m c)) t _ _).symm

theorem flushed_eq (t : Fin cfg0.N) : (dats m 0 c).flushed 3 t = outAt m c t := by
  rfl

/-- Every entry of the result array is in the block of some point. -/
theorem covered_at (r : Fin 16384) (l : Fin 1024) :
    ∃ t : Fin cfg0.N, (cfg0.win 3).flush t = true ∧ ix2 r l ∈ ((cfg0.win 3).blk t).view.set := by
  have ht : r.val / 4096 * 8 + l.val / 512 * 4 + r.val / 1024 % 4 < 32 := by omega
  refine ⟨⟨r.val / 4096 * 8 + l.val / 512 * 4 + r.val / 1024 % 4, ht⟩, flush0_3 _, ?_⟩
  have h := ((cfg0.win 3).blk ⟨r.val / 4096 * 8 + l.val / 512 * 4 + r.val / 1024 % 4, ht⟩).view.emb_mem_set
    (ix2 (⟨r.val % 1024, by omega⟩ : Fin 1024) (⟨l.val % 512, by omega⟩ : Fin 512))
  rw [emb_3] at h
  refine (show _ = ix2 r l from ?_) ▸ h
  funext a; apply Fin.ext
  match a with
  | ⟨0, _⟩ =>
    show ((r.val / 4096 * 8 + l.val / 512 * 4 + r.val / 1024 % 4) / 8 * 4
      + (r.val / 4096 * 8 + l.val / 512 * 4 + r.val / 1024 % 4) % 4) * 1024 + r.val % 1024 = r.val
    omega
  | ⟨1, _⟩ => show (r.val / 4096 * 8 + l.val / 512 * 4 + r.val / 1024 % 4) / 4 % 2 * 512 + l.val % 512 = l.val; omega

theorem covered (i : S16384x1024.Idx) : ∃ t : Fin cfg0.N, (cfg0.win 3).flush t = true ∧ i ∈ ((cfg0.win 3).blk t).view.set := by
  rw [show i = ix2 (i 0 : Fin 16384) (i 1 : Fin 1024) from eq_ix2 i]
  exact covered_at _ _

include h0 h1 in
/-- The result array after the run. -/
theorem final : (dats m 0 c).arrAt 3 cfg0.N = att y0 y1 (A2 m c) :=
  (dats m 0 c).arrAt_eq_of_cover 3 (att y0 y1 (A2 m c)) (fun t _ => (flushed_eq m c t).trans (outAt_eq m c y0 y1 h0 h1 t)) covered

end

end Cert.Attn

end
-- ==== Proof.AttnRef.lean ====
/- The reference is softmax attention of its arguments, where queries and keys are real. -/
module

public import proofs.«01_k».proof.Proof.Gen.ReferenceIdeal.Run
public import proofs.«01_k».proof.Proof.Gen.ReferenceIdeal
public import proofs.«01_k».proof.Proof.AttnSoft
public import Idealize.ShloMosaic.Lib.Pointwise
public import Idealize.ShloMosaic.Lib.IdealHost

@[expose] public section

set_option maxRecDepth 16384

noncomputable section

namespace Cert.Attn

open Idealize.ShloMosaic Idealize.ShloMosaic.TcCoe Idealize.SL.Sem
open Cert.ReferenceIdeal Cert.ReferenceIdeal.Gen Cert.ReferenceIdeal.Facts

/-- The scores, -/
def refS (x0 : FVec Ideal S4x4096x8x128 .f32) (x1 : FVec Ideal S4x4096x2x128 .f32) : FVec Ideal S4x2x4x4096x4096 .f32 :=
  Host.divf (Host.dotGeneral dot_S4x2x4x4096x128_S4x2x4096x128_S4x2x4x4096x4096_4_3_23_2_01_01 none (transpose S4x2x4x4096x128 [0, 2, 3, 1, 4] (shapeCast _ x0 shapeCasts_S4x4096x8x128_S4x4096x2x4x128) transposes_S4x4096x2x4x128_S4x2x4x4096x128_0_2_3_1_4) (transpose S4x2x4096x128 [0, 2, 1, 3] x1 transposes_S4x4096x2x128_S4x2x4096x128_0_2_1_3)) (broadcastInDim S4x2x4x4096x4096 ![] bcast_S_S4x2x4x4096x4096 (Host.sqrt (constant S_ .f32 0x43000000#32)))

/-- their row maxima, -/
def refMax (S : FVec Ideal S4x2x4x4096x4096 .f32) : FVec Ideal S4x2x4x4096 .f32 :=
  maximumf (broadcastInDim S4x2x4x4096 ![] bcast_S_S4x2x4x4096 (constant S_ .f32 0xFF800000#32)) (Host.reduce FloatOps.maximumf S (constant S_ .f32 0xFF800000#32) reducesTo_S4x2x4x4096x4096_S4x2x4x4096_d4 h_S_)

/-- the exponentials, -/
def refE (S : FVec Ideal S4x2x4x4096x4096 .f32) : FVec Ideal S4x2x4x4096x4096 .f32 :=
  Host.exp (subf S (broadcastInDim S4x2x4x4096x4096 ![0, 1, 2, 3, 4] bcast_S4x2x4x4096x1_S4x2x4x4096x4096_0_1_2_3_4 (broadcastInDim S4x2x4x4096x1 ![0, 1, 2, 3] bcast_S4x2x4x4096_S4x2x4x4096x1_0_1_2_3 (refMax S))))

/-- and the results. -/
def refO (E : FVec Ideal S4x2x4x4096x4096 .f32) (x2 : FVec Ideal S4x4096x2x128 .f32) : FVec Ideal S16384x1024 .bf16 :=
  truncf .bf16 (shapeCast _ (transpose S4x4096x2x4x128 [0, 3, 1, 2, 4] (Host.dotGeneral dot_S4x2x4x4096x4096_S4x2x4096x128_S4x2x4x4096x128_4_2_23_3_01_01 none (Host.divf E (broadcastInDim S4x2x4x4096x4096 ![0, 1, 2, 3, 4] bcast_S4x2x4x4096x1_S4x2x4x4096x4096_0_1_2_3_4 (broadcastInDim S4x2x4x4096x1 ![0, 1, 2, 3] bcast_S4x2x4x4096_S4x2x4x4096x1_0_1_2_3 (Host.reduceAdd E (constant S_ .f32 0x00000000#32) reducesTo_S4x2x4x4096x4096_S4x2x4x4096_d4 h_S_)))) (transpose S4x2x4096x128 [0, 2, 1, 3] x2 transposes_S4x4096x2x128_S4x2x4096x128_0_2_1_3)) transposes_S4x2x4x4096x128_S4x4096x2x4x128_0_3_1_2_4) shapeCasts_S4x4096x2x4x128_S16384x1024) bitsLt_bf16_f32

theorem w128' : Ideal.sqrt (Ideal.ofBits .f32 1124073472#32) = ((Real.sqrt 128 : ℝ) : EReal) := by
  have h : Ideal.ofBits .f32 1124073472#32 = ((128 : ℝ) : EReal) := by
    simp [Ideal.ofBits, Ideal.ieee]; norm_cast; norm_num
  rw [h, Ideal.sqrt_coe, if_neg (by norm_num)]

theorem refS_at (x0 : FVec Ideal S4x4096x8x128 .f32) (x1 : FVec Ideal S4x4096x2x128 .f32) (b : Fin 4) (h : Fin 2) (g : Fin 4)
    (q t : Fin 4096) : refS x0 x1 (ix5 b h g q t)
      = Ideal.div (∑ d : Fin 128, x0 (ix4 b q (⟨h.val * 4 + g.val, by omega⟩ : Fin 8) d) * x1 (ix4 b t h d))
          ((Real.sqrt 128 : ℝ) : EReal) := by
  rw [← w128']
  pointwise [refS]

theorem refE_at (S : FVec Ideal S4x2x4x4096x4096 .f32) (b : Fin 4) (h : Fin 2) (g : Fin 4) (q t : Fin 4096) :
    refE S (ix5 b h g q t) = Ideal.exp (S (ix5 b h g q t) - refMax S (ix4 b h g q)) := by
  pointwise [refE]

theorem refO_at (E : FVec Ideal S4x2x4x4096x4096 .f32) (x2 : FVec Ideal S4x4096x2x128 .f32) (r : Fin 16384) (l : Fin 1024) :
    refO E x2 (ix2 r l) = ∑ t : Fin 4096,
      Ideal.div (E (ix5 (⟨r.val / 4096, by omega⟩ : Fin 4) (⟨l.val / 512, by omega⟩ : Fin 2) (⟨l.val / 128 % 4, by omega⟩ : Fin 4) (⟨r.val % 4096, by omega⟩ : Fin 4096) t))
          (∑ u : Fin 4096, E (ix5 (⟨r.val / 4096, by omega⟩ : Fin 4) (⟨l.val / 512, by omega⟩ : Fin 2) (⟨l.val / 128 % 4, by omega⟩ : Fin 4) (⟨r.val % 4096, by omega⟩ : Fin 4096) u))
        * x2 (ix4 (⟨r.val / 4096, by omega⟩ : Fin 4) t (⟨l.val / 512, by omega⟩ : Fin 2) (⟨l.val % 128, by omega⟩ : Fin 128)) := by
  pointwise [refO]

theorem maxv_real {S : Shape} (a b : FVec Ideal S .f32) (j : S.Idx) (ha : a j = (⊥ : EReal)) (hb : ∃ r : ℝ, b j = (r : EReal)) :
    ∃ r : ℝ, maximumf a b j = (r : EReal) := max_real (Or.inl ha) hb

theorem bot_at (j : S4x2x4x4096.Idx) :
    broadcastInDim S4x2x4x4096 ![] bcast_S_S4x2x4x4096 (constant (F := Ideal) S_ .f32 0xFF800000#32) j = (⊥ : EReal) := negInf

theorem red1 : S4x2x4x4096x4096.Reduces [4] S4x2x4x4096 := by decide

/-- The row maxima of real scores are real. -/
theorem refMax_real (S : FVec Ideal S4x2x4x4096x4096 .f32) (hS : ∀ i, ∃ r : ℝ, S i = (r : EReal)) (j : S4x2x4x4096.Idx) :
    ∃ r : ℝ, refMax S j = (r : EReal) := by
  unfold refMax
  exact maxv_real _ _ j (bot_at j) (reduce_real S (constant S_ .f32 0xFF800000#32) reducesTo_S4x2x4x4096x4096_S4x2x4x4096_d4 red1 h_S_
    (Nat.lt_of_lt_of_eq (show 0 < 4096 by decide) rfl) (fun _ => negInf) hS j)

section
variable (x0 : FVec Ideal S4x4096x8x128 .f32) (x1 : FVec Ideal S4x4096x2x128 .f32) (x2 : FVec Ideal S4x4096x2x128 .f32)
variable (y0 : SQ.Idx → ℝ) (y1 : SK.Idx → ℝ)
variable (h0 : ∀ i, x0 i = ((y0 i : ℝ) : EReal)) (h1 : ∀ i, x1 i = ((y1 i : ℝ) : EReal))

/-- The real score. -/
def rs (b : Fin 4) (h : Fin 2) (g : Fin 4) (q t : Fin 4096) : ℝ :=
  (∑ d : Fin 128, y0 (ix4 b q (⟨h.val * 4 + g.val, by omega⟩ : Fin 8) d) * y1 (ix4 b t h d)) * (1 / Real.sqrt 128)

include h0 h1 in
theorem refS_real (b : Fin 4) (h : Fin 2) (g : Fin 4) (q t : Fin 4096) :
    refS x0 x1 (ix5 b h g q t) = ((rs y0 y1 b h g q t : ℝ) : EReal) := by
  rw [refS_at, Ideal.div_coe (Real.sqrt_pos.mpr (by norm_num)).ne', rs, EReal.coe_mul, ← coe_sum]
  refine congrArg (· * _) (Finset.sum_congr rfl fun d _ => ?_)
  rw [h0, h1, EReal.coe_mul]

include h0 h1 in
theorem refS_reals (i : S4x2x4x4096x4096.Idx) : ∃ r : ℝ, refS x0 x1 i = (r : EReal) := by
  rw [show i = ix5 (i 0 : Fin 4) (i 1 : Fin 2) (i 2 : Fin 4) (i 3 : Fin 4096) (i 4 : Fin 4096) from eq_ix5 i]
  exact ⟨_, refS_real x0 x1 y0 y1 h0 h1 _ _ _ _ _⟩

include h0 h1 in
theorem ref_at (r : Fin 16384) (l : Fin 1024) : refO (refE (refS x0 x1)) x2 (ix2 r l) = attAt y0 y1 x2 r l := by
  haveI : Nonempty (Fin 4096) := ⟨0⟩
  obtain ⟨M, hM⟩ := refMax_real (refS x0 x1) (refS_reals x0 x1 y0 y1 h0 h1)
    (ix4 (⟨r.val / 4096, by omega⟩ : Fin 4) (⟨l.val / 512, by omega⟩ : Fin 2) (⟨l.val / 128 % 4, by omega⟩ : Fin 4) (⟨r.val % 4096, by omega⟩ : Fin 4096))
  rw [refO_at]
  simp only [refE_at, hM, refS_real x0 x1 y0 y1 h0 h1]
  refine Finset.sum_congr rfl fun t _ => ?_
  rw [ref_wt]
  refine congrArg (fun f : Fin 4096 → ℝ => ((wt f t : ℝ) : EReal) * _) (funext fun u => ?_)
  have e : (⟨l.val / 512 * 4 + l.val / 128 % 4, by omega⟩ : Fin 8) = ⟨l.val / 128, by omega⟩ := Fin.ext (by show l.val / 512 * 4 + l.val / 128 % 4 = l.val / 128; omega)
  unfold rs sc
  show (∑ d : Fin 128, y0 (ix4 _ _ (⟨l.val / 512 * 4 + l.val / 128 % 4, _⟩ : Fin 8) d) * _) * _ = _
  rw [e]

include h0 h1 in
/-- The reference's results. -/
theorem ref_eq : refO (refE (refS x0 x1)) x2 = att y0 y1 x2 := by
  funext i
  rw [show i = ix2 (i 0 : Fin 16384) (i 1 : Fin 1024) from eq_ix2 i]
  exact ref_at x0 x1 x2 y0 y1 h0 h1 _ _

end

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = refO (refE (refS (m ((c.tc : Thread nD τ).loc main_arg0)) (m ((c.tc : Thread nD τ).loc main_arg1)))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run m ρ

end Cert.Attn

end
-- ==== Proof.FfnSpec.lean ====
/- The mathematics of the feed-forward network: the gated product of two projections, projected back. Its sum over the
   hidden features is a sum over chunks of them. -/
module

public import Idealize.ShloMosaic.Lib.Pointwise

@[expose] public section

noncomputable section

namespace Cert.FfnProof

open Idealize.ShloMosaic

/-- Inputs: batch, position, feature. -/
abbrev SX : Shape := ⟨3, ![4, 4096, 2048]⟩
/-- The weights of the gate and of the value, side by side. -/
abbrev SG : Shape := ⟨2, ![2048, 11264]⟩
/-- The weights of the projection back. -/
abbrev SD : Shape := ⟨2, ![5632, 2048]⟩
/-- Results: a row for a batch and a position. -/
abbrev SR : Shape := ⟨2, ![16384, 2048]⟩

/-- Column `k` of the first projection, at row `r`. -/
def projAt (x0 : SX.Idx → EReal) (x1 : SG.Idx → EReal) (r : Fin 16384) (k : Fin 11264) : EReal :=
  ∑ d : Fin 2048, x0 (ix3 (⟨r.val / 4096, by omega⟩ : Fin 4) (⟨r.val % 4096, by omega⟩ : Fin 4096) d) * x1 (ix2 d k)

/-- A gate times its logistic function times a value. -/
def gated (g u : EReal) : EReal := g * Ideal.div 1 (1 + Ideal.exp (-g)) * u

/-- What hidden feature `k` adds to entry `(r, l)`; nothing past the last. -/
def term (x0 : SX.Idx → EReal) (x1 : SG.Idx → EReal) (x2 : SD.Idx → EReal) (r : Fin 16384) (l : Fin 2048) (k : ℕ) : EReal :=
  if h : k < 5632 then
    gated (projAt x0 x1 r ⟨k, by omega⟩) (projAt x0 x1 r ⟨5632 + k, by omega⟩) * x2 (ix2 (⟨k, h⟩ : Fin 5632) l)
  else 0

/-- An entry of the result, -/
def ffnAt (x0 : SX.Idx → EReal) (x1 : SG.Idx → EReal) (x2 : SD.Idx → EReal) (r : Fin 16384) (l : Fin 2048) : EReal :=
  ∑ k : Fin 5632, term x0 x1 x2 r l k.val

/-- and the result. -/
def ffn (x0 : SX.Idx → EReal) (x1 : SG.Idx → EReal) (x2 : SD.Idx → EReal) : SR.Idx → EReal := fun i =>
  ffnAt x0 x1 x2 (i 0 : Fin 16384) (i 1 : Fin 2048)

/-- A sum over the first chunks of 512, chunk by chunk. -/
theorem sum_chunks (f : ℕ → EReal) (n : ℕ) :
    ∑ a ∈ Finset.range n, ∑ k : Fin 512, f (512 * a + k.val) = ∑ k ∈ Finset.range (512 * n), f k := by
  induction n with
  | zero => simp
  | succ n ih =>
    rw [Finset.sum_range_succ, ih, Nat.mul_succ, Finset.sum_range_add, Finset.sum_range (fun k => f (512 * n + k))]

theorem ffnAt_chunks (x0 : SX.Idx → EReal) (x1 : SG.Idx → EReal) (x2 : SD.Idx → EReal) (r : Fin 16384) (l : Fin 2048) :
    ffnAt x0 x1 x2 r l = ∑ a ∈ Finset.range 11, ∑ k : Fin 512, term x0 x1 x2 r l (512 * a + k.val) := by
  rw [sum_chunks, ffnAt, ← Finset.sum_range (fun k => term x0 x1 x2 r l k)]

end Cert.FfnProof

end
-- ==== Proof.FfnValue.lean ====
/- The feed-forward kernel's result array: each row block starts at zero at the first chunk of hidden features, gathers one
   chunk's products at each point, and is written back after the last chunk. -/
module

public import proofs.«01_k».proof.Proof.Gen.FfnIdeal.Frame
public import proofs.«01_k».proof.Proof.FfnSpec
public import Idealize.ShloMosaic.Lib.Pipeline.Value
public import Idealize.ShloMosaic.Lib.Tactic

@[expose] public section

set_option maxRecDepth 16384

noncomputable section

namespace Cert.FfnProof

open Idealize.ShloMosaic Idealize.ShloMosaic.TcCoe Idealize.SL.Sem
open Cert.FfnIdeal Cert.FfnIdeal.Gen Cert.FfnIdeal.Facts

/-! ## One point -/

theorem zero2 : (![0, 0] : Fin 2 → Nat) = fun _ => 0 := funext fun a => by fin_cases a <;> rfl

section
variable {F : FTy → Type} [FloatOps F]

/-- Past the first chunk the point adds to what is there. -/
theorem out_B (c : Dev nD) (i : grid0.Coords) (a0 : Memref sig .tc .vmem S1024x2048 .bf16) (h0 : a0.IsWhole)
    (a1 : Memref sig .tc .vmem S2048x512 .bf16) (h1 : a1.IsWhole) (a2 : Memref sig .tc .vmem S2048x512 .bf16) (h2 : a2.IsWhole)
    (a3 : Memref sig .tc .vmem S512x2048 .bf16) (h3 : a3.IsWhole) (a4 : Memref sig .tc .vmem S1024x2048 .f32) (h4 : a4.IsWhole)
    (hc : ¬cond0_0 i) (x0 : Vec F S1024x2048 .bf16) (x1 x2 : Vec F S2048x512 .bf16) (x3 : Vec F S512x2048 .bf16)
    (xo : Vec F S1024x2048 .f32) :
    out0_B_4 c i a0 h0 a1 h1 a2 h2 a3 h3 a4 h4 hc x0 x1 x2 x3 xo = k0_pay2 x0 x1 x2 xo x3 := by
  unfold out0_B_4
  rw [View.read_writes_eq_canon _ _ _ (cover0_B_4 c i a0 h0 a1 h1 a2 h2 a3 h3 a4 h4 hc x0 x1 x2 x3 xo)]
  unfold kernelRun0_B
  dsimp only
  rw [View.canon_unit_zero zero2]
  simp only [View.readAt_eq_ld, h0.read_unread, h1.read_unread, h2.read_unread, h3.read_unread, h4.read_unread,
    View.ld_unit_zero (S := S1024x2048) zero2, View.ld_unit_zero (S := S2048x512) zero2, View.ld_unit_zero (S := S512x2048) zero2]

/-- At the first chunk it adds to zeros. -/
theorem out_A (c : Dev nD) (i : grid0.Coords) (a0 : Memref sig .tc .vmem S1024x2048 .bf16) (h0 : a0.IsWhole)
    (a1 : Memref sig .tc .vmem S2048x512 .bf16) (h1 : a1.IsWhole) (a2 : Memref sig .tc .vmem S2048x512 .bf16) (h2 : a2.IsWhole)
    (a3 : Memref sig .tc .vmem S512x2048 .bf16) (h3 : a3.IsWhole) (a4 : Memref sig .tc .vmem S1024x2048 .f32) (h4 : a4.IsWhole)
    (hc : cond0_0 i) (x0 : Vec F S1024x2048 .bf16) (x1 x2 : Vec F S2048x512 .bf16) (x3 : Vec F S512x2048 .bf16) :
    out0_A_4 c i a0 h0 a1 h1 a2 h2 a3 h3 a4 h4 hc x0 x1 x2 x3 = k0_pay2 x0 x1 x2 k0_pay1 x3 := by
  unfold out0_A_4
  rw [View.read_writes_eq_canon _ _ _ (cover0_A_4 c i a0 h0 a1 h1 a2 h2 a3 h3 a4 h4 hc x0 x1 x2 x3)]
  unfold kernelRun0_A
  dsimp only
  sl_unfold_words
  rw [View.canon_cons_unit_zero (S := S1024x2048) zero2, View.readCov_unit_zero (S := S1024x2048) _ zero2]
  simp only [View.readAt_eq_ld, h0.read_unread, h1.read_unread, h2.read_unread, h3.read_unread,
    View.ld_unit_zero (S := S1024x2048) zero2, View.ld_unit_zero (S := S2048x512) zero2, View.ld_unit_zero (S := S512x2048) zero2]

end

theorem pay1_at (j : Fin 1024) (l : Fin 2048) : k0_pay1 (F := Ideal) (ix2 j l) = (0 : EReal) := by
  pointwise [k0_pay1]

theorem pay2_at (v3 : Vec Ideal S1024x2048 .bf16) (v5 v8 : Vec Ideal S2048x512 .bf16) (v11 : Vec Ideal S1024x2048 .f32)
    (v23 : Vec Ideal S512x2048 .bf16) (j : Fin 1024) (l : Fin 2048) :
    k0_pay2 v3 v5 v8 v11 v23 (ix2 j l) = (v11 (ix2 j l) : EReal) + ∑ k : Fin 512,
      gated (∑ d : Fin 2048, (v3 (ix2 j d) : EReal) * v5 (ix2 d k)) (∑ d : Fin 2048, (v3 (ix2 j d) : EReal) * v8 (ix2 d k))
        * v23 (ix2 k l) := by
  pointwise [k0_pay2, gated]
  simp only [zero_sub]

/-! ## The blocks -/

variable (m : (ℓ : Loc nD τ sig) → Buf (Elt Ideal) ℓ)

/-- The arguments of a device. -/
def A0 (c : Dev nD) : SX.Idx → EReal := m ((c.tc : Thread nD τ).loc main_arg0)
def A1 (c : Dev nD) : SG.Idx → EReal := m ((c.tc : Thread nD τ).loc main_arg1)
def A2 (c : Dev nD) : SD.Idx → EReal := m ((c.tc : Thread nD τ).loc main_arg2)

/-- The rows the first window stages. -/
def hX (x0 : FVec Ideal S4x4096x2048 .f32) : FVec Ideal S16384x2048 .bf16 :=
  truncf .bf16 (shapeCast _ x0 shapeCasts_S4x4096x2048_S16384x2048) bitsLt_bf16_f32

theorem hX_at (x0 : FVec Ideal S4x4096x2048 .f32) (r : Fin 16384) (d : Fin 2048) :
    hX x0 (ix2 r d) = x0 (ix3 (⟨r.val / 4096, by omega⟩ : Fin 4) (⟨r.val % 4096, by omega⟩ : Fin 4096) d) := by
  pointwise [hX]

theorem V1 (c : Dev nD) : V m c main_v1 = hX (A0 m c) := by
  unfold V
  after_results <;> rfl
theorem V2 (c : Dev nD) : V m c main_v2 = A1 m c := by
  unfold V
  after_results <;> rfl
theorem V3 (c : Dev nD) : V m c main_v3 = A2 m c := by
  unfold V
  after_results <;> rfl

theorem ix_0 : ∀ t : Fin cfg0.N, win0_0.index t (0 : Fin 2) = t.val / 11 ∧ win0_0.index t (1 : Fin 2) = 0 :=
  (by decide +kernel : ∀ t : Fin grid0.N, _)
theorem ix_1 : ∀ t : Fin cfg0.N, win0_1.index t (0 : Fin 2) = 0 ∧ win0_1.index t (1 : Fin 2) = t.val % 11 :=
  (by decide +kernel : ∀ t : Fin grid0.N, _)
theorem ix_2 : ∀ t : Fin cfg0.N, win0_2.index t (0 : Fin 2) = 0 ∧ win0_2.index t (1 : Fin 2) = t.val % 11 + 11 :=
  (by decide +kernel : ∀ t : Fin grid0.N, _)
theorem ix_3 : ∀ t : Fin cfg0.N, win0_3.index t (0 : Fin 2) = t.val % 11 ∧ win0_3.index t (1 : Fin 2) = 0 :=
  (by decide +kernel : ∀ t : Fin grid0.N, _)
theorem ix_4 : ∀ t : Fin cfg0.N, win0_4.index t (0 : Fin 2) = t.val / 11 ∧ win0_4.index t (1 : Fin 2) = 0 :=
  (by decide +kernel : ∀ t : Fin grid0.N, _)

theorem tlt (t : Fin cfg0.N) : t.val < 176 := t.isLt

theorem emb_0 (t : Fin cfg0.N) (j : Fin 1024) (d : Fin 2048) : ((cfg0.win 0).blk t).view.emb (ix2 j d)
    = ix2 (⟨t.val / 11 * 1024 + j.val, by have := tlt t; omega⟩ : Fin 16384) d := by
  obtain ⟨e0, e1⟩ := ix_0 t
  funext a; apply Fin.ext
  match a with
  | ⟨0, _⟩ => show win0_0.index t (0 : Fin 2) * 1024 + 1 * j.val = t.val / 11 * 1024 + j.val; omega
  | ⟨1, _⟩ => show win0_0.index t (1 : Fin 2) * 2048 + 1 * d.val = d.val; omega

theorem emb_1 (t : Fin cfg0.N) (d : Fin 2048) (k : Fin 512) : ((cfg0.win 1).blk t).view.emb (ix2 d k)
    = ix2 d (⟨512 * (t.val % 11) + k.val, by omega⟩ : Fin 11264) := by
  obtain ⟨e0, e1⟩ := ix_1 t
  funext a; apply Fin.ext
  match a with
  | ⟨0, _⟩ => show win0_1.index t (0 : Fin 2) * 2048 + 1 * d.val = d.val; omega
  | ⟨1, _⟩ => show win0_1.index t (1 : Fin 2) * 512 + 1 * k.val = 512 * (t.val % 11) + k.val; omega

theorem emb_2 (t : Fin cfg0.N) (d : Fin 2048) (k : Fin 512) : ((cfg0.win 2).blk t).view.emb (ix2 d k)
    = ix2 d (⟨5632 + (512 * (t.val % 11) + k.val), by omega⟩ : Fin 11264) := by
  obtain ⟨e0, e1⟩ := ix_2 t
  funext a; apply Fin.ext
  match a with
  | ⟨0, _⟩ => show win0_2.index t (0 : Fin 2) * 2048 + 1 * d.val = d.val; omega
  | ⟨1, _⟩ => show win0_2.index t (1 : Fin 2) * 512 + 1 * k.val = 5632 + (512 * (t.val % 11) + k.val); omega

theorem emb_3 (t : Fin cfg0.N) (k : Fin 512) (l : Fin 2048) : ((cfg0.win 3).blk t).view.emb (ix2 k l)
    = ix2 (⟨512 * (t.val % 11) + k.val, by omega⟩ : Fin 5632) l := by
  obtain ⟨e0, e1⟩ := ix_3 t
  funext a; apply Fin.ext
  match a with
  | ⟨0, _⟩ => show win0_3.index t (0 : Fin 2) * 512 + 1 * k.val = 512 * (t.val % 11) + k.val; omega
  | ⟨1, _⟩ => show win0_3.index t (1 : Fin 2) * 2048 + 1 * l.val = l.val; omega

theorem emb_4 (t : Fin cfg0.N) (j : Fin 1024) (l : Fin 2048) : ((cfg0.win 4).blk t).view.emb (ix2 j l)
    = ix2 (⟨t.val / 11 * 1024 + j.val, by have := tlt t; omega⟩ : Fin 16384) l := by
  obtain ⟨e0, e1⟩ := ix_4 t
  funext a; apply Fin.ext
  match a with
  | ⟨0, _⟩ => show win0_4.index t (0 : Fin 2) * 1024 + 1 * j.val = t.val / 11 * 1024 + j.val; omega
  | ⟨1, _⟩ => show win0_4.index t (1 : Fin 2) * 2048 + 1 * l.val = l.val; omega

theorem blk0_at (c : Dev nD) (t : Fin cfg0.N) (j : Fin 1024) (d : Fin 2048) : iblk m c 0 t (ix2 j d)
    = A0 m c (ix3 (⟨(t.val / 11 * 1024 + j.val) / 4096, by have := tlt t; omega⟩ : Fin 4)
        (⟨(t.val / 11 * 1024 + j.val) % 4096, by omega⟩ : Fin 4096) d) := by
  show V m c main_v1 (((cfg0.win 0).blk t).view.emb (ix2 j d)) = _
  rw [V1, emb_0]; exact hX_at _ _ _

theorem blk1_at (c : Dev nD) (t : Fin cfg0.N) (d : Fin 2048) (k : Fin 512) : iblk m c 1 t (ix2 d k)
    = A1 m c (ix2 d (⟨512 * (t.val % 11) + k.val, by omega⟩ : Fin 11264)) := by
  show V m c main_v2 (((cfg0.win 1).blk t).view.emb (ix2 d k)) = _
  rw [V2, emb_1]

theorem blk2_at (c : Dev nD) (t : Fin cfg0.N) (d : Fin 2048) (k : Fin 512) : iblk m c 2 t (ix2 d k)
    = A1 m c (ix2 d (⟨5632 + (512 * (t.val % 11) + k.val), by omega⟩ : Fin 11264)) := by
  show V m c main_v2 (((cfg0.win 2).blk t).view.emb (ix2 d k)) = _
  rw [V2, emb_2]

theorem blk3_at (c : Dev nD) (t : Fin cfg0.N) (k : Fin 512) (l : Fin 2048) : iblk m c 3 t (ix2 k l)
    = A2 m c (ix2 (⟨512 * (t.val % 11) + k.val, by omega⟩ : Fin 5632) l) := by
  show V m c main_v3 (((cfg0.win 3).blk t).view.emb (ix2 k l)) = _
  rw [V3, emb_3]

/-! ## The points in order -/

/-- The row of an entry of point `n`'s block. -/
def rowAt (n : ℕ) (hn : n < cfg0.N) (j : Fin 1024) : Fin 16384 := ⟨n / 11 * 1024 + j.val, by have := tlt ⟨n, hn⟩; dsimp only at this; omega⟩

/-- What a point adds: its chunk of the sum. -/
theorem step_at (c : Dev nD) (t : Fin cfg0.N) (xo : Vec Ideal S1024x2048 .f32) (j : Fin 1024) (l : Fin 2048) :
    k0_pay2 (iblk m c 0 t) (iblk m c 1 t) (iblk m c 2 t) xo (iblk m c 3 t) (ix2 j l)
      = (xo (ix2 j l) : EReal) + ∑ k : Fin 512, term (A0 m c) (A1 m c) (A2 m c) (rowAt t.val t.isLt j) l (512 * (t.val % 11) + k.val) := by
  rw [pay2_at]
  refine congrArg (fun s : EReal => (xo (ix2 j l) : EReal) + s) (Finset.sum_congr rfl fun k _ => ?_)
  rw [term, dif_pos (show 512 * (t.val % 11) + k.val < 5632 by omega)]
  refine congrArg₂ (fun a b : EReal => a * b) (congrArg₂ gated ?_ ?_) (blk3_at m c t k l)
  · exact Finset.sum_congr rfl fun d _ => congrArg₂ (fun a b : EReal => a * b) (blk0_at m c t j d) (blk1_at m c t d k)
  · exact Finset.sum_congr rfl fun d _ => congrArg₂ (fun a b : EReal => a * b) (blk0_at m c t j d) (blk2_at m c t d k)

/-- After a point its block holds the chunks so far. -/
theorem outsAt_at (c : Dev nD) : ∀ (n : ℕ) (hn : n < cfg0.N) (j : Fin 1024) (l : Fin 2048),
    outsAt0 m c n hn (ix2 j l) = ∑ a ∈ Finset.range (n % 11 + 1), ∑ k : Fin 512,
      term (A0 m c) (A1 m c) (A2 m c) (rowAt n hn j) l (512 * a + k.val) := by
  intro n
  induction n with
  | zero =>
    intro hn j l
    rw [outsAt0_A m c ⟨0, hn⟩ rfl, out_A, step_at, pay1_at, zero_add]
    exact (Finset.sum_range_one (fun a => ∑ k : Fin 512, term (A0 m c) (A1 m c) (A2 m c) (rowAt 0 hn j) l (512 * a + k.val))).symm
  | succ n ih =>
    intro hn j l
    by_cases h : (n + 1) % 11 = 0
    · rw [outsAt0_A m c ⟨n + 1, hn⟩ h, out_A, step_at, pay1_at, zero_add, h]
      exact (Finset.sum_range_one (fun a => ∑ k : Fin 512, term (A0 m c) (A1 m c) (A2 m c) (rowAt (n + 1) hn j) l (512 * a + k.val))).symm
    · rw [outsAt0_B m c ⟨n + 1, hn⟩ h, out_B, step_at]
      have e : (n + 1) % 11 = n % 11 + 1 := by omega
      have er : rowAt n (Nat.lt_of_succ_lt hn) j = rowAt (n + 1) hn j := Fin.ext (by show n / 11 * 1024 + j.val = (n + 1) / 11 * 1024 + j.val; omega)
      show (outsAt0 m c n _ (ix2 j l) : EReal) + ∑ k : Fin 512, term _ _ _ _ _ (512 * ((n + 1) % 11) + k.val) = _
      rw [ih (Nat.lt_of_succ_lt hn) j l, er, e, Finset.sum_range_succ _ (n % 11 + 1)]

/-! ## The result -/

theorem read_at (G : SR.Idx → EReal) (t : Fin cfg0.N) (j : Fin 1024) (l : Fin 2048) :
    ((cfg0.win 4).blk t).view.read (Elt Ideal) G (ix2 j l) = G (ix2 (rowAt t.val t.isLt j) l) := by
  show G (((cfg0.win 4).blk t).view.emb (ix2 j l)) = _
  rw [emb_4]; rfl

theorem flushed_eq (c : Dev nD) (t : Fin cfg0.N) (hf : (cfg0.win 4).flush t = true) :
    (dats m 0 c).flushed 4 t = ((cfg0.win 4).blk t).view.read (Elt Ideal) (ffn (A0 m c) (A1 m c) (A2 m c)) := by
  have h10 : t.val % 11 = 10 := (flush0_4 t).mp hf
  show outsAt0 m c t.val t.isLt = _
  funext i
  rw [show i = ix2 (i 0 : Fin 1024) (i 1 : Fin 2048) from eq_ix2 i]
  refine Eq.trans ?_ (read_at (ffn (A0 m c) (A1 m c) (A2 m c)) t _ _).symm
  refine (outsAt_at m c t.val t.isLt _ _).trans ?_
  rw [h10]
  exact (ffnAt_chunks (A0 m c) (A1 m c) (A2 m c) _ _).symm

/-- Every entry of the result array is in the block that the last chunk's point of its rows writes back. -/
theorem covered_at (r : Fin 16384) (l : Fin 2048) :
    ∃ t : Fin cfg0.N, (cfg0.win 4).flush t = true ∧ ix2 r l ∈ ((cfg0.win 4).blk t).view.set := by
  have ht : r.val / 1024 * 11 + 10 < 176 := by omega
  refine ⟨⟨r.val / 1024 * 11 + 10, ht⟩, (flush0_4 _).mpr (by show (r.val / 1024 * 11 + 10) % 11 = 10; omega), ?_⟩
  have h := ((cfg0.win 4).blk ⟨r.val / 1024 * 11 + 10, ht⟩).view.emb_mem_set (ix2 (⟨r.val % 1024, by omega⟩ : Fin 1024) l)
  rw [emb_4] at h
  refine (show _ = ix2 r l from ?_) ▸ h
  funext a; apply Fin.ext
  match a with
  | ⟨0, _⟩ => show (r.val / 1024 * 11 + 10) / 11 * 1024 + r.val % 1024 = r.val; omega
  | ⟨1, _⟩ => rfl

theorem covered (i : S16384x2048.Idx) : ∃ t : Fin cfg0.N, (cfg0.win 4).flush t = true ∧ i ∈ ((cfg0.win 4).blk t).view.set := by
  rw [show i = ix2 (i 0 : Fin 16384) (i 1 : Fin 2048) from eq_ix2 i]
  exact covered_at _ _

/-- The result array after the run. -/
theorem final (c : Dev nD) : (dats m 0 c).arrAt 4 cfg0.N = ffn (A0 m c) (A1 m c) (A2 m c) :=
  (dats m 0 c).arrAt_eq_of_cover 4 (ffn (A0 m c) (A1 m c) (A2 m c)) (flushed_eq m c) covered

end Cert.FfnProof

end
-- ==== Proof.FfnRef.lean ====
/- The reference's feed-forward network is the same function of its arguments. -/
module

public import proofs.«01_k».proof.Proof.Gen.FfnRefIdeal.Run
public import proofs.«01_k».proof.Proof.Gen.FfnRefIdeal
public import proofs.«01_k».proof.Proof.FfnSpec
public import Idealize.ShloMosaic.Lib.Pointwise
public import Idealize.ShloMosaic.Lib.IdealHost

@[expose] public section

set_option maxRecDepth 16384

noncomputable section

namespace Cert.FfnProof

open Idealize.ShloMosaic Idealize.ShloMosaic.TcCoe Idealize.SL.Sem
open Cert.FfnRefIdeal Cert.FfnRefIdeal.Gen Cert.FfnRefIdeal.Facts

/-- Both projections, -/
def refP (x0 : FVec Ideal S4x4096x2048 .f32) (x1 : FVec Ideal S2048x11264 .f32) : FVec Ideal S4x4096x11264 .f32 :=
  Host.dotGeneral dot_S4x4096x2048_S2048x11264_S4x4096x11264_2_0_01_1_n_n none x0 x1

/-- and the results. -/
def refO (P : FVec Ideal S4x4096x11264 .f32) (x2 : FVec Ideal S5632x2048 .f32) : FVec Ideal S16384x2048 .f32 :=
  shapeCast _ (Host.dotGeneral dot_S4x4096x5632_S5632x2048_S4x4096x2048_2_0_01_1_n_n none (mulf (mulf (extractStridedSlice S4x4096x5632 ![0, 0, 0] P slices_S4x4096x11264_S4x4096x5632_0_0_0) (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf (extractStridedSlice S4x4096x5632 ![0, 0, 0] P slices_S4x4096x11264_S4x4096x5632_0_0_0)))))) (extractStridedSlice S4x4096x5632 ![0, 0, 5632] P slices_S4x4096x11264_S4x4096x5632_0_0_5632)) x2) shapeCasts_S4x4096x2048_S16384x2048

theorem refP_at (x0 : FVec Ideal S4x4096x2048 .f32) (x1 : FVec Ideal S2048x11264 .f32) (r : Fin 16384) (k : Fin 11264) :
    refP x0 x1 (ix3 (⟨r.val / 4096, by omega⟩ : Fin 4) (⟨r.val % 4096, by omega⟩ : Fin 4096) k) = projAt x0 x1 r k := by
  pointwise [refP, projAt]

theorem refO_at (P : FVec Ideal S4x4096x11264 .f32) (x2 : FVec Ideal S5632x2048 .f32) (r : Fin 16384) (l : Fin 2048) :
    refO P x2 (ix2 r l) = ∑ k : Fin 5632,
      gated (P (ix3 (⟨r.val / 4096, by omega⟩ : Fin 4) (⟨r.val % 4096, by omega⟩ : Fin 4096) (⟨k.val, by omega⟩ : Fin 11264)))
        (P (ix3 (⟨r.val / 4096, by omega⟩ : Fin 4) (⟨r.val % 4096, by omega⟩ : Fin 4096) (⟨5632 + k.val, by omega⟩ : Fin 11264)))
        * (x2 (ix2 k l) : EReal) := by
  pointwise [refO, gated]

theorem ref_at (x0 : FVec Ideal S4x4096x2048 .f32) (x1 : FVec Ideal S2048x11264 .f32) (x2 : FVec Ideal S5632x2048 .f32)
    (r : Fin 16384) (l : Fin 2048) : refO (refP x0 x1) x2 (ix2 r l) = ffnAt x0 x1 x2 r l := by
  refine (refO_at _ _ _ _).trans (Finset.sum_congr rfl fun k _ => ?_)
  rw [refP_at, refP_at, term, dif_pos k.isLt]

/-- The reference's results. -/
theorem ref_eq (x0 : FVec Ideal S4x4096x2048 .f32) (x1 : FVec Ideal S2048x11264 .f32) (x2 : FVec Ideal S5632x2048 .f32) :
    refO (refP x0 x1) x2 = ffn x0 x1 x2 := by
  funext i
  rw [show i = ix2 (i 0 : Fin 16384) (i 1 : Fin 2048) from eq_ix2 i]
  exact ref_at x0 x1 x2 _ _

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = refO (refP (m ((c.tc : Thread nD τ).loc main_arg0)) (m ((c.tc : Thread nD τ).loc main_arg1))) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.FfnRefIdeal.Value.run m ρ

end Cert.FfnProof

end
-- ==== Proof.PleSpec.lean ====
/- The mathematics of the last step of a row: the feed-forward result is normalised and added, a gate is computed of the
   normalised sum, and the projected per-layer embedding, times the gate, is normalised and added. -/
module

public import Idealize.ShloMosaic.Lib.Pointwise

@[expose] public section

noncomputable section

namespace Cert.PleProof

open Idealize.ShloMosaic

/-- Inputs: batch, position, feature. -/
abbrev SX : Shape := ⟨3, ![4, 4096, 2048]⟩
/-- Per-layer embeddings: batch, position, feature. -/
abbrev SP : Shape := ⟨3, ![4, 4096, 256]⟩
/-- Gains. -/
abbrev SV : Shape := ⟨1, ![2048]⟩
/-- The gate's weights. -/
abbrev SW : Shape := ⟨2, ![2048, 2048]⟩
/-- The embeddings' weights. -/
abbrev SE : Shape := ⟨2, ![256, 2048]⟩
/-- Results: a row for a batch and a position. -/
abbrev SR : Shape := ⟨2, ![16384, 2048]⟩

/-- A row over the root of the mean of its squares, times a gain. -/
def rms (y g : Fin 2048 → EReal) (l : Fin 2048) : EReal :=
  y l * Ideal.rsqrt (Ideal.div (∑ d : Fin 2048, y d * y d) (Ideal.ofBits .f32 1157627904#32) + Ideal.ofBits .f32 897988541#32) * g l

/-- The logistic function. -/
def logistic (z : EReal) : EReal := Ideal.div 1 (1 + Ideal.exp (-z))

/-- The sum of the input and the normalised feed-forward result, -/
def mid (x f g3 : Fin 2048 → EReal) (d : Fin 2048) : EReal := x d + rms f g3 d

/-- the gate's argument, -/
def gateArg (y g4 : Fin 2048 → EReal) (w5 : Fin 2048 → Fin 2048 → EReal) (d : Fin 2048) : EReal :=
  ∑ k : Fin 2048, rms y g4 k * w5 k d

/-- the projected embedding, -/
def emb (p : Fin 256 → EReal) (w6 : Fin 256 → Fin 2048 → EReal) (d : Fin 2048) : EReal := ∑ k : Fin 256, p k * w6 k d

/-- the last step of a row already summed, -/
def last (y : Fin 2048 → EReal) (p : Fin 256 → EReal) (g4 : Fin 2048 → EReal) (w5 : Fin 2048 → Fin 2048 → EReal)
    (w6 : Fin 256 → Fin 2048 → EReal) (g7 : Fin 2048 → EReal) (l : Fin 2048) : EReal :=
  y l + rms (fun d => emb p w6 d * logistic (gateArg y g4 w5 d)) g7 l

/-- and a row of the result. -/
def row (x f : Fin 2048 → EReal) (p : Fin 256 → EReal) (g3 g4 : Fin 2048 → EReal) (w5 : Fin 2048 → Fin 2048 → EReal)
    (w6 : Fin 256 → Fin 2048 → EReal) (g7 : Fin 2048 → EReal) (l : Fin 2048) : EReal :=
  last (mid x f g3) p g4 w5 w6 g7 l

/-- The batch and the position of a row. -/
def bOf (r : Fin 16384) : Fin 4 := ⟨r.val / 4096, by omega⟩
def sOf (r : Fin 16384) : Fin 4096 := ⟨r.val % 4096, by omega⟩

/-- An entry of the result, -/
def pleAt (x0 x1 : SX.Idx → EReal) (x2 : SP.Idx → EReal) (x3 x4 : SV.Idx → EReal) (x5 : SW.Idx → EReal) (x6 : SE.Idx → EReal)
    (x7 : SV.Idx → EReal) (r : Fin 16384) (l : Fin 2048) : EReal :=
  row (fun d => x0 (ix3 (bOf r) (sOf r) d)) (fun d => x1 (ix3 (bOf r) (sOf r) d)) (fun k => x2 (ix3 (bOf r) (sOf r) k))
    (fun d => x3 (ix1 d)) (fun d => x4 (ix1 d)) (fun k d => x5 (ix2 k d)) (fun k d => x6 (ix2 k d)) (fun d => x7 (ix1 d)) l

/-- and the result. -/
def ple (x0 x1 : SX.Idx → EReal) (x2 : SP.Idx → EReal) (x3 x4 : SV.Idx → EReal) (x5 : SW.Idx → EReal) (x6 : SE.Idx → EReal)
    (x7 : SV.Idx → EReal) : SR.Idx → EReal := fun i => pleAt x0 x1 x2 x3 x4 x5 x6 x7 (i 0 : Fin 16384) (i 1 : Fin 2048)

end Cert.PleProof

end
-- ==== Proof.PlePay.lean ====
/- What the kernel computes of a block of rows, entry by entry. -/
module

public import proofs.«01_k».proof.Proof.Gen.PleIdeal.Frame
public import proofs.«01_k».proof.Proof.PleSpec
public import Idealize.ShloMosaic.Lib.Pipeline.Value
public import Idealize.ShloMosaic.Lib.Tactic

@[expose] public section

set_option maxRecDepth 16384

noncomputable section

namespace Cert.PleProof

open Idealize.ShloMosaic Idealize.ShloMosaic.TcCoe Idealize.SL.Sem
open Cert.PleIdeal Cert.PleIdeal.Gen Cert.PleIdeal.Facts

theorem pay2_at (v0 : Vec Ideal S512x256 .f32) (v3 : Vec Ideal S256x2048 .bf16) (j : Fin 512) (l : Fin 2048) :
    k0_pay2 v0 v3 (ix2 j l) = emb (fun k => v0 (ix2 j k)) (fun k d => v3 (ix2 k d)) l := by
  pointwise [k0_pay2, emb]

theorem pay3_at (v6 v8 : Vec Ideal S256x2048 .f32) (v10 : Vec Ideal S1x2048 .f32) (j : Fin 256) (l : Fin 2048) :
    k0_pay3 v6 v8 v10 (ix2 j l)
      = mid (fun d => v6 (ix2 j d)) (fun d => v8 (ix2 j d)) (fun d => v10 (ix2 (0 : Fin 1) d)) l := by
  pointwise [k0_pay3, mid, rms]

theorem pay9_at (v24 : FVec Ideal S256x2048 .f32) (v44 : Vec Ideal S1x2048 .f32) (v59 : Vec Ideal S2048x2048 .bf16)
    (j : Fin 256) (l : Fin 2048) : k0_pay9 v24 v44 v59 (ix2 j l)
      = gateArg (fun d => v24 (ix2 j d)) (fun d => v44 (ix2 (0 : Fin 1) d)) (fun k d => v59 (ix2 k d)) l := by
  pointwise [k0_pay9, gateArg, rms]

theorem pay11_at (v5 : FVec Ideal S512x2048 .f32) (v24 v61 : FVec Ideal S256x2048 .f32) (v89 : Vec Ideal S1x2048 .f32)
    (j : Fin 256) (l : Fin 2048) : k0_pay11 v5 v24 v61 v89 (ix2 j l)
      = (v24 (ix2 j l) : EReal) + rms (fun d => v5 (ix2 (⟨j.val, by omega⟩ : Fin 512) d) * logistic (v61 (ix2 j d)))
          (fun d => v89 (ix2 (0 : Fin 1) d)) l := by
  pointwise [k0_pay11, rms, logistic]
  simp only [zero_sub]

theorem pay7_at (v27 : Vec Ideal S256x2048 .f32) (j : Fin 256) : k0_pay7 v27 (ix2 j (0 : Fin 1))
      = Ideal.div (∑ d : Fin 2048, (v27 (ix2 j d) : EReal) * v27 (ix2 j d)) (Ideal.ofBits .f32 1157627904#32) := by
  pointwise [k0_pay7, k0_pay5]

theorem pay8_at (v26 v28 : FVec Ideal S256x2048 .f32) (v30 : FVec Ideal S1x2048 .f32) (v35 : FVec Ideal S256x1 .f32)
    (z : Ideal .f32) (j : Fin 256) (l : Fin 2048) : k0_pay8 v26 v28 v30 v35 z (ix2 j l)
      = (v26 (ix2 j l) : EReal) + v28 (ix2 j l) * Ideal.rsqrt ((v35 (ix2 j (0 : Fin 1)) : EReal) + z) * v30 (ix2 (0 : Fin 1) l) := by
  pointwise [k0_pay8]

theorem pay10_at (v26 v28 : FVec Ideal S256x2048 .f32) (v30 : FVec Ideal S1x2048 .f32) (v35 : FVec Ideal S256x1 .f32)
    (z : Ideal .f32) (v62 : Vec Ideal S1x2048 .f32) (v77 : Vec Ideal S2048x2048 .bf16) (j : Fin 256) (l : Fin 2048) :
    k0_pay10 v26 v28 v30 v35 z v62 v77 (ix2 j l)
      = gateArg (fun d => k0_pay8 v26 v28 v30 v35 z (ix2 j d)) (fun d => v62 (ix2 (0 : Fin 1) d)) (fun k d => v77 (ix2 k d)) l := by
  have h : k0_pay10 v26 v28 v30 v35 z v62 v77 = k0_pay9 (k0_pay8 v26 v28 v30 v35 z) v62 v77 := rfl
  rw [h, pay9_at]

theorem pay12_at (v5 : FVec Ideal S512x2048 .f32) (v79 : FVec Ideal S256x2048 .f32) (j : Fin 256) (l : Fin 2048) :
    k0_pay12 v5 v79 (ix2 j l) = (v5 (ix2 (⟨256 + j.val, by omega⟩ : Fin 512) l) : EReal) * logistic (v79 (ix2 j l)) := by
  pointwise [k0_pay12, logistic]
  simp only [zero_sub]

theorem pay14_at (v5 : FVec Ideal S512x2048 .f32) (v79 : FVec Ideal S256x2048 .f32) (j : Fin 256) :
    k0_pay14 v5 v79 (ix2 j (0 : Fin 1)) = Ideal.div (∑ d : Fin 2048, (k0_pay12 v5 v79 (ix2 j d) : EReal) * k0_pay12 v5 v79 (ix2 j d))
      (Ideal.ofBits .f32 1157627904#32) := by
  have h : k0_pay14 v5 v79 = k0_pay7 (k0_pay12 v5 v79) := by
    unfold k0_pay14 k0_pay7
    rw [show k0_pay5 (k0_pay12 v5 v79) = k0_pay12 v5 v79 from shapeCast_id _ _]
  rw [h, pay7_at]

theorem pay1_at (v43 v113 : FVec Ideal S256x2048 .f32) (v115 : FVec Ideal S1x2048 .f32) (v120 : FVec Ideal S256x1 .f32)
    (z : Ideal .f32) (j : Fin 256) (l : Fin 2048) : k0_pay1 v43 v113 v115 v120 z (ix2 j l)
      = (v43 (ix2 j l) : EReal) + v113 (ix2 j l) * Ideal.rsqrt ((v120 (ix2 j (0 : Fin 1)) : EReal) + z) * v115 (ix2 (0 : Fin 1) l) := by
  pointwise [k0_pay1]

theorem pay4_at (v : Vec Ideal S256x2048 .f32) (j : Fin 256) (l : Fin 2048) : k0_pay4 v (ix2 j l) = v (ix2 j l) := by
  pointwise [k0_pay4]
theorem pay5_at (v : Vec Ideal S256x2048 .f32) (j : Fin 256) (l : Fin 2048) : k0_pay5 v (ix2 j l) = v (ix2 j l) := by
  pointwise [k0_pay5]
theorem pay6_at (v : Vec Ideal S1x2048 .f32) (l : Fin 2048) : k0_pay6 v (ix2 (0 : Fin 1) l) = v (ix2 (0 : Fin 1) l) := by
  pointwise [k0_pay6]
theorem pay13_at (v : Vec Ideal S1x2048 .f32) (l : Fin 2048) : k0_pay13 v (ix2 (0 : Fin 1) l) = v (ix2 (0 : Fin 1) l) := by
  pointwise [k0_pay13]

end Cert.PleProof

end
-- ==== Proof.PleValue.lean ====
/- The kernel's result array: each point writes the rows of its block, the two halves in turn. -/
module

public import proofs.«01_k».proof.Proof.PlePay

@[expose] public section

set_option maxRecDepth 16384

noncomputable section

namespace Cert.PleProof

open Idealize.ShloMosaic Idealize.ShloMosaic.TcCoe Idealize.SL.Sem
open Cert.PleIdeal Cert.PleIdeal.Gen Cert.PleIdeal.Facts

theorem zero2 : (![0, 0] : Fin 2 → Nat) = fun _ => 0 := funext fun a => by fin_cases a <;> rfl

/-! ## The halves of a block -/

/-- A row of the first half, and of the second. -/
def lo (j : Fin 256) : Fin 512 := ⟨j.val, by omega⟩
def hi (j : Fin 256) : Fin 512 := ⟨256 + j.val, by omega⟩

theorem ld_lo (x : Vec Ideal S512x2048 .f32) (j : Fin 256) (d : Fin 2048) : View.ld x r0_2 (ix2 j d) = x (ix2 (lo j) d) := by
  refine congrArg x (funext fun a => Fin.ext ?_)
  match a with
  | ⟨0, _⟩ => show 0 + 1 * j.val = j.val; omega
  | ⟨1, _⟩ => show 0 + 1 * d.val = d.val; omega

theorem ld_hi (x : Vec Ideal S512x2048 .f32) (j : Fin 256) (d : Fin 2048) : View.ld x r0_4 (ix2 j d) = x (ix2 (hi j) d) := by
  refine congrArg x (funext fun a => Fin.ext ?_)
  match a with
  | ⟨0, _⟩ => show 256 + 1 * j.val = 256 + j.val; omega
  | ⟨1, _⟩ => show 0 + 1 * d.val = d.val; omega

theorem emb_hi (j : Fin 256) (d : Fin 2048) : r0_4.emb (ix2 j d) = ix2 (hi j) d := by
  refine funext fun a => Fin.ext ?_
  match a with
  | ⟨0, _⟩ => show 256 + 1 * j.val = 256 + j.val; omega
  | ⟨1, _⟩ => show 0 + 1 * d.val = d.val; omega

theorem emb_lo (j : Fin 256) (d : Fin 2048) : r0_2.emb (ix2 j d) = ix2 (lo j) d := by
  refine funext fun a => Fin.ext ?_
  match a with
  | ⟨0, _⟩ => show 0 + 1 * j.val = j.val; omega
  | ⟨1, _⟩ => show 0 + 1 * d.val = d.val; omega

theorem lo_not_hi (j : Fin 256) (d : Fin 2048) : ix2 (lo j) d ∉ r0_4.set := by
  intro h
  obtain ⟨x, hx⟩ := r0_4.exists_idx_of_mem h
  have h0 : 256 + 1 * (x 0).val = j.val := congrArg Fin.val (congrFun hx 0)
  omega

theorem canon_hi (p0 p1 : Vec Ideal S256x2048 .f32) (j : Fin 256) (l : Fin 2048) :
    View.canon (Val := Elt Ideal) (s := S512x2048) (e := .f32) [⟨r0_4, p0⟩, ⟨r0_2, p1⟩] (ix2 (hi j) l) = p0 (ix2 j l) := by
  have h := View.canon_cons_emb (Val := Elt Ideal) (e := .f32) r0_4 p0 [⟨r0_2, p1⟩] (ix2 j l)
  rwa [emb_hi] at h

theorem canon_lo (p0 p1 : Vec Ideal S256x2048 .f32) (j : Fin 256) (l : Fin 2048) :
    View.canon (Val := Elt Ideal) (s := S512x2048) (e := .f32) [⟨r0_4, p0⟩, ⟨r0_2, p1⟩] (ix2 (lo j) l) = p1 (ix2 j l) := by
  refine (View.canon_cons_of_not_mem (Val := Elt Ideal) (e := .f32) ⟨r0_4, p0⟩ [⟨r0_2, p1⟩] (y := ix2 (lo j) l) (lo_not_hi j l)).trans ?_
  have h := View.canon_cons_emb (Val := Elt Ideal) (e := .f32) r0_2 p1 [] (ix2 j l)
  rwa [emb_lo] at h

/-! ## A block's rows -/

theorem mid_congr {x x' f f' g : Fin 2048 → EReal} (hx : ∀ d, x d = x' d) (hf : ∀ d, f d = f' d) (l : Fin 2048) :
    mid x f g l = mid x' f' g l := by
  rw [funext hx, funext hf]

section
variable (x0 x1 : Vec Ideal S512x2048 .f32) (x2 : Vec Ideal S512x256 .f32) (x3 x4 : Vec Ideal S1x2048 .f32)
  (x5 : Vec Ideal S2048x2048 .bf16) (x6 : Vec Ideal S256x2048 .bf16) (x7 : Vec Ideal S1x2048 .f32)

/-- Row `q` of a block, as the mathematics has it. -/
def blkRow (q : Fin 512) (l : Fin 2048) : EReal :=
  row (fun d => x0 (ix2 q d)) (fun d => x1 (ix2 q d)) (fun k => x2 (ix2 q k)) (fun d => x3 (ix2 (0 : Fin 1) d))
    (fun d => x4 (ix2 (0 : Fin 1) d)) (fun k d => x5 (ix2 k d)) (fun k d => x6 (ix2 k d)) (fun d => x7 (ix2 (0 : Fin 1) d)) l

theorem p15 (q : Fin 512) (l : Fin 2048) : k0_pay15 x0 x1 x2 x3 x4 x5 x6 x7 (ix2 q l)
    = emb (fun k => x2 (ix2 q k)) (fun k d => x6 (ix2 k d)) l := by
  unfold k0_pay15
  rw [View.ld_unit_zero (S := S512x256) zero2, View.ld_unit_zero (S := S256x2048) zero2, pay2_at]

theorem p16 (j : Fin 256) (l : Fin 2048) : k0_pay16 x0 x1 x2 x3 x4 x5 x6 x7 (ix2 j l)
    = mid (fun d => x0 (ix2 (lo j) d)) (fun d => x1 (ix2 (lo j) d)) (fun d => x3 (ix2 (0 : Fin 1) d)) l := by
  unfold k0_pay16
  rw [View.ld_unit_zero (S := S1x2048) zero2, pay3_at]
  exact mid_congr (ld_lo x0 j) (ld_lo x1 j) l

/-- The second half's sum, as the kernel names it. -/
def p8 : FVec Ideal S256x2048 .f32 :=
  k0_pay8 (k0_pay17 x0 x1 x2 x3 x4 x5 x6 x7) (k0_pay18 x0 x1 x2 x3 x4 x5 x6 x7) (k0_pay19 x0 x1 x2 x3 x4 x5 x6 x7)
    (k0_pay20 x0 x1 x2 x3 x4 x5 x6 x7) (Scalar.ofBits .f32 0x358637BD#32)

theorem p8_at (j : Fin 256) (l : Fin 2048) : p8 x0 x1 x2 x3 x4 x5 x6 x7 (ix2 j l)
    = mid (fun d => x0 (ix2 (hi j) d)) (fun d => x1 (ix2 (hi j) d)) (fun d => x3 (ix2 (0 : Fin 1) d)) l := by
  unfold p8 k0_pay17 k0_pay18 k0_pay19 k0_pay20
  rw [View.ld_unit_zero (S := S1x2048) zero2, pay8_at, pay4_at, pay5_at, pay6_at, pay7_at]
  exact (show _ = mid (fun d => View.ld x0 r0_4 (ix2 j d)) (fun d => View.ld x1 r0_4 (ix2 j d)) (fun d => x3 (ix2 (0 : Fin 1) d)) l
    from rfl).trans (mid_congr (ld_hi x0 j) (ld_hi x1 j) l)

/-- The second half's gate argument. -/
theorem p21 (j : Fin 256) (l : Fin 2048) : k0_pay21 x0 x1 x2 x3 x4 x5 x6 x7 (ix2 j l)
    = gateArg (mid (fun d => x0 (ix2 (hi j) d)) (fun d => x1 (ix2 (hi j) d)) (fun d => x3 (ix2 (0 : Fin 1) d)))
        (fun d => x4 (ix2 (0 : Fin 1) d)) (fun k d => x5 (ix2 k d)) l := by
  unfold k0_pay21
  rw [View.ld_unit_zero (S := S1x2048) zero2, View.ld_unit_zero (S := S2048x2048) zero2, pay10_at]
  exact congrArg (fun y => gateArg y _ _ l) (funext fun d => p8_at x0 x1 x2 x3 x4 x5 x6 x7 j d)

theorem out_lo (j : Fin 256) (l : Fin 2048) :
    out0_8 x0 x1 x2 x3 x4 x5 x6 x7 (ix2 (lo j) l) = blkRow x0 x1 x2 x3 x4 x5 x6 x7 (lo j) l := by
  unfold out0_8
  rw [canon_lo, View.ld_unit_zero (S := S1x2048) zero2, View.ld_unit_zero (S := S1x2048) zero2,
    View.ld_unit_zero (S := S2048x2048) zero2, pay11_at]
  simp only [pay9_at, p15, p16]
  rfl

theorem out_hi (j : Fin 256) (l : Fin 2048) :
    out0_8 x0 x1 x2 x3 x4 x5 x6 x7 (ix2 (hi j) l) = blkRow x0 x1 x2 x3 x4 x5 x6 x7 (hi j) l := by
  unfold out0_8
  rw [canon_hi, View.ld_unit_zero (S := S1x2048) zero2, pay1_at, pay14_at, pay13_at]
  simp only [pay12_at, p15, p21]
  refine congrArg₂ (fun a b : EReal => a + b) (p8_at x0 x1 x2 x3 x4 x5 x6 x7 j l) ?_
  rfl

theorem out_at (q : Fin 512) (l : Fin 2048) :
    out0_8 x0 x1 x2 x3 x4 x5 x6 x7 (ix2 q l) = blkRow x0 x1 x2 x3 x4 x5 x6 x7 q l := by
  by_cases h : q.val < 256
  · exact out_lo x0 x1 x2 x3 x4 x5 x6 x7 ⟨q.val, h⟩ l
  · have e : q = hi ⟨q.val - 256, by omega⟩ := Fin.ext (by show q.val = 256 + (q.val - 256); omega)
    rw [e]
    exact out_hi x0 x1 x2 x3 x4 x5 x6 x7 _ l

end

/-! ## The blocks -/

variable (m : (ℓ : Loc nD τ sig) → Buf (Elt Ideal) ℓ)

/-- The arguments of a device. -/
def A0 (c : Dev nD) : SX.Idx → EReal := m ((c.tc : Thread nD τ).loc main_arg0)
def A1 (c : Dev nD) : SX.Idx → EReal := m ((c.tc : Thread nD τ).loc main_arg1)
def A2 (c : Dev nD) : SP.Idx → EReal := m ((c.tc : Thread nD τ).loc main_arg2)
def A3 (c : Dev nD) : SV.Idx → EReal := m ((c.tc : Thread nD τ).loc main_arg3)
def A4 (c : Dev nD) : SV.Idx → EReal := m ((c.tc : Thread nD τ).loc main_arg4)
def A5 (c : Dev nD) : SW.Idx → EReal := m ((c.tc : Thread nD τ).loc main_arg5)
def A6 (c : Dev nD) : SE.Idx → EReal := m ((c.tc : Thread nD τ).loc main_arg6)
def A7 (c : Dev nD) : SV.Idx → EReal := m ((c.tc : Thread nD τ).loc main_arg7)

/-- Rows of the inputs, rows of the embeddings, and a gain as a row. -/
def rowsX (x : FVec Ideal S4x4096x2048 .f32) : FVec Ideal S16384x2048 .f32 := shapeCast _ x shapeCasts_S4x4096x2048_S16384x2048
def rowsP (x : FVec Ideal S4x4096x256 .f32) : FVec Ideal S16384x256 .f32 := shapeCast _ x shapeCasts_S4x4096x256_S16384x256
def gainRow (g : FVec Ideal S2048 .f32) : FVec Ideal S1x2048 .f32 := broadcastInDim S1x2048 ![1] bcast_S2048_S1x2048_1 g

theorem rowsX_at (x : FVec Ideal S4x4096x2048 .f32) (r : Fin 16384) (d : Fin 2048) :
    rowsX x (ix2 r d) = x (ix3 (bOf r) (sOf r) d) := by
  pointwise [rowsX, bOf, sOf]
theorem rowsP_at (x : FVec Ideal S4x4096x256 .f32) (r : Fin 16384) (d : Fin 256) :
    rowsP x (ix2 r d) = x (ix3 (bOf r) (sOf r) d) := by
  pointwise [rowsP, bOf, sOf]
theorem gainRow_at (g : FVec Ideal S2048 .f32) (d : Fin 2048) : gainRow g (ix2 (0 : Fin 1) d) = g (ix1 d) := by
  pointwise [gainRow]

theorem V0 (c : Dev nD) : V m c main_v0 = rowsX (A0 m c) := by
  unfold V
  after_results <;> rfl
theorem V1 (c : Dev nD) : V m c main_v1 = rowsX (A1 m c) := by
  unfold V
  after_results <;> rfl
theorem V2 (c : Dev nD) : V m c main_v2 = rowsP (A2 m c) := by
  unfold V
  after_results <;> rfl
theorem V3 (c : Dev nD) : V m c main_v3 = gainRow (A3 m c) := by
  unfold V
  after_results <;> rfl
theorem V4 (c : Dev nD) : V m c main_v4 = gainRow (A4 m c) := by
  unfold V
  after_results <;> rfl
theorem V5 (c : Dev nD) : V m c main_v5 = A5 m c := by
  unfold V
  after_results <;> rfl
theorem V6 (c : Dev nD) : V m c main_v6 = A6 m c := by
  unfold V
  after_results <;> rfl
theorem V7 (c : Dev nD) : V m c main_v7 = gainRow (A7 m c) := by
  unfold V
  after_results <;> rfl

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = t.val ∧ win0_1.index t (1 : Fin 2) = 0 :=
  (by decide +kernel : ∀ t : Fin grid0.N, _)
theorem ix_2 : ∀ t : Fin cfg0.N, win0_2.index t (0 : Fin 2) = t.val ∧ win0_2.index t (1 : Fin 2) = 0 :=
  (by decide +kernel : ∀ t : Fin grid0.N, _)
theorem ix_3 : ∀ t : Fin cfg0.N, win0_3.index t (0 : Fin 2) = 0 ∧ win0_3.index t (1 : Fin 2) = 0 :=
  (by decide +kernel : ∀ t : Fin grid0.N, _)
theorem ix_4 : ∀ t : Fin cfg0.N, win0_4.index t (0 : Fin 2) = 0 ∧ win0_4.index t (1 : Fin 2) = 0 :=
  (by decide +kernel : ∀ t : Fin grid0.N, _)
theorem ix_5 : ∀ t : Fin cfg0.N, win0_5.index t (0 : Fin 2) = 0 ∧ win0_5.index t (1 : Fin 2) = 0 :=
  (by decide +kernel : ∀ t : Fin grid0.N, _)
theorem ix_6 : ∀ t : Fin cfg0.N, win0_6.index t (0 : Fin 2) = 0 ∧ win0_6.index t (1 : Fin 2) = 0 :=
  (by decide +kernel : ∀ t : Fin grid0.N, _)
theorem ix_7 : ∀ t : Fin cfg0.N, win0_7.index t (0 : Fin 2) = 0 ∧ win0_7.index t (1 : Fin 2) = 0 :=
  (by decide +kernel : ∀ t : Fin grid0.N, _)
theorem ix_8 : ∀ t : Fin cfg0.N, win0_8.index t (0 : Fin 2) = t.val ∧ win0_8.index t (1 : Fin 2) = 0 :=
  (by decide +kernel : ∀ t : Fin grid0.N, _)

theorem tlt (t : Fin cfg0.N) : t.val < 32 := t.isLt

/-- The row of the result that row `q` of point `t`'s block is. -/
def rowAt (t : Fin cfg0.N) (q : Fin 512) : Fin 16384 := ⟨t.val * 512 + q.val, by have := tlt t; omega⟩

theorem emb_0 (t : Fin cfg0.N) (q : Fin 512) (d : Fin 2048) : ((cfg0.win 0).blk t).view.emb (ix2 q d) = ix2 (rowAt t q) d := by
  obtain ⟨e0, e1⟩ := ix_0 t
  funext a; apply Fin.ext
  match a with
  | ⟨0, _⟩ => show win0_0.index t (0 : Fin 2) * 512 + 1 * q.val = t.val * 512 + q.val; omega
  | ⟨1, _⟩ => show win0_0.index t (1 : Fin 2) * 2048 + 1 * d.val = d.val; omega

theorem emb_1 (t : Fin cfg0.N) (q : Fin 512) (d : Fin 2048) : ((cfg0.win 1).blk t).view.emb (ix2 q d) = ix2 (rowAt t q) d := by
  obtain ⟨e0, e1⟩ := ix_1 t
  funext a; apply Fin.ext
  match a with
  | ⟨0, _⟩ => show win0_1.index t (0 : Fin 2) * 512 + 1 * q.val = t.val * 512 + q.val; omega
  | ⟨1, _⟩ => show win0_1.index t (1 : Fin 2) * 2048 + 1 * d.val = d.val; omega

theorem emb_2 (t : Fin cfg0.N) (q : Fin 512) (d : Fin 256) : ((cfg0.win 2).blk t).view.emb (ix2 q d) = ix2 (rowAt t q) d := by
  obtain ⟨e0, e1⟩ := ix_2 t
  funext a; apply Fin.ext
  match a with
  | ⟨0, _⟩ => show win0_2.index t (0 : Fin 2) * 512 + 1 * q.val = t.val * 512 + q.val; omega
  | ⟨1, _⟩ => show win0_2.index t (1 : Fin 2) * 256 + 1 * d.val = d.val; omega

theorem emb_3 (t : Fin cfg0.N) (q : Fin 1) (d : Fin 2048) : ((cfg0.win 3).blk t).view.emb (ix2 q d) = ix2 q d := by
  obtain ⟨e0, e1⟩ := ix_3 t
  funext a; apply Fin.ext
  match a with
  | ⟨0, _⟩ => show win0_3.index t (0 : Fin 2) * 1 + 1 * q.val = q.val; omega
  | ⟨1, _⟩ => show win0_3.index t (1 : Fin 2) * 2048 + 1 * d.val = d.val; omega

theorem emb_4 (t : Fin cfg0.N) (q : Fin 1) (d : Fin 2048) : ((cfg0.win 4).blk t).view.emb (ix2 q d) = ix2 q d := by
  obtain ⟨e0, e1⟩ := ix_4 t
  funext a; apply Fin.ext
  match a with
  | ⟨0, _⟩ => show win0_4.index t (0 : Fin 2) * 1 + 1 * q.val = q.val; omega
  | ⟨1, _⟩ => show win0_4.index t (1 : Fin 2) * 2048 + 1 * d.val = d.val; omega

theorem emb_5 (t : Fin cfg0.N) (q : Fin 2048) (d : Fin 2048) : ((cfg0.win 5).blk t).view.emb (ix2 q d) = ix2 q d := by
  obtain ⟨e0, e1⟩ := ix_5 t
  funext a; apply Fin.ext
  match a with
  | ⟨0, _⟩ => show win0_5.index t (0 : Fin 2) * 2048 + 1 * q.val = q.val; omega
  | ⟨1, _⟩ => show win0_5.index t (1 : Fin 2) * 2048 + 1 * d.val = d.val; omega

theorem emb_6 (t : Fin cfg0.N) (q : Fin 256) (d : Fin 2048) : ((cfg0.win 6).blk t).view.emb (ix2 q d) = ix2 q d := by
  obtain ⟨e0, e1⟩ := ix_6 t
  funext a; apply Fin.ext
  match a with
  | ⟨0, _⟩ => show win0_6.index t (0 : Fin 2) * 256 + 1 * q.val = q.val; omega
  | ⟨1, _⟩ => show win0_6.index t (1 : Fin 2) * 2048 + 1 * d.val = d.val; omega

theorem emb_7 (t : Fin cfg0.N) (q : Fin 1) (d : Fin 2048) : ((cfg0.win 7).blk t).view.emb (ix2 q d) = ix2 q d := by
  obtain ⟨e0, e1⟩ := ix_7 t
  funext a; apply Fin.ext
  match a with
  | ⟨0, _⟩ => show win0_7.index t (0 : Fin 2) * 1 + 1 * q.val = q.val; omega
  | ⟨1, _⟩ => show win0_7.index t (1 : Fin 2) * 2048 + 1 * d.val = d.val; omega

theorem emb_8 (t : Fin cfg0.N) (q : Fin 512) (d : Fin 2048) : ((cfg0.win 8).blk t).view.emb (ix2 q d) = ix2 (rowAt t q) d := by
  obtain ⟨e0, e1⟩ := ix_8 t
  funext a; apply Fin.ext
  match a with
  | ⟨0, _⟩ => show win0_8.index t (0 : Fin 2) * 512 + 1 * q.val = t.val * 512 + q.val; omega
  | ⟨1, _⟩ => show win0_8.index t (1 : Fin 2) * 2048 + 1 * d.val = d.val; omega

theorem blk0_at (c : Dev nD) (t : Fin cfg0.N) (q : Fin 512) (d : Fin 2048) : iblk m c 0 t (ix2 q d) = A0 m c (ix3 (bOf (rowAt t q)) (sOf (rowAt t q)) d) := by
  show V m c main_v0 (((cfg0.win 0).blk t).view.emb (ix2 q d)) = _
  rw [V0, emb_0]; exact rowsX_at _ _ _

theorem blk1_at (c : Dev nD) (t : Fin cfg0.N) (q : Fin 512) (d : Fin 2048) : iblk m c 1 t (ix2 q d) = A1 m c (ix3 (bOf (rowAt t q)) (sOf (rowAt t q)) d) := by
  show V m c main_v1 (((cfg0.win 1).blk t).view.emb (ix2 q d)) = _
  rw [V1, emb_1]; exact rowsX_at _ _ _

theorem blk2_at (c : Dev nD) (t : Fin cfg0.N) (q : Fin 512) (d : Fin 256) : iblk m c 2 t (ix2 q d) = A2 m c (ix3 (bOf (rowAt t q)) (sOf (rowAt t q)) d) := by
  show V m c main_v2 (((cfg0.win 2).blk t).view.emb (ix2 q d)) = _
  rw [V2, emb_2]; exact rowsP_at _ _ _

theorem blk3_at (c : Dev nD) (t : Fin cfg0.N) (d : Fin 2048) : iblk m c 3 t (ix2 (0 : Fin 1) d) = A3 m c (ix1 d) := by
  show V m c main_v3 (((cfg0.win 3).blk t).view.emb (ix2 (0 : Fin 1) d)) = _
  rw [V3, emb_3]; exact gainRow_at _ _

theorem blk4_at (c : Dev nD) (t : Fin cfg0.N) (d : Fin 2048) : iblk m c 4 t (ix2 (0 : Fin 1) d) = A4 m c (ix1 d) := by
  show V m c main_v4 (((cfg0.win 4).blk t).view.emb (ix2 (0 : Fin 1) d)) = _
  rw [V4, emb_4]; exact gainRow_at _ _

theorem blk5_at (c : Dev nD) (t : Fin cfg0.N) (q : Fin 2048) (d : Fin 2048) : iblk m c 5 t (ix2 q d) = A5 m c (ix2 q d) := by
  show V m c main_v5 (((cfg0.win 5).blk t).view.emb (ix2 q d)) = _
  rw [V5, emb_5]

theorem blk6_at (c : Dev nD) (t : Fin cfg0.N) (q : Fin 256) (d : Fin 2048) : iblk m c 6 t (ix2 q d) = A6 m c (ix2 q d) := by
  show V m c main_v6 (((cfg0.win 6).blk t).view.emb (ix2 q d)) = _
  rw [V6, emb_6]

theorem blk7_at (c : Dev nD) (t : Fin cfg0.N) (d : Fin 2048) : iblk m c 7 t (ix2 (0 : Fin 1) d) = A7 m c (ix1 d) := by
  show V m c main_v7 (((cfg0.win 7).blk t).view.emb (ix2 (0 : Fin 1) d)) = _
  rw [V7, emb_7]; exact gainRow_at _ _

/-! ## The result -/

/-- The result of a device. -/
def res (c : Dev nD) : SR.Idx → EReal := ple (A0 m c) (A1 m c) (A2 m c) (A3 m c) (A4 m c) (A5 m c) (A6 m c) (A7 m c)

theorem row_congr {x x' f f' : Fin 2048 → EReal} {p p' : Fin 256 → EReal} {g3 g3' g4 g4' : Fin 2048 → EReal}
    {w5 w5' : Fin 2048 → Fin 2048 → EReal} {w6 w6' : Fin 256 → Fin 2048 → EReal} {g7 g7' : Fin 2048 → EReal}
    (hx : ∀ d, x d = x' d) (hf : ∀ d, f d = f' d) (hp : ∀ d, p d = p' d) (h3 : ∀ d, g3 d = g3' d) (h4 : ∀ d, g4 d = g4' d)
    (h5 : ∀ k d, w5 k d = w5' k d) (h6 : ∀ k d, w6 k d = w6' k d) (h7 : ∀ d, g7 d = g7' d) (l : Fin 2048) :
    row x f p g3 g4 w5 w6 g7 l = row x' f' p' g3' g4' w5' w6' g7' l := by
  rw [funext hx, funext hf, funext hp, funext h3, funext h4, funext fun k => funext (h5 k), funext fun k => funext (h6 k), funext h7]

theorem point_at (c : Dev nD) (t : Fin cfg0.N) (q : Fin 512) (l : Fin 2048) :
    out0_8 (iblk m c 0 t) (iblk m c 1 t) (iblk m c 2 t) (iblk m c 3 t) (iblk m c 4 t) (iblk m c 5 t) (iblk m c 6 t) (iblk m c 7 t) (ix2 q l)
      = pleAt (A0 m c) (A1 m c) (A2 m c) (A3 m c) (A4 m c) (A5 m c) (A6 m c) (A7 m c) (rowAt t q) l := by
  refine (out_at _ _ _ _ _ _ _ _ q l).trans ?_
  exact row_congr (blk0_at m c t q) (blk1_at m c t q) (blk2_at m c t q) (blk3_at m c t) (blk4_at m c t) (blk5_at m c t)
    (blk6_at m c t) (blk7_at m c t) l

theorem read_at (G : SR.Idx → EReal) (t : Fin cfg0.N) (q : Fin 512) (l : Fin 2048) :
    ((cfg0.win 8).blk t).view.read (Elt Ideal) G (ix2 q l) = G (ix2 (rowAt t q) l) := by
  show G (((cfg0.win 8).blk t).view.emb (ix2 q l)) = _
  rw [emb_8]

theorem flushed_eq (c : Dev nD) (t : Fin cfg0.N) (hf : (cfg0.win 8).flush t = true) :
    (dats m 0 c).flushed 8 t = ((cfg0.win 8).blk t).view.read (Elt Ideal) (res m c) := by
  show (dats m 0 c).after 8 t = _
  rw [after0_8]
  funext i
  rw [show i = ix2 (i 0 : Fin 512) (i 1 : Fin 2048) from eq_ix2 i]
  exact (point_at m c t _ _).trans (read_at (res m c) t _ _).symm

theorem covered_at (r : Fin 16384) (l : Fin 2048) :
    ∃ t : Fin cfg0.N, (cfg0.win 8).flush t = true ∧ ix2 r l ∈ ((cfg0.win 8).blk t).view.set := by
  have ht : r.val / 512 < 32 := by omega
  refine ⟨⟨r.val / 512, ht⟩, flush0_8 _, ?_⟩
  have h := ((cfg0.win 8).blk ⟨r.val / 512, ht⟩).view.emb_mem_set (ix2 (⟨r.val % 512, by omega⟩ : Fin 512) l)
  rw [emb_8] at h
  refine (show _ = ix2 r l from ?_) ▸ h
  funext a; apply Fin.ext
  match a with
  | ⟨0, _⟩ => show r.val / 512 * 512 + r.val % 512 = r.val; omega
  | ⟨1, _⟩ => rfl

/-- Every entry of the result array is in the block some point writes back. -/
theorem covered (i : S16384x2048.Idx) : ∃ t : Fin cfg0.N, (cfg0.win 8).flush t = true ∧ i ∈ ((cfg0.win 8).blk t).view.set := by
  rw [show i = ix2 (i 0 : Fin 16384) (i 1 : Fin 2048) from eq_ix2 i]
  exact covered_at _ _

/-- The result array after the run. -/
theorem final (c : Dev nD) : (dats m 0 c).arrAt 8 cfg0.N = res m c :=
  (dats m 0 c).arrAt_eq_of_cover 8 (res m c) (flushed_eq m c) covered

end Cert.PleProof

end
-- ==== Proof.PleRef.lean ====
/- The reference's last step is the same function of its arguments. -/
module

public import proofs.«01_k».proof.Proof.Gen.PleRefIdeal.Run
public import proofs.«01_k».proof.Proof.Gen.PleRefIdeal
public import proofs.«01_k».proof.Proof.PleSpec
public import Idealize.ShloMosaic.Lib.Pointwise
public import Idealize.ShloMosaic.Lib.IdealHost

@[expose] public section

set_option maxRecDepth 16384

noncomputable section

namespace Cert.PleProof

open Idealize.ShloMosaic Idealize.ShloMosaic.TcCoe Idealize.SL.Sem
open Cert.PleRefIdeal Cert.PleRefIdeal.Gen Cert.PleRefIdeal.Facts

/-- The normalisation, -/
def refRms (y : FVec Ideal S4x4096x2048 .f32) (g : FVec Ideal S2048 .f32) : FVec Ideal S4x4096x2048 .f32 :=
  mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))

/-- the sum, -/
def refMid (x f : FVec Ideal S4x4096x2048 .f32) (g3 : FVec Ideal S2048 .f32) : FVec Ideal S4x4096x2048 .f32 := addf x (refRms f g3)

/-- the gate's argument, -/
def refGate (y : FVec Ideal S4x4096x2048 .f32) (g4 : FVec Ideal S2048 .f32) (w5 : FVec Ideal S2048x2048 .f32) : FVec Ideal S4x4096x2048 .f32 :=
  Host.dotGeneral dot_S4x4096x2048_S2048x2048_S4x4096x2048_2_0_01_1_n_n none (refRms y g4) w5

/-- the gated embedding, -/
def refEmb (z : FVec Ideal S4x4096x2048 .f32) (p : FVec Ideal S4x4096x256 .f32) (w6 : FVec Ideal S256x2048 .f32) : FVec Ideal S4x4096x2048 .f32 :=
  mulf (Host.dotGeneral dot_S4x4096x256_S256x2048_S4x4096x2048_2_0_01_1_n_n none p w6) (Host.divf (broadcastInDim S4x4096x2048 ![] bcast_S_S4x4096x2048 (constant S_ .f32 0x3F800000#32)) (addf (broadcastInDim S4x4096x2048 ![] bcast_S_S4x4096x2048 (constant S_ .f32 0x3F800000#32)) (Host.exp (Host.negf z))))

/-- the results by batch and position, -/
def refLast (y e : FVec Ideal S4x4096x2048 .f32) (g7 : FVec Ideal S2048 .f32) : FVec Ideal S4x4096x2048 .f32 := addf y (refRms e g7)

/-- and the results by row. -/
def refO (x0 x1 : FVec Ideal S4x4096x2048 .f32) (x2 : FVec Ideal S4x4096x256 .f32) (x3 x4 : FVec Ideal S2048 .f32)
    (x5 : FVec Ideal S2048x2048 .f32) (x6 : FVec Ideal S256x2048 .f32) (x7 : FVec Ideal S2048 .f32) : FVec Ideal S16384x2048 .f32 :=
  shapeCast _ (refLast (refMid x0 x1 x3) (refEmb (refGate (refMid x0 x1 x3) x4 x5) x2 x6) x7) shapeCasts_S4x4096x2048_S16384x2048

theorem refRms_at (y : FVec Ideal S4x4096x2048 .f32) (g : FVec Ideal S2048 .f32) (b : Fin 4) (s : Fin 4096) (l : Fin 2048) :
    refRms y g (ix3 b s l) = rms (fun d => y (ix3 b s d)) (fun d => g (ix1 d)) l := by
  pointwise [refRms, rms]

theorem refMid_at (x f : FVec Ideal S4x4096x2048 .f32) (g3 : FVec Ideal S2048 .f32) (b : Fin 4) (s : Fin 4096) (l : Fin 2048) :
    refMid x f g3 (ix3 b s l) = mid (fun d => x (ix3 b s d)) (fun d => f (ix3 b s d)) (fun d => g3 (ix1 d)) l := by
  show (x (ix3 b s l) : EReal) + refRms f g3 (ix3 b s l) = _
  rw [refRms_at]; rfl

theorem dot_at (y : FVec Ideal S4x4096x2048 .f32) (w5 : FVec Ideal S2048x2048 .f32) (b : Fin 4) (s : Fin 4096) (l : Fin 2048) :
    Host.dotGeneral dot_S4x4096x2048_S2048x2048_S4x4096x2048_2_0_01_1_n_n none y w5 (ix3 b s l)
      = ∑ k : Fin 2048, (y (ix3 b s k) : EReal) * w5 (ix2 k l) := by
  pointwise []

theorem refGate_at (y : FVec Ideal S4x4096x2048 .f32) (g4 : FVec Ideal S2048 .f32) (w5 : FVec Ideal S2048x2048 .f32)
    (b : Fin 4) (s : Fin 4096) (l : Fin 2048) : refGate y g4 w5 (ix3 b s l)
      = gateArg (fun d => y (ix3 b s d)) (fun d => g4 (ix1 d)) (fun k d => w5 (ix2 k d)) l := by
  unfold refGate
  rw [dot_at]
  exact Finset.sum_congr rfl fun k _ => congrArg (fun a : EReal => a * w5 (ix2 k l)) (refRms_at y g4 b s k)

theorem refEmb_at (z : FVec Ideal S4x4096x2048 .f32) (p : FVec Ideal S4x4096x256 .f32) (w6 : FVec Ideal S256x2048 .f32)
    (b : Fin 4) (s : Fin 4096) (l : Fin 2048) : refEmb z p w6 (ix3 b s l)
      = emb (fun k => p (ix3 b s k)) (fun k d => w6 (ix2 k d)) l * logistic (z (ix3 b s l)) := by
  pointwise [refEmb, emb, logistic]

theorem refLast_at (y e : FVec Ideal S4x4096x2048 .f32) (g7 : FVec Ideal S2048 .f32) (b : Fin 4) (s : Fin 4096) (l : Fin 2048) :
    refLast y e g7 (ix3 b s l) = (y (ix3 b s l) : EReal) + rms (fun d => e (ix3 b s d)) (fun d => g7 (ix1 d)) l := by
  show (y (ix3 b s l) : EReal) + refRms e g7 (ix3 b s l) = _
  rw [refRms_at]

theorem rows_at (x : FVec Ideal S4x4096x2048 .f32) (r : Fin 16384) (d : Fin 2048) :
    (shapeCast _ x shapeCasts_S4x4096x2048_S16384x2048 : FVec Ideal S16384x2048 .f32) (ix2 r d) = x (ix3 (bOf r) (sOf r) d) := by
  pointwise [bOf, sOf]

theorem ref_at (x0 x1 : FVec Ideal S4x4096x2048 .f32) (x2 : FVec Ideal S4x4096x256 .f32) (x3 x4 : FVec Ideal S2048 .f32)
    (x5 : FVec Ideal S2048x2048 .f32) (x6 : FVec Ideal S256x2048 .f32) (x7 : FVec Ideal S2048 .f32) (r : Fin 16384) (l : Fin 2048) :
    refO x0 x1 x2 x3 x4 x5 x6 x7 (ix2 r l) = pleAt x0 x1 x2 x3 x4 x5 x6 x7 r l := by
  unfold refO
  rw [rows_at, refLast_at]
  simp only [refEmb_at, refGate_at, refMid_at]
  rfl

/-- The reference's results. -/
theorem ref_eq (x0 x1 : FVec Ideal S4x4096x2048 .f32) (x2 : FVec Ideal S4x4096x256 .f32) (x3 x4 : FVec Ideal S2048 .f32)
    (x5 : FVec Ideal S2048x2048 .f32) (x6 : FVec Ideal S256x2048 .f32) (x7 : FVec Ideal S2048 .f32) :
    refO x0 x1 x2 x3 x4 x5 x6 x7 = ple x0 x1 x2 x3 x4 x5 x6 x7 := by
  funext i
  rw [show i = ix2 (i 0 : Fin 16384) (i 1 : Fin 2048) from eq_ix2 i]
  exact ref_at x0 x1 x2 x3 x4 x5 x6 x7 _ _

/-- The reference's run, its result named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v50) = refO (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Cert.PleRefIdeal.Value.run m ρ

end Cert.PleProof

end
-- ==== Proof.OutSpec.lean ====
/- The mathematics of the output projection of a row: the sum of the gated linear attention's two directions is normalised head
   by head, times the gate, and set after the attention's output; the weights' product with it is normalised and added to the
   input, and the sum is normalised for the network after it. -/
module

public import proofs.«01_k».proof.Proof.PleSpec

@[expose] public section

noncomputable section

namespace Cert.OutProof

open Idealize.ShloMosaic
open Cert.PleProof (rms bOf sOf SX SV SW SR)

/-- The attention's outputs, the two directions and the gate: batch, position, feature. -/
abbrev SA : Shape := ⟨3, ![4, 4096, 1024]⟩
/-- The heads' gain. -/
abbrev SG : Shape := ⟨1, ![256]⟩

/-- A head over the root of the mean of its squares, times the gain and the gate. -/
def hv (o g og : Fin 256 → EReal) (e : Fin 256) : EReal :=
  o e * Ideal.rsqrt (Ideal.div (∑ d : Fin 256, o d * o d) (Ideal.ofBits .f32 1132462080#32) + Ideal.ofBits .f32 897988541#32) * g e * og e

/-- A head's share of the product. -/
def headS (o g og : Fin 256 → EReal) (w : Fin 256 → Fin 2048 → EReal) (l : Fin 2048) : EReal := ∑ e : Fin 256, hv o g og e * w e l

/-- Feature `e` of head `h`, the weights' row for it, and the weights' row for a feature of the attention's output. -/
def col (h : Fin 4) (e : Fin 256) : Fin 1024 := ⟨256 * h.val + e.val, by omega⟩
def wcol (h : Fin 4) (e : Fin 256) : Fin 2048 := ⟨1024 + 256 * h.val + e.val, by omega⟩
def wlo (k : Fin 1024) : Fin 2048 := ⟨k.val, by omega⟩

/-- Head `h`'s share in terms of a row, -/
def head (f b : Fin 1024 → EReal) (g : Fin 256 → EReal) (og : Fin 1024 → EReal) (w : Fin 2048 → Fin 2048 → EReal) (h : Fin 4)
    (l : Fin 2048) : EReal :=
  headS (fun e => f (col h e) + b (col h e)) g (fun e => og (col h e)) (fun e d => w (wcol h e) d) l

/-- the product, -/
def mix (a f b og : Fin 1024 → EReal) (g : Fin 256 → EReal) (w : Fin 2048 → Fin 2048 → EReal) (l : Fin 2048) : EReal :=
  (∑ k : Fin 1024, a k * w (wlo k) l) + head f b g og w 0 l + head f b g og w 1 l + head f b g og w 2 l + head f b g og w 3 l

/-- the row added, -/
def yRow (x : Fin 2048 → EReal) (mx gp : Fin 2048 → EReal) (l : Fin 2048) : EReal := x l + rms mx gp l

/-- An entry of the first result, -/
def yAt (x0 x1 x2 x3 : SA.Idx → EReal) (x4 : SX.Idx → EReal) (x5 : SW.Idx → EReal) (x6 : SG.Idx → EReal) (x7 : SV.Idx → EReal)
    (r : Fin 16384) (l : Fin 2048) : EReal :=
  yRow (fun d => x4 (ix3 (bOf r) (sOf r) d))
    (mix (fun k => x0 (ix3 (bOf r) (sOf r) k)) (fun k => x1 (ix3 (bOf r) (sOf r) k)) (fun k => x2 (ix3 (bOf r) (sOf r) k))
      (fun k => x3 (ix3 (bOf r) (sOf r) k)) (fun e => x6 (ix1 e)) (fun k d => x5 (ix2 k d))) (fun d => x7 (ix1 d)) l

/-- an entry of the second, -/
def hAt (x0 x1 x2 x3 : SA.Idx → EReal) (x4 : SX.Idx → EReal) (x5 : SW.Idx → EReal) (x6 : SG.Idx → EReal) (x7 x8 : SV.Idx → EReal)
    (r : Fin 16384) (l : Fin 2048) : EReal := rms (yAt x0 x1 x2 x3 x4 x5 x6 x7 r) (fun d => x8 (ix1 d)) l

/-- and the two results. -/
def outY (x0 x1 x2 x3 : SA.Idx → EReal) (x4 : SX.Idx → EReal) (x5 : SW.Idx → EReal) (x6 : SG.Idx → EReal) (x7 : SV.Idx → EReal) :
    SR.Idx → EReal := fun i => yAt x0 x1 x2 x3 x4 x5 x6 x7 (i 0 : Fin 16384) (i 1 : Fin 2048)
def outH (x0 x1 x2 x3 : SA.Idx → EReal) (x4 : SX.Idx → EReal) (x5 : SW.Idx → EReal) (x6 : SG.Idx → EReal) (x7 x8 : SV.Idx → EReal) :
    SR.Idx → EReal := fun i => hAt x0 x1 x2 x3 x4 x5 x6 x7 x8 (i 0 : Fin 16384) (i 1 : Fin 2048)

/-! ## Equal rows give equal products -/

theorem headS_congr {o o' og og' : Fin 256 → EReal} {w w' : Fin 256 → Fin 2048 → EReal} (g : Fin 256 → EReal) (l : Fin 2048)
    (ho : ∀ e, o e = o' e) (hg : ∀ e, og e = og' e) (hw : ∀ e, w e l = w' e l) : headS o g og w l = headS o' g og' w' l := by
  rw [funext ho, funext hg]
  exact Finset.sum_congr rfl fun e _ => by rw [hw e]

theorem add5 {a a' b b' c c' d d' e e' : EReal} (ha : a = a') (hb : b = b') (hc : c = c') (hd : d = d') (he : e = e') :
    a + b + c + d + e = a' + b' + c' + d' + e' := by
  rw [ha, hb, hc, hd, he]

theorem dot_congr {a a' w w' : Fin 1024 → EReal} (ha : ∀ k, a k = a' k) (hw : ∀ k, w k = w' k) :
    (∑ k : Fin 1024, a k * w k) = ∑ k : Fin 1024, a' k * w' k := by
  rw [funext ha, funext hw]

theorem rms_congr {y y' g g' : Fin 2048 → EReal} (hy : ∀ d, y d = y' d) (hg : ∀ d, g d = g' d) (l : Fin 2048) : rms y g l = rms y' g' l := by
  rw [funext hy, funext hg]

theorem mix_congr {a a' f f' b b' og og' : Fin 1024 → EReal} {g g' : Fin 256 → EReal} {w w' : Fin 2048 → Fin 2048 → EReal}
    (ha : ∀ k, a k = a' k) (hf : ∀ k, f k = f' k) (hb : ∀ k, b k = b' k) (ho : ∀ k, og k = og' k) (hg : ∀ e, g e = g' e)
    (hw : ∀ k d, w k d = w' k d) (l : Fin 2048) : mix a f b og g w l = mix a' f' b' og' g' w' l := by
  rw [funext ha, funext hf, funext hb, funext ho, funext hg, funext fun k => funext (hw k)]

theorem yRow_congr {x x' mx mx' gp gp' : Fin 2048 → EReal} (hx : ∀ d, x d = x' d) (hm : ∀ d, mx d = mx' d) (hg : ∀ d, gp d = gp' d)
    (l : Fin 2048) : yRow x mx gp l = yRow x' mx' gp' l := by
  rw [funext hx, funext hm, funext hg]

/-! ## The sum over all the weights' rows -/

/-- A sum over the 2048 rows is the sum over the first 1024 and the four heads' sums. -/
theorem sum_rows (F : Fin 2048 → EReal) : (∑ k : Fin 2048, F k) = (∑ k : Fin 1024, F (wlo k)) + (∑ e : Fin 256, F (wcol 0 e))
    + (∑ e : Fin 256, F (wcol 1 e)) + (∑ e : Fin 256, F (wcol 2 e)) + ∑ e : Fin 256, F (wcol 3 e) := by
  have h3 := Fin.sum_univ_add (a := 1792) (b := 256) F
  have h2 := Fin.sum_univ_add (a := 1536) (b := 256) fun k : Fin 1792 => F (Fin.castAdd 256 k)
  have h1 := Fin.sum_univ_add (a := 1280) (b := 256) fun k : Fin 1536 => F (Fin.castAdd 256 (Fin.castAdd 256 k))
  have h0 := Fin.sum_univ_add (a := 1024) (b := 256) fun k : Fin 1280 => F (Fin.castAdd 256 (Fin.castAdd 256 (Fin.castAdd 256 k)))
  refine h3.trans ?_
  rw [h2, h1, h0]
  rfl

end Cert.OutProof

end
-- ==== Proof.OutPay.lean ====
/- What the kernel computes of a block of rows, entry by entry. -/
module

public import proofs.«01_k».proof.Proof.Gen.OutIdeal.Frame
public import proofs.«01_k».proof.Proof.OutSpec
public import Idealize.ShloMosaic.Lib.Pipeline.Value
public import Idealize.ShloMosaic.Lib.Tactic

@[expose] public section

set_option maxRecDepth 16384

noncomputable section

namespace Cert.OutProof

open Idealize.ShloMosaic Idealize.ShloMosaic.TcCoe Idealize.SL.Sem
open Cert.OutIdeal Cert.OutIdeal.Gen Cert.OutIdeal.Facts
open Cert.PleProof (rms bOf sOf SX SV SW SR)

theorem pay3_at (v0 : Vec Ideal S256x1024 .bf16) (v2 : Vec Ideal S1024x2048 .bf16) (v5 v7 : Vec Ideal S256x256 .f32)
    (v10 : Vec Ideal S1x256 .f32) (v24 : Vec Ideal S256x256 .bf16) (v29 : Vec Ideal S256x2048 .bf16) (j : Fin 256) (l : Fin 2048) :
    k0_pay3 v0 v2 v5 v7 v10 v24 v29 (ix2 j l) = (∑ k : Fin 1024, (v0 (ix2 j k) : EReal) * v2 (ix2 k l))
      + headS (fun e => (v5 (ix2 j e) : EReal) + v7 (ix2 j e)) (fun e => v10 (ix2 (0 : Fin 1) e)) (fun e => v24 (ix2 j e))
          (fun e d => v29 (ix2 e d)) l := by
  pointwise [k0_pay3, headS, hv]

theorem pay5_at (v32 : FVec Ideal S256x2048 .f32) (v33 v35 : Vec Ideal S256x256 .f32) (v38 : Vec Ideal S1x256 .f32)
    (v52 : Vec Ideal S256x256 .bf16) (v57 : Vec Ideal S256x2048 .bf16) (j : Fin 256) (l : Fin 2048) :
    k0_pay5 v32 (k0_pay4 v33) v35 v38 v52 v57 (ix2 j l) = (v32 (ix2 j l) : EReal)
      + headS (fun e => (v33 (ix2 j e) : EReal) + v35 (ix2 j e)) (fun e => v38 (ix2 (0 : Fin 1) e)) (fun e => v52 (ix2 j e))
          (fun e d => v57 (ix2 e d)) l := by
  pointwise [k0_pay5, k0_pay4, headS, hv]

theorem pay9_at (v60 : FVec Ideal S256x2048 .f32) (v61 v63 : Vec Ideal S256x256 .f32) (v66 : Vec Ideal S1x256 .f32)
    (v80 : Vec Ideal S256x256 .bf16) (v85 : Vec Ideal S256x2048 .bf16) (v89 v91 : Vec Ideal S256x256 .f32) (v94 : Vec Ideal S1x256 .f32)
    (v108 : Vec Ideal S256x256 .bf16) (v113 : Vec Ideal S256x2048 .bf16) (j : Fin 256) (l : Fin 2048) :
    k0_pay9 v60 (k0_pay6 v61 v63) (k0_pay7 v66) (k0_pay8 v61 v63) v80 v85 v89 v91 v94 v108 v113 (ix2 j l) = (v60 (ix2 j l) : EReal)
      + headS (fun e => (v61 (ix2 j e) : EReal) + v63 (ix2 j e)) (fun e => v66 (ix2 (0 : Fin 1) e)) (fun e => v80 (ix2 j e))
          (fun e d => v85 (ix2 e d)) l
      + headS (fun e => (v89 (ix2 j e) : EReal) + v91 (ix2 j e)) (fun e => v94 (ix2 (0 : Fin 1) e)) (fun e => v108 (ix2 j e))
          (fun e d => v113 (ix2 e d)) l := by
  pointwise [k0_pay9, k0_pay8, k0_pay7, k0_pay6, headS, hv]

theorem pay12_at (v149 : FVec Ideal S256x2048 .f32) (v150 v152 : Vec Ideal S256x256 .f32) (v155 : Vec Ideal S1x256 .f32)
    (v169 : Vec Ideal S256x256 .bf16) (v174 : Vec Ideal S256x2048 .bf16) (j : Fin 256) (l : Fin 2048) :
    k0_pay12 v149 (k0_pay11 v150 v152) v155 v169 v174 (ix2 j l) = (v149 (ix2 j l) : EReal)
      + headS (fun e => (v150 (ix2 j e) : EReal) + v152 (ix2 j e)) (fun e => v155 (ix2 (0 : Fin 1) e)) (fun e => v169 (ix2 j e))
          (fun e d => v174 (ix2 e d)) l := by
  pointwise [k0_pay12, k0_pay11, headS, hv]

theorem pay15_at (v177 : FVec Ideal S256x2048 .f32) (v178 v180 : Vec Ideal S256x256 .f32) (v183 : Vec Ideal S1x256 .f32)
    (v197 : Vec Ideal S256x256 .bf16) (v202 : Vec Ideal S256x2048 .bf16) (v206 v208 : Vec Ideal S256x256 .f32) (v211 : Vec Ideal S1x256 .f32)
    (v225 : Vec Ideal S256x256 .bf16) (v230 : Vec Ideal S256x2048 .bf16) (j : Fin 256) (l : Fin 2048) :
    k0_pay15 v177 (k0_pay13 v178 v180) (k0_pay14 v183) v197 v202 v206 v208 v211 v225 v230 (ix2 j l) = (v177 (ix2 j l) : EReal)
      + headS (fun e => (v178 (ix2 j e) : EReal) + v180 (ix2 j e)) (fun e => v183 (ix2 (0 : Fin 1) e)) (fun e => v197 (ix2 j e))
          (fun e d => v202 (ix2 e d)) l
      + headS (fun e => (v206 (ix2 j e) : EReal) + v208 (ix2 j e)) (fun e => v211 (ix2 (0 : Fin 1) e)) (fun e => v225 (ix2 j e))
          (fun e d => v230 (ix2 e d)) l := by
  pointwise [k0_pay15, k0_pay14, k0_pay13, headS, hv]

theorem pay10_eq (v117 : Vec Ideal S256x1024 .bf16) (v119 : Vec Ideal S1024x2048 .bf16) (v122 v124 : Vec Ideal S256x256 .f32)
    (v127 : Vec Ideal S1x256 .f32) (v141 : Vec Ideal S256x256 .bf16) (v146 : Vec Ideal S256x2048 .bf16) :
    k0_pay10 v117 v119 v122 v124 v127 v141 v146 = k0_pay3 v117 v119 v122 v124 v127 v141 v146 := rfl

theorem pay16_at (v116 : FVec Ideal S256x2048 .f32) (v234 : Vec Ideal S256x2048 .f32) (v236 : Vec Ideal S1x2048 .f32) (j : Fin 256)
    (l : Fin 2048) : k0_pay16 v116 v234 v236 (ix2 j l)
      = yRow (fun d => v234 (ix2 j d)) (fun d => v116 (ix2 j d)) (fun d => v236 (ix2 (0 : Fin 1) d)) l := by
  pointwise [k0_pay16, yRow, rms]

theorem pay17_at (v116 : FVec Ideal S256x2048 .f32) (v234 : Vec Ideal S256x2048 .f32) (v236 v252 : Vec Ideal S1x2048 .f32) (j : Fin 256)
    (l : Fin 2048) : k0_pay17 v116 v234 v236 v252 (ix2 j l)
      = rms (fun d => k0_pay16 v116 v234 v236 (ix2 j d)) (fun d => v252 (ix2 (0 : Fin 1) d)) l := by
  pointwise [k0_pay17, rms]

theorem pay1_eq (v233 : FVec Ideal S256x2048 .f32) (v268 : Vec Ideal S256x2048 .f32) (v270 : Vec Ideal S1x2048 .f32) :
    k0_pay1 v233 (k0_pay18 v268) (k0_pay19 v270) (k0_pay20 v233) = k0_pay16 v233 v268 v270 := rfl

theorem pay2_eq (v233 : FVec Ideal S256x2048 .f32) (v268 : Vec Ideal S256x2048 .f32) (v270 v286 : Vec Ideal S1x2048 .f32) :
    k0_pay2 v233 (k0_pay18 v268) (k0_pay19 v270) (k0_pay20 v233) v286 = k0_pay17 v233 v268 v270 v286 := rfl

end Cert.OutProof

end
-- ==== Proof.OutValue.lean ====
/- The kernel's two result arrays: each point writes the rows of its block, the two halves in turn. -/
module

public import proofs.«01_k».proof.Proof.OutPay

@[expose] public section

set_option maxRecDepth 16384

noncomputable section

namespace Cert.OutProof

open Idealize.ShloMosaic Idealize.ShloMosaic.TcCoe Idealize.SL.Sem
open Cert.OutIdeal Cert.OutIdeal.Gen Cert.OutIdeal.Facts
open Cert.PleProof (rms bOf sOf SX SV SW SR)

theorem zero2 : (![0, 0] : Fin 2 → Nat) = fun _ => 0 := funext fun a => by fin_cases a <;> rfl

/-! ## The halves of a block -/

/-- A row of the first half, and of the second. -/
def lo (j : Fin 256) : Fin 512 := ⟨j.val, by omega⟩
def hi (j : Fin 256) : Fin 512 := ⟨256 + j.val, by omega⟩

/-- A load from an offset reads the entry at the offset and the index together. -/
theorem ld_at {M N a b : Nat} {e : EltTy} (x : Vec Ideal ⟨2, ![M, N]⟩ e) (o : Fin 2 → Nat)
    (h : ∀ i : Fin 2, o i + (![a, b] : Fin 2 → Nat) i ≤ (![M, N] : Fin 2 → Nat) i) (j : Fin a) (d : Fin b) (q : Fin M) (k : Fin N)
    (hq : o 0 + j.val = q.val) (hk : o 1 + d.val = k.val) :
    View.ld x (Rect.unit (s := ⟨2, ![M, N]⟩) o ![a, b] h) (ix2 j d) = x (ix2 q k) := by
  refine congrArg x (funext fun i => Fin.ext ?_)
  match i with
  | ⟨0, _⟩ => show o 0 + 1 * j.val = q.val; omega
  | ⟨1, _⟩ => show o 1 + 1 * d.val = k.val; omega

theorem emb_hi (j : Fin 256) (d : Fin 2048) : r0_18.emb (ix2 j d) = ix2 (hi j) d := by
  refine funext fun a => Fin.ext ?_
  match a with
  | ⟨0, _⟩ => show 256 + 1 * j.val = 256 + j.val; omega
  | ⟨1, _⟩ => show 0 + 1 * d.val = d.val; omega

theorem emb_lo (j : Fin 256) (d : Fin 2048) : r0_16.emb (ix2 j d) = ix2 (lo j) d := by
  refine funext fun a => Fin.ext ?_
  match a with
  | ⟨0, _⟩ => show 0 + 1 * j.val = j.val; omega
  | ⟨1, _⟩ => show 0 + 1 * d.val = d.val; omega

theorem lo_not_hi (j : Fin 256) (d : Fin 2048) : ix2 (lo j) d ∉ r0_18.set := by
  intro h
  obtain ⟨x, hx⟩ := r0_18.exists_idx_of_mem h
  have h0 : 256 + 1 * (x 0).val = j.val := congrArg Fin.val (congrFun hx 0)
  omega

theorem canon_hi {e : EltTy} (p0 p1 : Vec Ideal S256x2048 e) (j : Fin 256) (l : Fin 2048) :
    View.canon (Val := Elt Ideal) (s := S512x2048) (e := e) [⟨r0_18, p0⟩, ⟨r0_16, p1⟩] (ix2 (hi j) l) = p0 (ix2 j l) := by
  have h := View.canon_cons_emb (Val := Elt Ideal) (e := e) r0_18 p0 [⟨r0_16, p1⟩] (ix2 j l)
  rwa [emb_hi] at h

theorem canon_lo {e : EltTy} (p0 p1 : Vec Ideal S256x2048 e) (j : Fin 256) (l : Fin 2048) :
    View.canon (Val := Elt Ideal) (s := S512x2048) (e := e) [⟨r0_18, p0⟩, ⟨r0_16, p1⟩] (ix2 (lo j) l) = p1 (ix2 j l) := by
  refine (View.canon_cons_of_not_mem (Val := Elt Ideal) (e := e) ⟨r0_18, p0⟩ [⟨r0_16, p1⟩] (y := ix2 (lo j) l) (lo_not_hi j l)).trans ?_
  have h := View.canon_cons_emb (Val := Elt Ideal) (e := e) r0_16 p1 [] (ix2 j l)
  rwa [emb_lo] at h

/-! ## A block's rows -/

section
variable (x0 : Vec Ideal S512x1024 .bf16) (x1 x2 : Vec Ideal S512x1024 .f32) (x3 : Vec Ideal S512x1024 .bf16)
  (x4 : Vec Ideal S512x2048 .f32) (x5 : Vec Ideal S2048x2048 .bf16) (x6 : Vec Ideal S1x256 .f32) (x7 x8 : Vec Ideal S1x2048 .f32)

/-- The product of row `q` of a block, as the mathematics has it, -/
def blkMix (q : Fin 512) (l : Fin 2048) : EReal :=
  mix (fun k => x0 (ix2 q k)) (fun k => x1 (ix2 q k)) (fun k => x2 (ix2 q k)) (fun k => x3 (ix2 q k))
    (fun e => x6 (ix2 (0 : Fin 1) e)) (fun k d => x5 (ix2 k d)) l

/-- and the row added. -/
def blkY (q : Fin 512) (l : Fin 2048) : EReal :=
  yRow (fun d => x4 (ix2 q d)) (blkMix x0 x1 x2 x3 x5 x6 q) (fun d => x7 (ix2 (0 : Fin 1) d)) l

theorem mix_lo (j : Fin 256) (l : Fin 2048) : k0_pay21 x0 x1 x2 x3 x4 x5 x6 x7 x8 (ix2 j l) = blkMix x0 x1 x2 x3 x5 x6 (lo j) l := by
  unfold k0_pay21
  rw [View.ld_unit_zero (S := S1x256) zero2, pay9_at, pay5_at, pay3_at]
  exact add5 (dot_congr (fun k => ld_at x0 _ _ j k (lo j) k (Nat.zero_add _) (Nat.zero_add _)) (fun k => ld_at x5 _ _ k l (wlo k) l (Nat.zero_add _) (Nat.zero_add _)))
    (headS_congr _ l (fun e => congrArg₂ (fun a b : EReal => a + b) (ld_at x1 _ _ j e (lo j) (col 0 e) (Nat.zero_add _) (by show 0 + _ = 256 * 0 + _; omega)) (ld_at x2 _ _ j e (lo j) (col 0 e) (Nat.zero_add _) (by show 0 + _ = 256 * 0 + _; omega)))
      (fun e => ld_at x3 _ _ j e (lo j) (col 0 e) (Nat.zero_add _) (by show 0 + _ = 256 * 0 + _; omega)) (fun e => ld_at x5 _ _ e l (wcol 0 e) l rfl (Nat.zero_add _)))
    (headS_congr _ l (fun e => congrArg₂ (fun a b : EReal => a + b) (ld_at x1 _ _ j e (lo j) (col 1 e) (Nat.zero_add _) rfl) (ld_at x2 _ _ j e (lo j) (col 1 e) (Nat.zero_add _) rfl))
      (fun e => ld_at x3 _ _ j e (lo j) (col 1 e) (Nat.zero_add _) rfl) (fun e => ld_at x5 _ _ e l (wcol 1 e) l rfl (Nat.zero_add _)))
    (headS_congr _ l (fun e => congrArg₂ (fun a b : EReal => a + b) (ld_at x1 _ _ j e (lo j) (col 2 e) (Nat.zero_add _) rfl) (ld_at x2 _ _ j e (lo j) (col 2 e) (Nat.zero_add _) rfl))
      (fun e => ld_at x3 _ _ j e (lo j) (col 2 e) (Nat.zero_add _) rfl) (fun e => ld_at x5 _ _ e l (wcol 2 e) l rfl (Nat.zero_add _)))
    (headS_congr _ l (fun e => congrArg₂ (fun a b : EReal => a + b) (ld_at x1 _ _ j e (lo j) (col 3 e) (Nat.zero_add _) rfl) (ld_at x2 _ _ j e (lo j) (col 3 e) (Nat.zero_add _) rfl))
      (fun e => ld_at x3 _ _ j e (lo j) (col 3 e) (Nat.zero_add _) rfl) (fun e => ld_at x5 _ _ e l (wcol 3 e) l rfl (Nat.zero_add _)))

theorem mix_hi (j : Fin 256) (l : Fin 2048) : k0_pay22 x0 x1 x2 x3 x4 x5 x6 x7 x8 (ix2 j l) = blkMix x0 x1 x2 x3 x5 x6 (hi j) l := by
  unfold k0_pay22
  rw [View.ld_unit_zero (S := S1x256) zero2, pay15_at, pay12_at, pay10_eq, pay3_at]
  exact add5 (dot_congr (fun k => ld_at x0 _ _ j k (hi j) k rfl (Nat.zero_add _)) (fun k => ld_at x5 _ _ k l (wlo k) l (Nat.zero_add _) (Nat.zero_add _)))
    (headS_congr _ l (fun e => congrArg₂ (fun a b : EReal => a + b) (ld_at x1 _ _ j e (hi j) (col 0 e) rfl (by show 0 + _ = 256 * 0 + _; omega)) (ld_at x2 _ _ j e (hi j) (col 0 e) rfl (by show 0 + _ = 256 * 0 + _; omega)))
      (fun e => ld_at x3 _ _ j e (hi j) (col 0 e) rfl (by show 0 + _ = 256 * 0 + _; omega)) (fun e => ld_at x5 _ _ e l (wcol 0 e) l rfl (Nat.zero_add _)))
    (headS_congr _ l (fun e => congrArg₂ (fun a b : EReal => a + b) (ld_at x1 _ _ j e (hi j) (col 1 e) rfl rfl) (ld_at x2 _ _ j e (hi j) (col 1 e) rfl rfl))
      (fun e => ld_at x3 _ _ j e (hi j) (col 1 e) rfl rfl) (fun e => ld_at x5 _ _ e l (wcol 1 e) l rfl (Nat.zero_add _)))
    (headS_congr _ l (fun e => congrArg₂ (fun a b : EReal => a + b) (ld_at x1 _ _ j e (hi j) (col 2 e) rfl rfl) (ld_at x2 _ _ j e (hi j) (col 2 e) rfl rfl))
      (fun e => ld_at x3 _ _ j e (hi j) (col 2 e) rfl rfl) (fun e => ld_at x5 _ _ e l (wcol 2 e) l rfl (Nat.zero_add _)))
    (headS_congr _ l (fun e => congrArg₂ (fun a b : EReal => a + b) (ld_at x1 _ _ j e (hi j) (col 3 e) rfl rfl) (ld_at x2 _ _ j e (hi j) (col 3 e) rfl rfl))
      (fun e => ld_at x3 _ _ j e (hi j) (col 3 e) rfl rfl) (fun e => ld_at x5 _ _ e l (wcol 3 e) l rfl (Nat.zero_add _)))

theorem y_lo (j : Fin 256) (l : Fin 2048) : k0_pay16 (k0_pay21 x0 x1 x2 x3 x4 x5 x6 x7 x8) (View.ld x4 r0_16) x7 (ix2 j l)
    = blkY x0 x1 x2 x3 x4 x5 x6 x7 (lo j) l :=
  (pay16_at _ _ _ j l).trans (yRow_congr (fun d => ld_at x4 _ _ j d (lo j) d (Nat.zero_add _) (Nat.zero_add _)) (mix_lo x0 x1 x2 x3 x4 x5 x6 x7 x8 j) (fun _ => rfl) l)

theorem out9_lo (j : Fin 256) (l : Fin 2048) :
    out0_9 x0 x1 x2 x3 x4 x5 x6 x7 x8 (ix2 (lo j) l) = blkY x0 x1 x2 x3 x4 x5 x6 x7 (lo j) l := by
  unfold out0_9 k0_pay25 k0_pay24 k0_pay23
  rw [canon_lo, View.ld_unit_zero (S := S1x2048) zero2]
  exact y_lo x0 x1 x2 x3 x4 x5 x6 x7 x8 j l

theorem out10_lo (j : Fin 256) (l : Fin 2048) : out0_10 x0 x1 x2 x3 x4 x5 x6 x7 x8 (ix2 (lo j) l)
    = rms (blkY x0 x1 x2 x3 x4 x5 x6 x7 (lo j)) (fun d => x8 (ix2 (0 : Fin 1) d)) l := by
  unfold out0_10 k0_pay25 k0_pay24 k0_pay23
  rw [canon_lo, View.ld_unit_zero (S := S1x2048) zero2, View.ld_unit_zero (S := S1x2048) zero2, pay17_at]
  exact rms_congr (y_lo x0 x1 x2 x3 x4 x5 x6 x7 x8 j) (fun _ => rfl) l

theorem y_hi (j : Fin 256) (l : Fin 2048) : k0_pay16 (k0_pay22 x0 x1 x2 x3 x4 x5 x6 x7 x8) (View.ld x4 r0_18) x7 (ix2 j l)
    = blkY x0 x1 x2 x3 x4 x5 x6 x7 (hi j) l :=
  (pay16_at _ _ _ j l).trans (yRow_congr (fun d => ld_at x4 _ _ j d (hi j) d rfl (Nat.zero_add _)) (mix_hi x0 x1 x2 x3 x4 x5 x6 x7 x8 j) (fun _ => rfl) l)

theorem out9_hi (j : Fin 256) (l : Fin 2048) :
    out0_9 x0 x1 x2 x3 x4 x5 x6 x7 x8 (ix2 (hi j) l) = blkY x0 x1 x2 x3 x4 x5 x6 x7 (hi j) l := by
  unfold out0_9 k0_pay25 k0_pay24 k0_pay23
  rw [canon_hi, View.ld_unit_zero (S := S1x2048) zero2, pay1_eq]
  exact y_hi x0 x1 x2 x3 x4 x5 x6 x7 x8 j l

theorem out10_hi (j : Fin 256) (l : Fin 2048) : out0_10 x0 x1 x2 x3 x4 x5 x6 x7 x8 (ix2 (hi j) l)
    = rms (blkY x0 x1 x2 x3 x4 x5 x6 x7 (hi j)) (fun d => x8 (ix2 (0 : Fin 1) d)) l := by
  unfold out0_10 k0_pay25 k0_pay24 k0_pay23
  rw [canon_hi, View.ld_unit_zero (S := S1x2048) zero2, View.ld_unit_zero (S := S1x2048) zero2, pay2_eq, pay17_at]
  exact rms_congr (y_hi x0 x1 x2 x3 x4 x5 x6 x7 x8 j) (fun _ => rfl) l

theorem half (q : Fin 512) : (∃ j, q = lo j) ∨ ∃ j, q = hi j := by
  by_cases h : q.val < 256
  · exact Or.inl ⟨⟨q.val, h⟩, rfl⟩
  · exact Or.inr ⟨⟨q.val - 256, by omega⟩, Fin.ext (by show q.val = 256 + (q.val - 256); omega)⟩

theorem out9_at (q : Fin 512) (l : Fin 2048) : out0_9 x0 x1 x2 x3 x4 x5 x6 x7 x8 (ix2 q l) = blkY x0 x1 x2 x3 x4 x5 x6 x7 q l := by
  rcases half q with ⟨j, rfl⟩ | ⟨j, rfl⟩
  · exact out9_lo x0 x1 x2 x3 x4 x5 x6 x7 x8 j l
  · exact out9_hi x0 x1 x2 x3 x4 x5 x6 x7 x8 j l

theorem out10_at (q : Fin 512) (l : Fin 2048) : out0_10 x0 x1 x2 x3 x4 x5 x6 x7 x8 (ix2 q l)
    = rms (blkY x0 x1 x2 x3 x4 x5 x6 x7 q) (fun d => x8 (ix2 (0 : Fin 1) d)) l := by
  rcases half q with ⟨j, rfl⟩ | ⟨j, rfl⟩
  · exact out10_lo x0 x1 x2 x3 x4 x5 x6 x7 x8 j l
  · exact out10_hi x0 x1 x2 x3 x4 x5 x6 x7 x8 j l

end

/-! ## The blocks -/

variable (m : (ℓ : Loc nD τ sig) → Buf (Elt Ideal) ℓ)

/-- The arguments of a device. -/
def A0 (c : Dev nD) : SA.Idx → EReal := m ((c.tc : Thread nD τ).loc main_arg0)
def A1 (c : Dev nD) : SA.Idx → EReal := m ((c.tc : Thread nD τ).loc main_arg1)
def A2 (c : Dev nD) : SA.Idx → EReal := m ((c.tc : Thread nD τ).loc main_arg2)
def A3 (c : Dev nD) : SA.Idx → EReal := m ((c.tc : Thread nD τ).loc main_arg3)
def A4 (c : Dev nD) : SX.Idx → EReal := m ((c.tc : Thread nD τ).loc main_arg4)
def A5 (c : Dev nD) : SW.Idx → EReal := m ((c.tc : Thread nD τ).loc main_arg5)
def A6 (c : Dev nD) : SG.Idx → EReal := m ((c.tc : Thread nD τ).loc main_arg6)
def A7 (c : Dev nD) : SV.Idx → EReal := m ((c.tc : Thread nD τ).loc main_arg7)
def A8 (c : Dev nD) : SV.Idx → EReal := m ((c.tc : Thread nD τ).loc main_arg8)

/-- Rows of the inputs, and a gain as a row. -/
def rowsA (x : FVec Ideal S4x4096x1024 .f32) : FVec Ideal S16384x1024 .f32 := shapeCast _ x shapeCasts_S4x4096x1024_S16384x1024
def rowsX (x : FVec Ideal S4x4096x2048 .f32) : FVec Ideal S16384x2048 .f32 := shapeCast _ x shapeCasts_S4x4096x2048_S16384x2048
def headRow (g : FVec Ideal S256 .f32) : FVec Ideal S1x256 .f32 := broadcastInDim S1x256 ![1] bcast_S256_S1x256_1 g
def gainRow (g : FVec Ideal S2048 .f32) : FVec Ideal S1x2048 .f32 := broadcastInDim S1x2048 ![1] bcast_S2048_S1x2048_1 g

theorem rowsA_at (x : FVec Ideal S4x4096x1024 .f32) (r : Fin 16384) (d : Fin 1024) :
    rowsA x (ix2 r d) = x (ix3 (bOf r) (sOf r) d) := by
  pointwise [rowsA, Cert.PleProof.bOf, Cert.PleProof.sOf]
theorem rowsX_at (x : FVec Ideal S4x4096x2048 .f32) (r : Fin 16384) (d : Fin 2048) :
    rowsX x (ix2 r d) = x (ix3 (bOf r) (sOf r) d) := by
  pointwise [rowsX, Cert.PleProof.bOf, Cert.PleProof.sOf]
theorem headRow_at (g : FVec Ideal S256 .f32) (d : Fin 256) : headRow g (ix2 (0 : Fin 1) d) = g (ix1 d) := by
  pointwise [headRow]
theorem gainRow_at (g : FVec Ideal S2048 .f32) (d : Fin 2048) : gainRow g (ix2 (0 : Fin 1) d) = g (ix1 d) := by
  pointwise [gainRow]

theorem V0 (c : Dev nD) : V m c main_v1 = rowsA (A0 m c) := by
  unfold V
  after_results <;> rfl
theorem V1 (c : Dev nD) : V m c main_v2 = rowsA (A1 m c) := by
  unfold V
  after_results <;> rfl
theorem V2 (c : Dev nD) : V m c main_v3 = rowsA (A2 m c) := by
  unfold V
  after_results <;> rfl
theorem V3 (c : Dev nD) : V m c main_v5 = rowsA (A3 m c) := by
  unfold V
  after_results <;> rfl
theorem V4 (c : Dev nD) : V m c main_v6 = rowsX (A4 m c) := by
  unfold V
  after_results <;> rfl
theorem V5 (c : Dev nD) : V m c main_v7 = A5 m c := by
  unfold V
  after_results <;> rfl
theorem V6 (c : Dev nD) : V m c main_v8 = headRow (A6 m c) := by
  unfold V
  after_results <;> rfl
theorem V7 (c : Dev nD) : V m c main_v9 = gainRow (A7 m c) := by
  unfold V
  after_results <;> rfl
theorem V8 (c : Dev nD) : V m c main_v10 = gainRow (A8 m c) := by
  unfold V
  after_results <;> rfl

theorem ix_0 : ∀ t : Fin cfg0.N, win0_0.index t (0 : Fin 2) = t.val ∧ win0_0.index t (1 : Fin 2) = 0 :=
  (by decide +kernel : ∀ t : Fin grid0.N, _)
theorem ix_1 : ∀ t : Fin cfg0.N, win0_1.index t (0 : Fin 2) = t.val ∧ win0_1.index t (1 : Fin 2) = 0 :=
  (by decide +kernel : ∀ t : Fin grid0.N, _)
theorem ix_2 : ∀ t : Fin cfg0.N, win0_2.index t (0 : Fin 2) = t.val ∧ win0_2.index t (1 : Fin 2) = 0 :=
  (by decide +kernel : ∀ t : Fin grid0.N, _)
theorem ix_3 : ∀ t : Fin cfg0.N, win0_3.index t (0 : Fin 2) = t.val ∧ win0_3.index t (1 : Fin 2) = 0 :=
  (by decide +kernel : ∀ t : Fin grid0.N, _)
theorem ix_4 : ∀ t : Fin cfg0.N, win0_4.index t (0 : Fin 2) = t.val ∧ win0_4.index t (1 : Fin 2) = 0 :=
  (by decide +kernel : ∀ t : Fin grid0.N, _)
theorem ix_5 : ∀ t : Fin cfg0.N, win0_5.index t (0 : Fin 2) = 0 ∧ win0_5.index t (1 : Fin 2) = 0 :=
  (by decide +kernel : ∀ t : Fin grid0.N, _)
theorem ix_6 : ∀ t : Fin cfg0.N, win0_6.index t (0 : Fin 2) = 0 ∧ win0_6.index t (1 : Fin 2) = 0 :=
  (by decide +kernel : ∀ t : Fin grid0.N, _)
theorem ix_7 : ∀ t : Fin cfg0.N, win0_7.index t (0 : Fin 2) = 0 ∧ win0_7.index t (1 : Fin 2) = 0 :=
  (by decide +kernel : ∀ t : Fin grid0.N, _)
theorem ix_8 : ∀ t : Fin cfg0.N, win0_8.index t (0 : Fin 2) = 0 ∧ win0_8.index t (1 : Fin 2) = 0 :=
  (by decide +kernel : ∀ t : Fin grid0.N, _)
theorem ix_9 : ∀ t : Fin cfg0.N, win0_9.index t (0 : Fin 2) = t.val ∧ win0_9.index t (1 : Fin 2) = 0 :=
  (by decide +kernel : ∀ t : Fin grid0.N, _)
theorem ix_10 : ∀ t : Fin cfg0.N, win0_10.index t (0 : Fin 2) = t.val ∧ win0_10.index t (1 : Fin 2) = 0 :=
  (by decide +kernel : ∀ t : Fin grid0.N, _)

theorem tlt (t : Fin cfg0.N) : t.val < 32 := t.isLt

/-- The row of the results that row `q` of point `t`'s block is. -/
def rowAt (t : Fin cfg0.N) (q : Fin 512) : Fin 16384 := ⟨t.val * 512 + q.val, by have := tlt t; omega⟩

theorem emb_0 (t : Fin cfg0.N) (q : Fin 512) (d : Fin 1024) : ((cfg0.win 0).blk t).view.emb (ix2 q d) = ix2 (rowAt t q) d := by
  obtain ⟨e0, e1⟩ := ix_0 t
  funext a; apply Fin.ext
  match a with
  | ⟨0, _⟩ => show win0_0.index t (0 : Fin 2) * 512 + 1 * q.val = t.val * 512 + q.val; omega
  | ⟨1, _⟩ => show win0_0.index t (1 : Fin 2) * 1024 + 1 * d.val = d.val; omega

theorem emb_1 (t : Fin cfg0.N) (q : Fin 512) (d : Fin 1024) : ((cfg0.win 1).blk t).view.emb (ix2 q d) = ix2 (rowAt t q) d := by
  obtain ⟨e0, e1⟩ := ix_1 t
  funext a; apply Fin.ext
  match a with
  | ⟨0, _⟩ => show win0_1.index t (0 : Fin 2) * 512 + 1 * q.val = t.val * 512 + q.val; omega
  | ⟨1, _⟩ => show win0_1.index t (1 : Fin 2) * 1024 + 1 * d.val = d.val; omega

theorem emb_2 (t : Fin cfg0.N) (q : Fin 512) (d : Fin 1024) : ((cfg0.win 2).blk t).view.emb (ix2 q d) = ix2 (rowAt t q) d := by
  obtain ⟨e0, e1⟩ := ix_2 t
  funext a; apply Fin.ext
  match a with
  | ⟨0, _⟩ => show win0_2.index t (0 : Fin 2) * 512 + 1 * q.val = t.val * 512 + q.val; omega
  | ⟨1, _⟩ => show win0_2.index t (1 : Fin 2) * 1024 + 1 * d.val = d.val; omega

theorem emb_3 (t : Fin cfg0.N) (q : Fin 512) (d : Fin 1024) : ((cfg0.win 3).blk t).view.emb (ix2 q d) = ix2 (rowAt t q) d := by
  obtain ⟨e0, e1⟩ := ix_3 t
  funext a; apply Fin.ext
  match a with
  | ⟨0, _⟩ => show win0_3.index t (0 : Fin 2) * 512 + 1 * q.val = t.val * 512 + q.val; omega
  | ⟨1, _⟩ => show win0_3.index t (1 : Fin 2) * 1024 + 1 * d.val = d.val; omega

theorem emb_4 (t : Fin cfg0.N) (q : Fin 512) (d : Fin 2048) : ((cfg0.win 4).blk t).view.emb (ix2 q d) = ix2 (rowAt t q) d := by
  obtain ⟨e0, e1⟩ := ix_4 t
  funext a; apply Fin.ext
  match a with
  | ⟨0, _⟩ => show win0_4.index t (0 : Fin 2) * 512 + 1 * q.val = t.val * 512 + q.val; omega
  | ⟨1, _⟩ => show win0_4.index t (1 : Fin 2) * 2048 + 1 * d.val = d.val; omega

theorem emb_5 (t : Fin cfg0.N) (q : Fin 2048) (d : Fin 2048) : ((cfg0.win 5).blk t).view.emb (ix2 q d) = ix2 q d := by
  obtain ⟨e0, e1⟩ := ix_5 t
  funext a; apply Fin.ext
  match a with
  | ⟨0, _⟩ => show win0_5.index t (0 : Fin 2) * 2048 + 1 * q.val = q.val; omega
  | ⟨1, _⟩ => show win0_5.index t (1 : Fin 2) * 2048 + 1 * d.val = d.val; omega

theorem emb_6 (t : Fin cfg0.N) (q : Fin 1) (d : Fin 256) : ((cfg0.win 6).blk t).view.emb (ix2 q d) = ix2 q d := by
  obtain ⟨e0, e1⟩ := ix_6 t
  funext a; apply Fin.ext
  match a with
  | ⟨0, _⟩ => show win0_6.index t (0 : Fin 2) * 1 + 1 * q.val = q.val; omega
  | ⟨1, _⟩ => show win0_6.index t (1 : Fin 2) * 256 + 1 * d.val = d.val; omega

theorem emb_7 (t : Fin cfg0.N) (q : Fin 1) (d : Fin 2048) : ((cfg0.win 7).blk t).view.emb (ix2 q d) = ix2 q d := by
  obtain ⟨e0, e1⟩ := ix_7 t
  funext a; apply Fin.ext
  match a with
  | ⟨0, _⟩ => show win0_7.index t (0 : Fin 2) * 1 + 1 * q.val = q.val; omega
  | ⟨1, _⟩ => show win0_7.index t (1 : Fin 2) * 2048 + 1 * d.val = d.val; omega

theorem emb_8 (t : Fin cfg0.N) (q : Fin 1) (d : Fin 2048) : ((cfg0.win 8).blk t).view.emb (ix2 q d) = ix2 q d := by
  obtain ⟨e0, e1⟩ := ix_8 t
  funext a; apply Fin.ext
  match a with
  | ⟨0, _⟩ => show win0_8.index t (0 : Fin 2) * 1 + 1 * q.val = q.val; omega
  | ⟨1, _⟩ => show win0_8.index t (1 : Fin 2) * 2048 + 1 * d.val = d.val; omega

theorem emb_9 (t : Fin cfg0.N) (q : Fin 512) (d : Fin 2048) : ((cfg0.win 9).blk t).view.emb (ix2 q d) = ix2 (rowAt t q) d := by
  obtain ⟨e0, e1⟩ := ix_9 t
  funext a; apply Fin.ext
  match a with
  | ⟨0, _⟩ => show win0_9.index t (0 : Fin 2) * 512 + 1 * q.val = t.val * 512 + q.val; omega
  | ⟨1, _⟩ => show win0_9.index t (1 : Fin 2) * 2048 + 1 * d.val = d.val; omega

theorem emb_10 (t : Fin cfg0.N) (q : Fin 512) (d : Fin 2048) : ((cfg0.win 10).blk t).view.emb (ix2 q d) = ix2 (rowAt t q) d := by
  obtain ⟨e0, e1⟩ := ix_10 t
  funext a; apply Fin.ext
  match a with
  | ⟨0, _⟩ => show win0_10.index t (0 : Fin 2) * 512 + 1 * q.val = t.val * 512 + q.val; omega
  | ⟨1, _⟩ => show win0_10.index t (1 : Fin 2) * 2048 + 1 * d.val = d.val; omega

theorem blk0_at (c : Dev nD) (t : Fin cfg0.N) (q : Fin 512) (d : Fin 1024) : iblk m c 0 t (ix2 q d) = A0 m c (ix3 (bOf (rowAt t q)) (sOf (rowAt t q)) d) := by
  show V m c main_v1 (((cfg0.win 0).blk t).view.emb (ix2 q d)) = _
  rw [V0, emb_0]; exact rowsA_at _ _ _

theorem blk1_at (c : Dev nD) (t : Fin cfg0.N) (q : Fin 512) (d : Fin 1024) : iblk m c 1 t (ix2 q d) = A1 m c (ix3 (bOf (rowAt t q)) (sOf (rowAt t q)) d) := by
  show V m c main_v2 (((cfg0.win 1).blk t).view.emb (ix2 q d)) = _
  rw [V1, emb_1]; exact rowsA_at _ _ _

theorem blk2_at (c : Dev nD) (t : Fin cfg0.N) (q : Fin 512) (d : Fin 1024) : iblk m c 2 t (ix2 q d) = A2 m c (ix3 (bOf (rowAt t q)) (sOf (rowAt t q)) d) := by
  show V m c main_v3 (((cfg0.win 2).blk t).view.emb (ix2 q d)) = _
  rw [V2, emb_2]; exact rowsA_at _ _ _

theorem blk3_at (c : Dev nD) (t : Fin cfg0.N) (q : Fin 512) (d : Fin 1024) : iblk m c 3 t (ix2 q d) = A3 m c (ix3 (bOf (rowAt t q)) (sOf (rowAt t q)) d) := by
  show V m c main_v5 (((cfg0.win 3).blk t).view.emb (ix2 q d)) = _
  rw [V3, emb_3]; exact rowsA_at _ _ _

theorem blk4_at (c : Dev nD) (t : Fin cfg0.N) (q : Fin 512) (d : Fin 2048) : iblk m c 4 t (ix2 q d) = A4 m c (ix3 (bOf (rowAt t q)) (sOf (rowAt t q)) d) := by
  show V m c main_v6 (((cfg0.win 4).blk t).view.emb (ix2 q d)) = _
  rw [V4, emb_4]; exact rowsX_at _ _ _

theorem blk5_at (c : Dev nD) (t : Fin cfg0.N) (q : Fin 2048) (d : Fin 2048) : iblk m c 5 t (ix2 q d) = A5 m c (ix2 q d) := by
  show V m c main_v7 (((cfg0.win 5).blk t).view.emb (ix2 q d)) = _
  rw [V5, emb_5]

theorem blk6_at (c : Dev nD) (t : Fin cfg0.N) (d : Fin 256) : iblk m c 6 t (ix2 (0 : Fin 1) d) = A6 m c (ix1 d) := by
  show V m c main_v8 (((cfg0.win 6).blk t).view.emb (ix2 (0 : Fin 1) d)) = _
  rw [V6, emb_6]; exact headRow_at _ _

theorem blk7_at (c : Dev nD) (t : Fin cfg0.N) (d : Fin 2048) : iblk m c 7 t (ix2 (0 : Fin 1) d) = A7 m c (ix1 d) := by
  show V m c main_v9 (((cfg0.win 7).blk t).view.emb (ix2 (0 : Fin 1) d)) = _
  rw [V7, emb_7]; exact gainRow_at _ _

theorem blk8_at (c : Dev nD) (t : Fin cfg0.N) (d : Fin 2048) : iblk m c 8 t (ix2 (0 : Fin 1) d) = A8 m c (ix1 d) := by
  show V m c main_v10 (((cfg0.win 8).blk t).view.emb (ix2 (0 : Fin 1) d)) = _
  rw [V8, emb_8]; exact gainRow_at _ _

/-! ## The results -/

/-- The results of a device. -/
def resY (c : Dev nD) : SR.Idx → EReal := outY (A0 m c) (A1 m c) (A2 m c) (A3 m c) (A4 m c) (A5 m c) (A6 m c) (A7 m c)
def resH (c : Dev nD) : SR.Idx → EReal := outH (A0 m c) (A1 m c) (A2 m c) (A3 m c) (A4 m c) (A5 m c) (A6 m c) (A7 m c) (A8 m c)

theorem y_at (c : Dev nD) (t : Fin cfg0.N) (q : Fin 512) (l : Fin 2048) :
    blkY (iblk m c 0 t) (iblk m c 1 t) (iblk m c 2 t) (iblk m c 3 t) (iblk m c 4 t) (iblk m c 5 t) (iblk m c 6 t) (iblk m c 7 t) q l
      = yAt (A0 m c) (A1 m c) (A2 m c) (A3 m c) (A4 m c) (A5 m c) (A6 m c) (A7 m c) (rowAt t q) l :=
  yRow_congr (blk4_at m c t q)
    (mix_congr (blk0_at m c t q) (blk1_at m c t q) (blk2_at m c t q) (blk3_at m c t q) (blk6_at m c t) (blk5_at m c t))
    (blk7_at m c t) l

theorem point9_at (c : Dev nD) (t : Fin cfg0.N) (q : Fin 512) (l : Fin 2048) :
    out0_9 (iblk m c 0 t) (iblk m c 1 t) (iblk m c 2 t) (iblk m c 3 t) (iblk m c 4 t) (iblk m c 5 t) (iblk m c 6 t) (iblk m c 7 t) (iblk m c 8 t) (ix2 q l)
      = yAt (A0 m c) (A1 m c) (A2 m c) (A3 m c) (A4 m c) (A5 m c) (A6 m c) (A7 m c) (rowAt t q) l :=
  (out9_at _ _ _ _ _ _ _ _ _ q l).trans (y_at m c t q l)

theorem point10_at (c : Dev nD) (t : Fin cfg0.N) (q : Fin 512) (l : Fin 2048) :
    out0_10 (iblk m c 0 t) (iblk m c 1 t) (iblk m c 2 t) (iblk m c 3 t) (iblk m c 4 t) (iblk m c 5 t) (iblk m c 6 t) (iblk m c 7 t) (iblk m c 8 t) (ix2 q l)
      = hAt (A0 m c) (A1 m c) (A2 m c) (A3 m c) (A4 m c) (A5 m c) (A6 m c) (A7 m c) (A8 m c) (rowAt t q) l :=
  (out10_at _ _ _ _ _ _ _ _ _ q l).trans (rms_congr (y_at m c t q) (blk8_at m c t) l)

theorem read9_at (G : SR.Idx → EReal) (t : Fin cfg0.N) (q : Fin 512) (l : Fin 2048) :
    ((cfg0.win 9).blk t).view.read (Elt Ideal) G (ix2 q l) = G (ix2 (rowAt t q) l) := by
  show G (((cfg0.win 9).blk t).view.emb (ix2 q l)) = _
  rw [emb_9]

theorem flushed9_eq (c : Dev nD) (t : Fin cfg0.N) (hf : (cfg0.win 9).flush t = true) :
    (dats m 0 c).flushed 9 t = ((cfg0.win 9).blk t).view.read (Elt Ideal) (resY m c) := by
  show (dats m 0 c).after 9 t = _
  rw [after0_9]
  funext i
  rw [show i = ix2 (i 0 : Fin 512) (i 1 : Fin 2048) from eq_ix2 i]
  exact (point9_at m c t _ _).trans (read9_at (resY m c) t _ _).symm

theorem covered9_at (r : Fin 16384) (l : Fin 2048) :
    ∃ t : Fin cfg0.N, (cfg0.win 9).flush t = true ∧ ix2 r l ∈ ((cfg0.win 9).blk t).view.set := by
  have ht : r.val / 512 < 32 := by omega
  refine ⟨⟨r.val / 512, ht⟩, flush0_9 _, ?_⟩
  have h := ((cfg0.win 9).blk ⟨r.val / 512, ht⟩).view.emb_mem_set (ix2 (⟨r.val % 512, by omega⟩ : Fin 512) l)
  rw [emb_9] at h
  refine (show _ = ix2 r l from ?_) ▸ h
  funext a; apply Fin.ext
  match a with
  | ⟨0, _⟩ => show r.val / 512 * 512 + r.val % 512 = r.val; omega
  | ⟨1, _⟩ => rfl

/-- Every entry of the result array is in the block some point writes back. -/
theorem covered9 (i : S16384x2048.Idx) : ∃ t : Fin cfg0.N, (cfg0.win 9).flush t = true ∧ i ∈ ((cfg0.win 9).blk t).view.set := by
  rw [show i = ix2 (i 0 : Fin 16384) (i 1 : Fin 2048) from eq_ix2 i]
  exact covered9_at _ _

/-- The result array after the run. -/
theorem final9 (c : Dev nD) : (dats m 0 c).arrAt 9 cfg0.N = resY m c :=
  (dats m 0 c).arrAt_eq_of_cover 9 (resY m c) (flushed9_eq m c) covered9

theorem read10_at (G : SR.Idx → EReal) (t : Fin cfg0.N) (q : Fin 512) (l : Fin 2048) :
    ((cfg0.win 10).blk t).view.read (Elt Ideal) G (ix2 q l) = G (ix2 (rowAt t q) l) := by
  show G (((cfg0.win 10).blk t).view.emb (ix2 q l)) = _
  rw [emb_10]

theorem flushed10_eq (c : Dev nD) (t : Fin cfg0.N) (hf : (cfg0.win 10).flush t = true) :
    (dats m 0 c).flushed 10 t = ((cfg0.win 10).blk t).view.read (Elt Ideal) (resH m c) := by
  show (dats m 0 c).after 10 t = _
  rw [after0_10]
  funext i
  rw [show i = ix2 (i 0 : Fin 512) (i 1 : Fin 2048) from eq_ix2 i]
  exact (point10_at m c t _ _).trans (read10_at (resH m c) t _ _).symm

theorem covered10_at (r : Fin 16384) (l : Fin 2048) :
    ∃ t : Fin cfg0.N, (cfg0.win 10).flush t = true ∧ ix2 r l ∈ ((cfg0.win 10).blk t).view.set := by
  have ht : r.val / 512 < 32 := by omega
  refine ⟨⟨r.val / 512, ht⟩, flush0_10 _, ?_⟩
  have h := ((cfg0.win 10).blk ⟨r.val / 512, ht⟩).view.emb_mem_set (ix2 (⟨r.val % 512, by omega⟩ : Fin 512) l)
  rw [emb_10] at h
  refine (show _ = ix2 r l from ?_) ▸ h
  funext a; apply Fin.ext
  match a with
  | ⟨0, _⟩ => show r.val / 512 * 512 + r.val % 512 = r.val; omega
  | ⟨1, _⟩ => rfl

/-- Every entry of the result array is in the block some point writes back. -/
theorem covered10 (i : S16384x2048.Idx) : ∃ t : Fin cfg0.N, (cfg0.win 10).flush t = true ∧ i ∈ ((cfg0.win 10).blk t).view.set := by
  rw [show i = ix2 (i 0 : Fin 16384) (i 1 : Fin 2048) from eq_ix2 i]
  exact covered10_at _ _

/-- The result array after the run. -/
theorem final10 (c : Dev nD) : (dats m 0 c).arrAt 10 cfg0.N = resH m c :=
  (dats m 0 c).arrAt_eq_of_cover 10 (resH m c) (flushed10_eq m c) covered10

end Cert.OutProof

end
-- ==== Proof.OutRef.lean ====
/- The reference's output projection is the same function of its arguments. -/
module

public import proofs.«01_k».proof.Proof.Gen.OutRefIdeal.Run
public import proofs.«01_k».proof.Proof.Gen.OutRefIdeal
public import proofs.«01_k».proof.Proof.OutSpec
public import Idealize.ShloMosaic.Lib.Pointwise
public import Idealize.ShloMosaic.Lib.IdealHost

@[expose] public section

set_option maxRecDepth 16384

noncomputable section

namespace Cert.OutProof

open Idealize.ShloMosaic Idealize.ShloMosaic.TcCoe Idealize.SL.Sem
open Cert.OutRefIdeal Cert.OutRefIdeal.Gen Cert.OutRefIdeal.Facts
open Cert.PleProof (rms bOf sOf SX SV SW SR)

/-- The normalisation, -/
def refRms (y : FVec Ideal S4x4096x2048 .f32) (g : FVec Ideal S2048 .f32) : FVec Ideal S4x4096x2048 .f32 :=
  mulf (mulf y (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf y y) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 g))

/-- the heads normalised, times the gate, -/
def refHeads (o og : FVec Ideal S4x4096x4x256 .f32) (g : FVec Ideal S256 .f32) : FVec Ideal S4x4096x4x256 .f32 :=
  mulf (mulf (mulf o (broadcastInDim S4x4096x4x256 ![0, 1, 2, 3] bcast_S4x4096x4x1_S4x4096x4x256_0_1_2_3 (Host.rsqrt (addf (Host.divf (broadcastInDim S4x4096x4x1 ![0, 1, 2] bcast_S4x4096x4_S4x4096x4x1_0_1_2 (Host.reduceAdd (mulf o o) (constant S_ .f32 0x00000000#32) reducesTo_S4x4096x4x256_S4x4096x4_d3 h_S_)) (broadcastInDim S4x4096x4x1 ![] bcast_S_S4x4096x4x1 (constant S_ .f32 0x43800000#32))) (broadcastInDim S4x4096x4x1 ![] bcast_S_S4x4096x4x1 (constant S_ .f32 0x358637BD#32)))))) (broadcastInDim S4x4096x4x256 ![0, 1, 2, 3] bcast_S1x1x1x256_S4x4096x4x256_0_1_2_3 (broadcastInDim S1x1x1x256 ![3] bcast_S256_S1x1x1x256_3 g))) og

/-- features as heads, and back, -/
def split (x : FVec Ideal S4x4096x1024 .f32) : FVec Ideal S4x4096x4x256 .f32 := shapeCast _ x shapeCasts_S4x4096x1024_S4x4096x4x256
def flat (x : FVec Ideal S4x4096x4x256 .f32) : FVec Ideal S4x4096x1024 .f32 := shapeCast _ x shapeCasts_S4x4096x4x256_S4x4096x1024

/-- the attention's output and the heads side by side, -/
def refCat (x0 n : FVec Ideal S4x4096x1024 .f32) : FVec Ideal S4x4096x2048 .f32 :=
  concatenate S4x4096x2048 2 [⟨S4x4096x1024, x0⟩, ⟨S4x4096x1024, n⟩] concatenates_S4x4096x1024_S4x4096x1024_S4x4096x2048_d2

/-- the product, -/
def refMix (x0 x1 x2 x3 : FVec Ideal S4x4096x1024 .f32) (x5 : FVec Ideal S2048x2048 .f32) (x6 : FVec Ideal S256 .f32) : FVec Ideal S4x4096x2048 .f32 :=
  Host.dotGeneral dot_S4x4096x2048_S2048x2048_S4x4096x2048_2_0_01_1_n_n none (refCat x0 (flat (refHeads (split (addf x1 x2)) (split x3) x6))) x5

/-- the sum, -/
def refSum (x0 x1 x2 x3 : FVec Ideal S4x4096x1024 .f32) (x4 : FVec Ideal S4x4096x2048 .f32)
    (x5 : FVec Ideal S2048x2048 .f32) (x6 : FVec Ideal S256 .f32) (x7 : FVec Ideal S2048 .f32) : FVec Ideal S4x4096x2048 .f32 :=
  addf x4 (refRms (refMix x0 x1 x2 x3 x5 x6) x7)

/-- and the results by row. -/
def refY (x0 x1 x2 x3 : FVec Ideal S4x4096x1024 .f32) (x4 : FVec Ideal S4x4096x2048 .f32)
    (x5 : FVec Ideal S2048x2048 .f32) (x6 : FVec Ideal S256 .f32) (x7 : FVec Ideal S2048 .f32) : FVec Ideal S16384x2048 .f32 :=
  shapeCast _ (refSum x0 x1 x2 x3 x4 x5 x6 x7) shapeCasts_S4x4096x2048_S16384x2048
def refH (x0 x1 x2 x3 : FVec Ideal S4x4096x1024 .f32) (x4 : FVec Ideal S4x4096x2048 .f32)
    (x5 : FVec Ideal S2048x2048 .f32) (x6 : FVec Ideal S256 .f32) (x7 x8 : FVec Ideal S2048 .f32) : FVec Ideal S16384x2048 .bf16 :=
  truncf .bf16 (shapeCast _ (refRms (refSum x0 x1 x2 x3 x4 x5 x6 x7) x8) shapeCasts_S4x4096x2048_S16384x2048 : FVec Ideal S16384x2048 .f32) bitsLt_bf16_f32

theorem refRms_at (y : FVec Ideal S4x4096x2048 .f32) (g : FVec Ideal S2048 .f32) (b : Fin 4) (s : Fin 4096) (l : Fin 2048) :
    refRms y g (ix3 b s l) = rms (fun d => y (ix3 b s d)) (fun d => g (ix1 d)) l := by
  pointwise [refRms, rms]

theorem split_at (x : FVec Ideal S4x4096x1024 .f32) (b : Fin 4) (s : Fin 4096) (h : Fin 4) (e : Fin 256) :
    split x (ix4 b s h e) = x (ix3 b s (col h e)) := by
  pointwise [split, col]
  exact congrArg (fun k => x (ix3 b s k)) (Fin.ext (by show h.val * 256 + e.val = 256 * h.val + e.val; omega))

theorem flat_at (x : FVec Ideal S4x4096x4x256 .f32) (b : Fin 4) (s : Fin 4096) (h : Fin 4) (e : Fin 256) :
    flat x (ix3 b s (col h e)) = x (ix4 b s h e) := by
  pointwise [flat, col]

theorem refHeads_at (o og : FVec Ideal S4x4096x4x256 .f32) (g : FVec Ideal S256 .f32) (b : Fin 4) (s : Fin 4096) (h : Fin 4) (e : Fin 256) :
    refHeads o og g (ix4 b s h e) = hv (fun d => o (ix4 b s h d)) (fun d => g (ix1 d)) (fun d => og (ix4 b s h d)) e := by
  pointwise [refHeads, hv]

theorem refCat_lo (x0 n : FVec Ideal S4x4096x1024 .f32) (b : Fin 4) (s : Fin 4096) (k : Fin 1024) :
    refCat x0 n (ix3 b s (wlo k)) = x0 (ix3 b s k) := by
  pointwise [refCat, wlo]

theorem refCat_hi (x0 n : FVec Ideal S4x4096x1024 .f32) (b : Fin 4) (s : Fin 4096) (h : Fin 4) (e : Fin 256) :
    refCat x0 n (ix3 b s (wcol h e)) = n (ix3 b s (col h e)) := by
  pointwise [refCat, wcol, col]
  rw [dif_neg (by omega)]
  exact congrArg (fun k => n (ix3 b s k)) (Fin.ext (by show 1024 + 256 * h.val + e.val - 1024 = 256 * h.val + e.val; omega))

theorem dot_at (y : FVec Ideal S4x4096x2048 .f32) (w5 : FVec Ideal S2048x2048 .f32) (b : Fin 4) (s : Fin 4096) (l : Fin 2048) :
    Host.dotGeneral dot_S4x4096x2048_S2048x2048_S4x4096x2048_2_0_01_1_n_n none y w5 (ix3 b s l)
      = ∑ k : Fin 2048, (y (ix3 b s k) : EReal) * w5 (ix2 k l) := by
  pointwise []

/-- A head of the reference. -/
theorem refHead_at (x1 x2 x3 : FVec Ideal S4x4096x1024 .f32) (x6 : FVec Ideal S256 .f32) (b : Fin 4) (s : Fin 4096) (h : Fin 4) (e : Fin 256) :
    flat (refHeads (split (addf x1 x2)) (split x3) x6) (ix3 b s (col h e))
      = hv (fun d => (x1 (ix3 b s (col h d)) : EReal) + x2 (ix3 b s (col h d))) (fun d => x6 (ix1 d)) (fun d => x3 (ix3 b s (col h d))) e := by
  rw [flat_at, refHeads_at]
  simp only [split_at]
  rfl

theorem refMix_at (x0 x1 x2 x3 : FVec Ideal S4x4096x1024 .f32) (x5 : FVec Ideal S2048x2048 .f32) (x6 : FVec Ideal S256 .f32)
    (b : Fin 4) (s : Fin 4096) (l : Fin 2048) : refMix x0 x1 x2 x3 x5 x6 (ix3 b s l)
      = mix (fun k => x0 (ix3 b s k)) (fun k => x1 (ix3 b s k)) (fun k => x2 (ix3 b s k)) (fun k => x3 (ix3 b s k))
          (fun e => x6 (ix1 e)) (fun k d => x5 (ix2 k d)) l := by
  unfold refMix
  rw [dot_at, sum_rows]
  simp only [refCat_lo, refCat_hi, refHead_at]
  rfl

theorem refSum_at (x0 x1 x2 x3 : FVec Ideal S4x4096x1024 .f32) (x4 : FVec Ideal S4x4096x2048 .f32)
    (x5 : FVec Ideal S2048x2048 .f32) (x6 : FVec Ideal S256 .f32) (x7 : FVec Ideal S2048 .f32) (r : Fin 16384) (l : Fin 2048) :
    refSum x0 x1 x2 x3 x4 x5 x6 x7 (ix3 (bOf r) (sOf r) l) = yAt x0 x1 x2 x3 x4 x5 x6 x7 r l := by
  show (x4 (ix3 (bOf r) (sOf r) l) : EReal) + refRms (refMix x0 x1 x2 x3 x5 x6) x7 (ix3 (bOf r) (sOf r) l) = _
  rw [refRms_at]
  simp only [refMix_at]
  rfl

theorem rows_at (x : FVec Ideal S4x4096x2048 .f32) (r : Fin 16384) (d : Fin 2048) :
    (shapeCast _ x shapeCasts_S4x4096x2048_S16384x2048 : FVec Ideal S16384x2048 .f32) (ix2 r d) = x (ix3 (bOf r) (sOf r) d) := by
  pointwise [Cert.PleProof.bOf, Cert.PleProof.sOf]

theorem refY_at (x0 x1 x2 x3 : FVec Ideal S4x4096x1024 .f32) (x4 : FVec Ideal S4x4096x2048 .f32)
    (x5 : FVec Ideal S2048x2048 .f32) (x6 : FVec Ideal S256 .f32) (x7 : FVec Ideal S2048 .f32) (r : Fin 16384) (l : Fin 2048) :
    refY x0 x1 x2 x3 x4 x5 x6 x7 (ix2 r l) = yAt x0 x1 x2 x3 x4 x5 x6 x7 r l := by
  unfold refY
  rw [rows_at, refSum_at]

theorem refH_at (x0 x1 x2 x3 : FVec Ideal S4x4096x1024 .f32) (x4 : FVec Ideal S4x4096x2048 .f32)
    (x5 : FVec Ideal S2048x2048 .f32) (x6 : FVec Ideal S256 .f32) (x7 x8 : FVec Ideal S2048 .f32) (r : Fin 16384) (l : Fin 2048) :
    refH x0 x1 x2 x3 x4 x5 x6 x7 x8 (ix2 r l) = hAt x0 x1 x2 x3 x4 x5 x6 x7 x8 r l := by
  show (shapeCast _ (refRms (refSum x0 x1 x2 x3 x4 x5 x6 x7) x8) shapeCasts_S4x4096x2048_S16384x2048 : FVec Ideal S16384x2048 .f32) (ix2 r l) = _
  rw [rows_at, refRms_at]
  exact rms_congr (refSum_at x0 x1 x2 x3 x4 x5 x6 x7 r) (fun _ => rfl) l

/-- The reference's results. -/
theorem refY_eq (x0 x1 x2 x3 : FVec Ideal S4x4096x1024 .f32) (x4 : FVec Ideal S4x4096x2048 .f32)
    (x5 : FVec Ideal S2048x2048 .f32) (x6 : FVec Ideal S256 .f32) (x7 : FVec Ideal S2048 .f32) :
    refY x0 x1 x2 x3 x4 x5 x6 x7 = outY x0 x1 x2 x3 x4 x5 x6 x7 := by
  funext i
  rw [show i = ix2 (i 0 : Fin 16384) (i 1 : Fin 2048) from eq_ix2 i]
  exact refY_at x0 x1 x2 x3 x4 x5 x6 x7 _ _

theorem refH_eq (x0 x1 x2 x3 : FVec Ideal S4x4096x1024 .f32) (x4 : FVec Ideal S4x4096x2048 .f32)
    (x5 : FVec Ideal S2048x2048 .f32) (x6 : FVec Ideal S256 .f32) (x7 x8 : FVec Ideal S2048 .f32) :
    refH x0 x1 x2 x3 x4 x5 x6 x7 x8 = outH x0 x1 x2 x3 x4 x5 x6 x7 x8 := by
  funext i
  rw [show i = ix2 (i 0 : Fin 16384) (i 1 : Fin 2048) from eq_ix2 i]
  exact refH_at x0 x1 x2 x3 x4 x5 x6 x7 x8 _ _

/-- The reference's run, its results named. -/
theorem ref_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v47) = refY (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v49) = refH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  Cert.OutRefIdeal.Value.run m ρ

end Cert.OutProof

end
-- ==== Proof.InSpec.lean ====
/- The mathematics of the input projection of a row: the row is normalised and the weights' product with it taken; the queries'
   and keys' heads are normalised and turned by the position's angles, and the gates are the logarithms of logistic values. -/
module

public import proofs.«01_k».proof.Proof.PleSpec

@[expose] public section

noncomputable section

namespace Cert.InProof

open Idealize.ShloMosaic
open Cert.PleProof (bOf sOf SX SV)

/-- The weights, a head's gain, the gates' second weights and their bias. -/
abbrev SW : Shape := ⟨2, ![2048, 4640]⟩
abbrev SG : Shape := ⟨1, ![128]⟩
abbrev SU : Shape := ⟨2, ![16, 512]⟩
abbrev SB : Shape := ⟨1, ![512]⟩

/-- A row of numbers over the root of the mean of its squares, times a gain; `c` is how many there are. -/
def norm {n : Nat} (c : EReal) (y g : Fin n → EReal) (l : Fin n) : EReal :=
  y l * Ideal.rsqrt (Ideal.div (∑ d : Fin n, y d * y d) c + Ideal.ofBits .f32 897988541#32) * g l

/-- The product of a normalised row with the weights. -/
def zRow (x g : Fin 2048 → EReal) (w : Fin 2048 → Fin 4640 → EReal) (k : Fin 4640) : EReal :=
  ∑ d : Fin 2048, norm (Ideal.ofBits .f32 1157627904#32) x g d * w d k

/-- The weights' column `k`. -/
def col (k : Nat) : Fin 4640 := ⟨k % 4640, Nat.mod_lt _ (by decide)⟩

/-- The logarithm of the logistic value, over sixteen. -/
def gate (p : EReal) : EReal :=
  Ideal.div (min p 0 - Ideal.log (1 + Ideal.exp (-max p (-p)))) (Ideal.ofBits .f32 1098907648#32)

/-- The output's gate: a number times its logistic value. -/
def silu (z : EReal) : EReal := z * Ideal.div 1 (1 + Ideal.exp (-z))

/-- A whole number as a float. -/
def num (n : Nat) : EReal := FloatOps.sitofp (F := Ideal) FTy.f32 (BitVec.ofNat 32 n)

/-- The frequency of a pair of features, -/
def freq (j : Nat) : EReal :=
  Ideal.pow (Ideal.ofBits .f32 1176256512#32)
    (Ideal.div (-(Ideal.ofBits .f32 1073741824#32 * num j)) (Ideal.ofBits .f32 1115684864#32))

/-- and the angle of feature `e` at a position: half the features turn by the row of the grid, half by its column. -/
def angle (s : Fin 4096) (e : Fin 128) : EReal := num (if e.val < 64 then s.val / 64 else s.val % 64) * freq (e.val % 32)

/-- The pairs of features turned by their angles. -/
def turn (y θ : Fin 128 → EReal) (e : Fin 128) : EReal :=
  if e.val % 64 < 32 then y e * Ideal.cos (θ e) - y ⟨(e.val + 32) % 128, by omega⟩ * Ideal.sin (θ e)
  else y e * Ideal.cos (θ e) + y ⟨(e.val + 96) % 128, by omega⟩ * Ideal.sin (θ e)

/-- The head that starts at column `o`: normalised and turned. -/
def head (z : Fin 4640 → EReal) (g θ : Fin 128 → EReal) (o : Nat) (e : Fin 128) : EReal :=
  turn (norm (Ideal.ofBits .f32 1124073472#32) (fun d : Fin 128 => z (col (o + d.val))) g) θ e

/-- The results of a row in terms of its product with the weights: the queries, -/
def rowQ (z : Fin 4640 → EReal) (g θ : Fin 128 → EReal) (l : Fin 1024) : EReal :=
  head z g θ (128 * (l.val / 128)) ⟨l.val % 128, by omega⟩ * Ideal.ofBits .f32 1040356334#32

/-- the keys, -/
def rowK (z : Fin 4640 → EReal) (g θ : Fin 128 → EReal) (l : Fin 256) : EReal :=
  head z g θ (1024 + 128 * (l.val / 128)) ⟨l.val % 128, by omega⟩

/-- the values, -/
def rowV (z : Fin 4640 → EReal) (l : Fin 256) : EReal := z (col (1280 + l.val))

/-- the linear attention's queries, keys and values, -/
def rowQg (z : Fin 4640 → EReal) (l : Fin 512) : EReal := z (col (1536 + l.val)) * Ideal.ofBits .f32 1035273459#32
def rowKg (z : Fin 4640 → EReal) (l : Fin 512) : EReal := z (col (2048 + l.val))
def rowVg (z : Fin 4640 → EReal) (l : Fin 1024) : EReal := z (col (2560 + l.val))

/-- the output's gate, -/
def rowOg (z : Fin 4640 → EReal) (l : Fin 1024) : EReal := silu (z (col (3584 + l.val)))

/-- and the decay gates of a direction, whose sixteen columns start at `o`. -/
def rowGate (o : Nat) (z : Fin 4640 → EReal) (u : Fin 16 → Fin 512 → EReal) (b : Fin 512 → EReal) (l : Fin 512) : EReal :=
  gate ((∑ k : Fin 16, z (col (o + k.val)) * u k l) + b l)

/-! ## The results -/

/-- A row of 1024, of 512 and of 256 for a batch and a position. -/
abbrev S1K : Shape := ⟨2, ![16384, 1024]⟩
abbrev S5H : Shape := ⟨2, ![16384, 512]⟩
abbrev S2H : Shape := ⟨2, ![16384, 256]⟩

section
variable (x0 : SX.Idx → EReal) (x1 : SV.Idx → EReal) (x2 : SW.Idx → EReal) (x3 x4 : SG.Idx → EReal) (x5 x7 : SU.Idx → EReal) (x6 x8 : SB.Idx → EReal)

/-- Row `r`'s product with the weights. -/
def zAt (r : Fin 16384) : Fin 4640 → EReal :=
  zRow (fun d => x0 (ix3 (bOf r) (sOf r) d)) (fun d => x1 (ix1 d)) (fun d k => x2 (ix2 d k))

def resQ : S1K.Idx → EReal := fun i => rowQ (zAt x0 x1 x2 (i 0)) (fun d => x3 (ix1 d)) (angle (sOf (i 0))) (i 1)
def resK : S2H.Idx → EReal := fun i => rowK (zAt x0 x1 x2 (i 0)) (fun d => x4 (ix1 d)) (angle (sOf (i 0))) (i 1)
def resV : S2H.Idx → EReal := fun i => rowV (zAt x0 x1 x2 (i 0)) (i 1)
def resQg : S5H.Idx → EReal := fun i => rowQg (zAt x0 x1 x2 (i 0)) (i 1)
def resKg : S5H.Idx → EReal := fun i => rowKg (zAt x0 x1 x2 (i 0)) (i 1)
def resVg : S1K.Idx → EReal := fun i => rowVg (zAt x0 x1 x2 (i 0)) (i 1)
def resOg : S1K.Idx → EReal := fun i => rowOg (zAt x0 x1 x2 (i 0)) (i 1)
def resF : S5H.Idx → EReal := fun i => rowGate 4608 (zAt x0 x1 x2 (i 0)) (fun k l => x5 (ix2 k l)) (fun l => x6 (ix1 l)) (i 1)
def resB : S5H.Idx → EReal := fun i => rowGate 4624 (zAt x0 x1 x2 (i 0)) (fun k l => x7 (ix2 k l)) (fun l => x8 (ix1 l)) (i 1)

end

end Cert.InProof

end
-- ==== Proof.InPay.lean ====
/- The kernel's values of a block at an index. -/
module

public import proofs.«01_k».proof.Proof.Gen.InIdeal.Frame
public import proofs.«01_k».proof.Proof.Gen.InIdeal
public import proofs.«01_k».proof.Proof.InSpec
public import Idealize.ShloMosaic.Lib.Pointwise
public import Idealize.ShloMosaic.Lib.IdealHost

@[expose] public section

set_option maxRecDepth 16384

noncomputable section

namespace Cert.InProof

open Idealize.ShloMosaic Idealize.ShloMosaic.TcCoe Idealize.SL.Sem
open Cert.InIdeal Cert.InIdeal.Gen Cert.InIdeal.Facts

/-- A head's rows normalised, as the kernel writes it, -/
def headNorm (z : FVec Ideal S512x128 .f32) (g : Vec Ideal S1x128 .f32) : FVec Ideal S512x128 .f32 :=
  mulf (mulf z (broadcastTo S512x128 (rsqrt (addf (divf (shapeCast S512x1 (multiReduction .add [1] S512 (mulf z z) 0x00000000#32
    reduces_S512x128_S512 (.inl rfl) rfl) shapeCasts_S512_S512x1) (broadcast S512x1 (Scalar.ofBits (F := Ideal) .f32 0x43000000#32)))
    (broadcast S512x1 (Scalar.ofBits (F := Ideal) .f32 0x358637BD#32)))) broadcasts_S512x1_S512x128))
    (broadcastTo S512x128 (shapeCast S1x128 g shapeCasts_S1x128_S1x128 : FVec Ideal S1x128 .f32) broadcasts_S1x128_S512x128)

/-- and turned by the tables' angles: every head of the queries and of the keys is this function of its columns. -/
def headTurn (c s : FVec Ideal S512x128 .f32) (k : IVec S512x128 1) (y : FVec Ideal S512x128 .f32) (a : Ideal .f32) :
    FVec Ideal S512x128 .bf16 :=
  truncf .bf16 (mulf (addf (mulf y c) (mulf (select k (dynamicRotate 1 96#32 none y rotates_S512x128_d1)
    (dynamicRotate 1 32#32 none y rotates_S512x128_d1)) s)) (broadcast S512x128 a)) bitsLt_bf16_f32

theorem headNorm_at (z : FVec Ideal S512x128 .f32) (g : Vec Ideal S1x128 .f32) (q : Fin 512) (e : Fin 128) :
    headNorm z g (ix2 q e) = norm (Ideal.ofBits .f32 1124073472#32) (fun d => z (ix2 q d)) (fun d => g (ix2 (0 : Fin 1) d)) e := by
  pointwise [headNorm, norm]

theorem headTurn_at (c s : FVec Ideal S512x128 .f32) (k : IVec S512x128 1) (y : FVec Ideal S512x128 .f32) (a : Ideal .f32)
    (q : Fin 512) (e : Fin 128) : headTurn c s k y a (ix2 q e)
      = ((y (ix2 q e) : EReal) * c (ix2 q e) + (Scalar.select (k (ix2 q e)) (y (ix2 q ⟨(e.val + 128 - 96) % 128, by omega⟩))
          (y (ix2 q ⟨(e.val + 128 - 32) % 128, by omega⟩)) : EReal) * s (ix2 q e)) * a := by
  pointwise [headTurn]

/-- The lanes of the first half of each axis. -/
theorem mask_at (q : Fin 512) (e : Fin 128) : k0_pay8 (ix2 q e) = if e.val % 64 < 32 then 1#1 else 0#1 := by
  pointwise [k0_pay8]
  revert e
  decide +kernel

theorem h_at (x : Vec Ideal S512x2048 .f32) (g : Vec Ideal S1x2048 .f32) (q : Fin 512) (d : Fin 2048) :
    k0_pay5 x g (ix2 q d) = norm (Ideal.ofBits .f32 1157627904#32) (fun d => x (ix2 q d)) (fun d => g (ix2 (0 : Fin 1) d)) d := by
  pointwise [k0_pay5, norm]

theorem dot_at (h : FVec Ideal S512x2048 .bf16) (w : Vec Ideal S2048x512 .bf16) (q : Fin 512) (j : Fin 512) :
    k0_pay12 h w (ix2 q j) = ∑ d : Fin 2048, (h (ix2 q d) : EReal) * w (ix2 d j) := by
  pointwise [k0_pay12]

theorem w16 : Ideal.ofBits .f32 1098907648#32 = ((16 : ℝ) : EReal) := by
  simp [Ideal.ofBits, Ideal.ieee]; norm_cast; norm_num
theorem w16th : Ideal.ofBits .f32 1031798784#32 = (((16 : ℝ)⁻¹ : ℝ) : EReal) := by
  simp [Ideal.ofBits, Ideal.ieee]; norm_cast; norm_num

/-- A sixteenth of a number is the number over sixteen. -/
theorem sixteenth (a : EReal) : a * Ideal.ofBits .f32 1031798784#32 = Ideal.div a (Ideal.ofBits .f32 1098907648#32) := by
  have h : ((16 : ℝ) : EReal) ≠ 0 := by norm_num
  rw [w16, w16th, Ideal.div, if_neg h, EReal.coe_inv]

theorem gate_at (h : FVec Ideal S512x2048 .bf16) (w : Vec Ideal S2048x32 .bf16) (u : Vec Ideal S32x1024 .bf16) (b : Vec Ideal S1x1024 .f32)
    (q : Fin 512) (j : Fin 1024) : k0_pay9 h w u b (ix2 q j)
      = gate ((∑ k : Fin 32, (∑ d : Fin 2048, (h (ix2 q d) : EReal) * w (ix2 d k)) * u (ix2 k j)) + b (ix2 (0 : Fin 1) j)) := by
  pointwise [k0_pay9, gate]
  rw [sixteenth, zero_sub]
  rfl

theorem og_at (h : FVec Ideal S512x2048 .bf16) (w : Vec Ideal S2048x512 .bf16) (q : Fin 512) (j : Fin 512) :
    k0_pay36 h w (ix2 q j) = silu (∑ d : Fin 2048, (h (ix2 q d) : EReal) * w (ix2 d j)) := by
  pointwise [k0_pay36, silu]
  rw [zero_sub]

/-! ## Every head is one function, and every product is one -/

section
variable (c s : FVec Ideal S512x128 .f32) (k : IVec S512x128 1) (h : FVec Ideal S512x2048 .bf16) (z : FVec Ideal S512x512 .f32)
  (w : Vec Ideal S2048x512 .bf16) (g : Vec Ideal S1x128 .f32)

/-- The factors of the queries and of the keys. -/
abbrev qs : Ideal .f32 := Scalar.ofBits (F := Ideal) .f32 0x3E0293EE#32
abbrev ks : Ideal .f32 := Scalar.ofBits (F := Ideal) .f32 0x3F800000#32

/-- Four heads' columns of a product. -/
abbrev cols0 : FVec Ideal S512x128 .f32 := extractStridedSlice S512x128 ![0, 0] z slices_S512x512_o0_0_S512x128
abbrev cols1 : FVec Ideal S512x128 .f32 := extractStridedSlice S512x128 ![0, 128] z slices_S512x512_o0_128_S512x128
abbrev cols2 : FVec Ideal S512x128 .f32 := extractStridedSlice S512x128 ![0, 256] z slices_S512x512_o0_256_S512x128
abbrev cols3 : FVec Ideal S512x128 .f32 := extractStridedSlice S512x128 ![0, 384] z slices_S512x512_o0_384_S512x128

theorem q0 : k0_pay16 c s k (k0_pay13 h w) (k0_pay14 g) (k0_pay15 h w) (Scalar.ofBits .f32 0x43000000#32)
    = headTurn c s k (headNorm (cols0 (k0_pay12 h w)) g) qs := rfl
theorem q1 : k0_pay17 c s k z g = headTurn c s k (headNorm (cols1 z) g) qs := rfl
theorem q2 : k0_pay18 c s k z g = headTurn c s k (headNorm (cols2 z) g) qs := rfl
theorem q3 : k0_pay21 c s k (k0_pay19 z g) (k0_pay20 z g) = headTurn c s k (headNorm (cols3 z) g) qs := rfl
theorem q4 : k0_pay23 h c s k w g = headTurn c s k (headNorm (cols0 (k0_pay12 h w)) g) qs := rfl
theorem q5 : k0_pay25 c s k (k0_pay24 h w) g = headTurn c s k (headNorm (cols1 (k0_pay12 h w)) g) qs := rfl
theorem q6 : k0_pay27 (k0_pay26 c s k z g) = headTurn c s k (headNorm (cols2 z) g) qs := rfl
theorem q7 : k0_pay28 c s k z g = headTurn c s k (headNorm (cols3 z) g) qs := rfl
theorem k0 : k0_pay33 c s k (k0_pay30 h w) (k0_pay31 g) (k0_pay32 h w) (Scalar.ofBits .f32 0x43000000#32)
    = headTurn c s k (headNorm (cols0 (k0_pay12 h w)) g) ks := rfl
theorem k1 : k0_pay34 c s k z g = headTurn c s k (headNorm (cols1 z) g) ks := rfl

theorem cols0_at (q : Fin 512) (e : Fin 128) : cols0 z (ix2 q e) = z (ix2 q ⟨e.val, by omega⟩) := by pointwise [cols0]
theorem cols1_at (q : Fin 512) (e : Fin 128) : cols1 z (ix2 q e) = z (ix2 q ⟨128 + e.val, by omega⟩) := by pointwise [cols1]
theorem cols2_at (q : Fin 512) (e : Fin 128) : cols2 z (ix2 q e) = z (ix2 q ⟨256 + e.val, by omega⟩) := by pointwise [cols2]
theorem cols3_at (q : Fin 512) (e : Fin 128) : cols3 z (ix2 q e) = z (ix2 q ⟨384 + e.val, by omega⟩) := by pointwise [cols3]

theorem d22 : k0_pay22 h w = k0_pay12 h w := rfl
theorem d29 : k0_pay29 h w = k0_pay12 h w := rfl
theorem d2 : k0_pay2 h w = k0_pay12 h w := rfl
theorem d3 : k0_pay3 h w = k0_pay12 h w := rfl
theorem d4 : k0_pay4 h w = k0_pay12 h w := rfl
theorem d37 : k0_pay37 h w = k0_pay36 h w := rfl

theorem qg_at (q : Fin 512) (j : Fin 512) : k0_pay1 (k0_pay38 h w) (k0_pay39 (F := Ideal)) (ix2 q j)
    = (∑ d : Fin 2048, (h (ix2 q d) : EReal) * w (ix2 d j)) * Ideal.ofBits .f32 1035273459#32 := by
  pointwise [k0_pay1, k0_pay38, k0_pay39]
theorem va_at (q : Fin 512) (j : Fin 256) : k0_pay35 z (ix2 q j) = z (ix2 q ⟨256 + j.val, by omega⟩) := by
  pointwise [k0_pay35]
theorem laf_at (w : Vec Ideal S2048x32 .bf16) (u : Vec Ideal S32x1024 .bf16) (b : Vec Ideal S1x1024 .f32) (q : Fin 512) (j : Fin 512) :
    k0_pay10 h w u b (ix2 q j) = k0_pay9 h w u b (ix2 q ⟨j.val, by omega⟩) := by
  pointwise [k0_pay10]
theorem lab_at (w : Vec Ideal S2048x32 .bf16) (u : Vec Ideal S32x1024 .bf16) (b : Vec Ideal S1x1024 .f32) (q : Fin 512) (j : Fin 512) :
    k0_pay11 h w u b (ix2 q j) = k0_pay9 h w u b (ix2 q ⟨512 + j.val, by omega⟩) := by
  pointwise [k0_pay11]

end

end Cert.InProof

end
-- ==== Proof.InBlk.lean ====
/- The blocks the kernel leaves at a point, row by row. -/
module

public import proofs.«01_k».proof.Proof.InPay
public import proofs.«01_k».proof.Proof.Gen.InIdeal.Frame

@[expose] public section

set_option maxRecDepth 16384

noncomputable section

namespace Cert.InProof

open Idealize.ShloMosaic Idealize.ShloMosaic.TcCoe Idealize.SL.Sem
open Cert.InIdeal Cert.InIdeal.Gen Cert.InIdeal.Facts

/-- A load from an offset reads the entry at the offset and the index together. -/
theorem ld_at {M N a b : Nat} {e : EltTy} (x : Vec Ideal ⟨2, ![M, N]⟩ e) (o : Fin 2 → Nat)
    (h : ∀ i : Fin 2, o i + (![a, b] : Fin 2 → Nat) i ≤ (![M, N] : Fin 2 → Nat) i) (j : Fin a) (d : Fin b) (q : Fin M) (k : Fin N)
    (hq : o 0 + j.val = q.val) (hk : o 1 + d.val = k.val) :
    View.ld x (Rect.unit (s := ⟨2, ![M, N]⟩) o ![a, b] h) (ix2 j d) = x (ix2 q k) := by
  refine congrArg x (funext fun i => Fin.ext ?_)
  match i with
  | ⟨0, _⟩ => show o 0 + 1 * j.val = q.val; omega
  | ⟨1, _⟩ => show o 1 + 1 * d.val = k.val; omega

/-- A store of whole rows from column `o` on agrees with `G` if its entries do. -/
theorem piece_at {N M : Nat} {e : EltTy} (G : Vec Ideal ⟨2, ![512, N]⟩ e) (o : Nat)
    (h : ∀ i : Fin 2, (![0, o] : Fin 2 → Nat) i + (![512, M] : Fin 2 → Nat) i ≤ (![512, N] : Fin 2 → Nat) i)
    (P : Vec Ideal ⟨2, ![512, M]⟩ e)
    (hp : ∀ (q : Fin 512) (j : Fin M) (l : Fin N), l.val = o + j.val → P (ix2 q j) = G (ix2 q l)) (x : (⟨2, ![512, M]⟩ : Shape).Idx) :
    P x = G ((Rect.unit (s := ⟨2, ![512, N]⟩) ![0, o] ![512, M] h).emb x) := by
  have hb : o + M ≤ N := h 1
  have hx := (x 1).isLt
  have hl : o + (x 1).val < N := by
    have : (x 1).val < M := hx
    omega
  rw [show x = ix2 (x 0 : Fin 512) (x 1 : Fin M) from eq_ix2 x]
  exact (hp (x 0) (x 1) ⟨o + (x 1).val, hl⟩ rfl).trans
    (ld_at G ![0, o] h (x 0) (x 1) (x 0) ⟨o + (x 1).val, hl⟩ (Nat.zero_add _) rfl).symm

section
variable (x0 : Vec Ideal S512x2048 .f32) (x1 : Vec Ideal S1x2048 .f32) (x2 : Vec Ideal S2048x4640 .bf16) (x3 x4 : Vec Ideal S1x128 .f32)
  (x5 x6 : Vec Ideal S512x128 .f32) (x7 : Vec Ideal S32x1024 .bf16) (x8 : Vec Ideal S1x1024 .f32)

/-- Row `q`'s product with the weights. -/
def zB (q : Fin 512) : Fin 4640 → EReal :=
  zRow (fun d => x0 (ix2 q d)) (fun d => x1 (ix2 (0 : Fin 1) d)) (fun d k => x2 (ix2 d k))

/-- A gain's row. -/
def gB (g : Vec Ideal S1x128 .f32) (d : Fin 128) : EReal := g (ix2 (0 : Fin 1) d)

theorem zero2 : (![0, 0] : Fin 2 → Nat) = fun _ => 0 := by decide

theorem h40_at (q : Fin 512) (d : Fin 2048) : k0_pay40 x0 x1 x2 x3 x4 x5 x6 x7 x8 (ix2 q d)
    = norm (Ideal.ofBits .f32 1157627904#32) (fun d => x0 (ix2 q d)) (fun d => x1 (ix2 (0 : Fin 1) d)) d := by
  unfold k0_pay40
  rw [h_at, View.ld_unit_zero (S := S512x2048) zero2, View.ld_unit_zero (S := S1x2048) zero2]

/-- Any columns' product is the row's at those columns. -/
theorem sum_at {M : Nat} (o : Nat) (h : ∀ i : Fin 2, (![0, o] : Fin 2 → Nat) i + (![2048, M] : Fin 2 → Nat) i ≤ (![2048, 4640] : Fin 2 → Nat) i)
    (q : Fin 512) (j : Fin M) :
    ∑ d : Fin 2048, (k0_pay40 x0 x1 x2 x3 x4 x5 x6 x7 x8 (ix2 q d) : EReal)
        * (View.ld (S := ⟨2, ![2048, 4640]⟩) x2 (Rect.unit (s := ⟨2, ![2048, 4640]⟩) ![0, o] ![2048, M] h) (ix2 d j) : EReal)
      = zB x0 x1 x2 q (col (o + j.val)) := by
  have hb : o + M ≤ 4640 := h 1
  have hj := j.isLt
  unfold zB zRow
  refine Finset.sum_congr rfl fun d _ => ?_
  rw [h40_at]
  exact congrArg (norm (Ideal.ofBits .f32 1157627904#32) (fun d => x0 (ix2 q d)) (fun d => x1 (ix2 (0 : Fin 1) d)) d * ·)
    (ld_at x2 ![0, o] h d j d (col (o + j.val)) (Nat.zero_add _) (by show o + j.val = (o + j.val) % 4640; omega))

theorem prod_at (o : Nat) (h : ∀ i : Fin 2, (![0, o] : Fin 2 → Nat) i + (![2048, 512] : Fin 2 → Nat) i ≤ (![2048, 4640] : Fin 2 → Nat) i)
    (q : Fin 512) (j : Fin 512) :
    k0_pay12 (k0_pay40 x0 x1 x2 x3 x4 x5 x6 x7 x8) (View.ld (S := ⟨2, ![2048, 4640]⟩) x2 (Rect.unit (s := ⟨2, ![2048, 4640]⟩) ![0, o] ![2048, 512] h)) (ix2 q j)
      = zB x0 x1 x2 q (col (o + j.val)) :=
  (dot_at _ _ q j).trans (sum_at x0 x1 x2 x3 x4 x5 x6 x7 x8 o h q j)

theorem c41 : k0_pay41 x0 x1 x2 x3 x4 x5 x6 x7 x8 = x5 := by
  unfold k0_pay41 k0_pay6
  rw [View.ld_unit_zero (S := S512x128) zero2, shapeCast_self]

theorem s42 : k0_pay42 x0 x1 x2 x3 x4 x5 x6 x7 x8 = x6 := by
  unfold k0_pay42 k0_pay7
  rw [View.ld_unit_zero (S := S512x128) zero2, shapeCast_self]

theorem w1 : Ideal.ofBits .f32 1065353216#32 = 1 := by
  simp [Ideal.ofBits, Ideal.ieee]; norm_cast; norm_num

section
variable (θ : Fin 512 → Fin 128 → EReal)
  (hc : ∀ (q : Fin 512) (e : Fin 128), x5 (ix2 q e) = Ideal.cos (θ q e))
  (hs : ∀ (q : Fin 512) (e : Fin 128), x6 (ix2 q e) = if e.val % 64 < 32 then -Ideal.sin (θ q e) else Ideal.sin (θ q e))

include hc hs

theorem turned (y : FVec Ideal S512x128 .f32) (a : Ideal .f32) (q : Fin 512) (e : Fin 128) :
    headTurn x5 x6 k0_pay8 y a (ix2 q e) = turn (fun d => y (ix2 q d)) (θ q) e * a := by
  rw [headTurn_at, mask_at, hc, hs]
  refine congrArg (· * (a : EReal)) ?_
  unfold turn
  by_cases h : e.val % 64 < 32
  · rw [if_pos h, if_pos h, if_pos h, mul_neg, sub_eq_add_neg]
    exact congrArg (fun k => (y (ix2 q e) : EReal) * Ideal.cos (θ q e) + -((y (ix2 q k) : EReal) * Ideal.sin (θ q e)))
      (Fin.ext (by show (e.val + 128 - 96) % 128 = (e.val + 32) % 128; omega))
  · rw [if_neg h, if_neg h, if_neg h]
    exact congrArg (fun k => (y (ix2 q e) : EReal) * Ideal.cos (θ q e) + (y (ix2 q k) : EReal) * Ideal.sin (θ q e))
      (Fin.ext (by show (e.val + 128 - 32) % 128 = (e.val + 96) % 128; omega))

/-- A head of the columns `o` and on. -/
theorem head_at (g : Vec Ideal S1x128 .f32) (a : Ideal .f32) (z : FVec Ideal S512x128 .f32) (o : Nat)
    (hz : ∀ (q : Fin 512) (e : Fin 128), z (ix2 q e) = zB x0 x1 x2 q (col (o + e.val))) (q : Fin 512) (e : Fin 128) :
    headTurn (k0_pay41 x0 x1 x2 x3 x4 x5 x6 x7 x8) (k0_pay42 x0 x1 x2 x3 x4 x5 x6 x7 x8) (k0_pay43 x0 x1 x2 x3 x4 x5 x6 x7 x8)
        (headNorm z (View.ld g r0_8)) a (ix2 q e)
      = head (zB x0 x1 x2 q) (gB g) (θ q) o e * a := by
  rw [c41, s42, View.ld_unit_zero (S := S1x128) zero2]
  refine (turned x5 x6 θ hc hs _ a q e).trans (congrArg (· * (a : EReal)) ?_)
  unfold head
  refine congrArg (fun y => turn y (θ q) e) (funext fun d => ?_)
  rw [headNorm_at]
  exact congrArg (fun y => norm (Ideal.ofBits .f32 1124073472#32) y (gB g) d) (funext fun d => hz q d)

theorem q_piece (o : Nat) (ho : 128 * (o / 128) = o) (z : FVec Ideal S512x128 .f32)
    (hz : ∀ (q : Fin 512) (e : Fin 128), z (ix2 q e) = zB x0 x1 x2 q (col (o + e.val))) (q : Fin 512) (e : Fin 128) (l : Fin 1024)
    (hl : l.val = o + e.val) :
    headTurn (k0_pay41 x0 x1 x2 x3 x4 x5 x6 x7 x8) (k0_pay42 x0 x1 x2 x3 x4 x5 x6 x7 x8) (k0_pay43 x0 x1 x2 x3 x4 x5 x6 x7 x8)
        (headNorm z (View.ld x3 r0_8)) qs (ix2 q e)
      = rowQ (zB x0 x1 x2 q) (gB x3) (θ q) l := by
  have he := e.isLt
  refine (head_at x0 x1 x2 x3 x4 x5 x6 x7 x8 θ hc hs x3 qs z o hz q e).trans ?_
  unfold rowQ
  exact congrArg₂ (fun o e => head (zB x0 x1 x2 q) (gB x3) (θ q) o e * qs) (by omega : o = 128 * (l.val / 128))
    (Fin.ext (by show e.val = l.val % 128; omega))

theorem k_piece (o : Nat) (ho : 128 * (o / 128) = o) (z : FVec Ideal S512x128 .f32)
    (hz : ∀ (q : Fin 512) (e : Fin 128), z (ix2 q e) = zB x0 x1 x2 q (col (1024 + o + e.val))) (q : Fin 512) (e : Fin 128) (l : Fin 256)
    (hl : l.val = o + e.val) :
    headTurn (k0_pay41 x0 x1 x2 x3 x4 x5 x6 x7 x8) (k0_pay42 x0 x1 x2 x3 x4 x5 x6 x7 x8) (k0_pay43 x0 x1 x2 x3 x4 x5 x6 x7 x8)
        (headNorm z (View.ld x4 r0_8)) ks (ix2 q e)
      = rowK (zB x0 x1 x2 q) (gB x4) (θ q) l := by
  have he := e.isLt
  refine (head_at x0 x1 x2 x3 x4 x5 x6 x7 x8 θ hc hs x4 ks z (1024 + o) hz q e).trans ?_
  unfold rowK
  refine (congrArg (head (zB x0 x1 x2 q) (gB x4) (θ q) (1024 + o) e * ·) w1).trans ((mul_one _).trans ?_)
  exact congrArg₂ (fun o e => head (zB x0 x1 x2 q) (gB x4) (θ q) o e) (by omega : 1024 + o = 1024 + 128 * (l.val / 128))
    (Fin.ext (by show e.val = l.val % 128; omega))

omit hc hs in
/-- Each head's columns, of four heads of a product. -/
theorem heads_at (o : Nat) (h : ∀ i : Fin 2, (![0, o] : Fin 2 → Nat) i + (![2048, 512] : Fin 2 → Nat) i ≤ (![2048, 4640] : Fin 2 → Nat) i)
    (z : FVec Ideal S512x512 .f32)
    (hz : z = k0_pay12 (k0_pay40 x0 x1 x2 x3 x4 x5 x6 x7 x8) (View.ld (S := ⟨2, ![2048, 4640]⟩) x2 (Rect.unit (s := ⟨2, ![2048, 4640]⟩) ![0, o] ![2048, 512] h)))
    (q : Fin 512) (e : Fin 128) :
    cols0 z (ix2 q e) = zB x0 x1 x2 q (col (o + e.val)) ∧ cols1 z (ix2 q e) = zB x0 x1 x2 q (col (o + 128 + e.val))
      ∧ cols2 z (ix2 q e) = zB x0 x1 x2 q (col (o + 256 + e.val)) ∧ cols3 z (ix2 q e) = zB x0 x1 x2 q (col (o + 384 + e.val)) := by
  subst hz
  refine ⟨?_, ?_, ?_, ?_⟩
  · rw [cols0_at, prod_at]
  · rw [cols1_at, prod_at, Nat.add_assoc]
  · rw [cols2_at, prod_at, Nat.add_assoc]
  · rw [cols3_at, prod_at, Nat.add_assoc]

theorem out9_at (q : Fin 512) (l : Fin 1024) : out0_9 x0 x1 x2 x3 x4 x5 x6 x7 x8 (ix2 q l) = rowQ (zB x0 x1 x2 q) (gB x3) (θ q) l := by
  have H := heads_at x0 x1 x2 x3 x4 x5 x6 x7 x8
  have Q := q_piece x0 x1 x2 x3 x4 x5 x6 x7 x8 θ hc hs
  have A := H 0 inb_S2048x4640_S2048x512_0_0 _ rfl
  have B := H 512 inb_S2048x4640_S2048x512_0_512 _ rfl
  let G : Vec Ideal S512x1024 .bf16 := fun i => rowQ (zB x0 x1 x2 (i 0)) (gB x3) (θ (i 0)) (i 1)
  refine View.canon_apply_of_pieces (Val := Elt Ideal) (S := S512x1024) G _
    (List.forall_mem_cons.2 ⟨?_, List.forall_mem_cons.2 ⟨?_, List.forall_mem_cons.2 ⟨?_, List.forall_mem_cons.2 ⟨?_, List.forall_mem_cons.2 ⟨?_,
      List.forall_mem_cons.2 ⟨?_, List.forall_mem_cons.2 ⟨?_, List.forall_mem_singleton.2 ?_⟩⟩⟩⟩⟩⟩⟩) _ (cover0_9 _ _ _ _ _ _ _ _ _)
  · refine piece_at G 896 inb_S512x1024_S512x128_0_896 _ ?_
    exact Q 896 rfl _ fun q e => (B q e).2.2.2
  · refine piece_at G 768 inb_S512x1024_S512x128_0_768 _ ?_
    exact Q 768 rfl _ fun q e => (B q e).2.2.1
  · refine piece_at G 640 inb_S512x1024_S512x128_0_640 _ ?_
    exact Q 640 rfl _ fun q e => (B q e).2.1
  · refine piece_at G 512 inb_S512x1024_S512x128_0_512 _ ?_
    exact Q 512 rfl _ fun q e => (B q e).1
  · refine piece_at G 384 inb_S512x1024_S512x128_0_384 _ ?_
    exact Q 384 rfl _ fun q e => (A q e).2.2.2
  · refine piece_at G 256 inb_S512x1024_S512x128_0_256 _ ?_
    exact Q 256 rfl _ fun q e => (A q e).2.2.1
  · refine piece_at G 128 inb_S512x1024_S512x128_0_128 _ ?_
    exact Q 128 rfl _ fun q e => (A q e).2.1
  · refine piece_at G 0 inb_S512x1024_S512x128_0_0 _ ?_
    exact Q 0 rfl _ fun q e => (A q e).1

theorem out10_at (q : Fin 512) (l : Fin 256) : out0_10 x0 x1 x2 x3 x4 x5 x6 x7 x8 (ix2 q l) = rowK (zB x0 x1 x2 q) (gB x4) (θ q) l := by
  have Q := k_piece x0 x1 x2 x3 x4 x5 x6 x7 x8 θ hc hs
  have A := heads_at x0 x1 x2 x3 x4 x5 x6 x7 x8 1024 inb_S2048x4640_S2048x512_0_1024 _ rfl
  let G : Vec Ideal S512x256 .bf16 := fun i => rowK (zB x0 x1 x2 (i 0)) (gB x4) (θ (i 0)) (i 1)
  refine View.canon_apply_of_pieces (Val := Elt Ideal) (S := S512x256) G _
    (List.forall_mem_cons.2 ⟨?_, List.forall_mem_singleton.2 ?_⟩) _ (cover0_10 _ _ _)
  · refine piece_at G 128 inb_S512x256_S512x128_0_128 _ ?_
    exact Q 128 rfl _ fun q e => (A q e).2.1
  · refine piece_at G 0 inb_S512x256_S512x128_0_0 _ ?_
    exact Q 0 rfl _ fun q e => (A q e).1

end

theorem out11_at (q : Fin 512) (l : Fin 256) : out0_11 x0 x1 x2 x3 x4 x5 x6 x7 x8 (ix2 q l) = rowV (zB x0 x1 x2 q) l := by
  let G : Vec Ideal S512x256 .bf16 := fun i => rowV (zB x0 x1 x2 (i 0)) (i 1)
  refine View.canon_apply_of_pieces (Val := Elt Ideal) (S := S512x256) G _ (List.forall_mem_singleton.2 ?_) _ (cover0_11 _ _)
  refine piece_at G 0 inb_S512x256_S512x256_0_0 _ fun q j l hl => ?_
  refine (va_at _ q j).trans
    ((prod_at x0 x1 x2 x3 x4 x5 x6 x7 x8 1024 inb_S2048x4640_S2048x512_0_1024 q _).trans ?_)
  exact congrArg (fun k => zB x0 x1 x2 q (col k)) (by show 1024 + (256 + j.val) = 1280 + l.val; omega)

theorem out12_at (q : Fin 512) (l : Fin 512) : out0_12 x0 x1 x2 x3 x4 x5 x6 x7 x8 (ix2 q l) = rowQg (zB x0 x1 x2 q) l := by
  let G : Vec Ideal S512x512 .bf16 := fun i => rowQg (zB x0 x1 x2 (i 0)) (i 1)
  refine View.canon_apply_of_pieces (Val := Elt Ideal) (S := S512x512) G _ (List.forall_mem_singleton.2 ?_) _ (cover0_12 _ _)
  refine piece_at G 0 inb_S512x512_S512x512_0_0 _ fun q j l hl => ?_
  refine (qg_at _ _ q j).trans ?_
  refine (congrArg (· * Ideal.ofBits .f32 1035273459#32) (sum_at x0 x1 x2 x3 x4 x5 x6 x7 x8 1536 inb_S2048x4640_S2048x512_0_1536 q j)).trans ?_
  exact congrArg (fun k => zB x0 x1 x2 q (col k) * Ideal.ofBits .f32 1035273459#32) (by omega : 1536 + j.val = 1536 + l.val)

theorem out13_at (q : Fin 512) (l : Fin 512) : out0_13 x0 x1 x2 x3 x4 x5 x6 x7 x8 (ix2 q l) = rowKg (zB x0 x1 x2 q) l := by
  let G : Vec Ideal S512x512 .bf16 := fun i => rowKg (zB x0 x1 x2 (i 0)) (i 1)
  refine View.canon_apply_of_pieces (Val := Elt Ideal) (S := S512x512) G _ (List.forall_mem_singleton.2 ?_) _ (cover0_13 _ _)
  refine piece_at G 0 inb_S512x512_S512x512_0_0 _ fun q j l hl => ?_
  refine (prod_at x0 x1 x2 x3 x4 x5 x6 x7 x8 2048 inb_S2048x4640_S2048x512_0_2048 q j).trans ?_
  exact congrArg (fun k => zB x0 x1 x2 q (col k)) (by omega : 2048 + j.val = 2048 + l.val)

theorem out14_at (q : Fin 512) (l : Fin 1024) : out0_14 x0 x1 x2 x3 x4 x5 x6 x7 x8 (ix2 q l) = rowVg (zB x0 x1 x2 q) l := by
  let G : Vec Ideal S512x1024 .bf16 := fun i => rowVg (zB x0 x1 x2 (i 0)) (i 1)
  refine View.canon_apply_of_pieces (Val := Elt Ideal) (S := S512x1024) G _
    (List.forall_mem_cons.2 ⟨?_, List.forall_mem_singleton.2 ?_⟩) _ (cover0_14 _ _ _)
  · refine piece_at G 512 inb_S512x1024_S512x512_0_512 _ fun q j l hl => ?_
    refine (prod_at x0 x1 x2 x3 x4 x5 x6 x7 x8 3072 inb_S2048x4640_S2048x512_0_3072 q j).trans ?_
    exact congrArg (fun k => zB x0 x1 x2 q (col k)) (by omega : 3072 + j.val = 2560 + l.val)
  · refine piece_at G 0 inb_S512x1024_S512x512_0_0 _ fun q j l hl => ?_
    refine (prod_at x0 x1 x2 x3 x4 x5 x6 x7 x8 2560 inb_S2048x4640_S2048x512_0_2560 q j).trans ?_
    exact congrArg (fun k => zB x0 x1 x2 q (col k)) (by omega : 2560 + j.val = 2560 + l.val)

theorem og_piece (o : Nat) (h : ∀ i : Fin 2, (![0, o] : Fin 2 → Nat) i + (![2048, 512] : Fin 2 → Nat) i ≤ (![2048, 4640] : Fin 2 → Nat) i)
    (q j : Fin 512) (l : Fin 1024) (hl : o + j.val = 3584 + l.val) :
    k0_pay36 (k0_pay40 x0 x1 x2 x3 x4 x5 x6 x7 x8) (View.ld (S := ⟨2, ![2048, 4640]⟩) x2 (Rect.unit (s := ⟨2, ![2048, 4640]⟩) ![0, o] ![2048, 512] h)) (ix2 q j)
      = rowOg (zB x0 x1 x2 q) l :=
  (og_at _ _ q j).trans ((congrArg silu (sum_at x0 x1 x2 x3 x4 x5 x6 x7 x8 o h q j)).trans
    (congrArg (fun k => silu (zB x0 x1 x2 q (col k))) hl))

theorem out15_at (q : Fin 512) (l : Fin 1024) : out0_15 x0 x1 x2 x3 x4 x5 x6 x7 x8 (ix2 q l) = rowOg (zB x0 x1 x2 q) l := by
  let G : Vec Ideal S512x1024 .bf16 := fun i => rowOg (zB x0 x1 x2 (i 0)) (i 1)
  refine View.canon_apply_of_pieces (Val := Elt Ideal) (S := S512x1024) G _
    (List.forall_mem_cons.2 ⟨?_, List.forall_mem_singleton.2 ?_⟩) _ (cover0_15 _ _ _)
  · refine piece_at G 512 inb_S512x1024_S512x512_0_512 _ ?_
    exact fun q j l hl =>
      og_piece x0 x1 x2 x3 x4 x5 x6 x7 x8 4096 inb_S2048x4640_S2048x512_0_4096 q j l (by omega)
  · refine piece_at G 0 inb_S512x1024_S512x512_0_0 _ ?_
    exact fun q j l hl =>
      og_piece x0 x1 x2 x3 x4 x5 x6 x7 x8 3584 inb_S2048x4640_S2048x512_0_3584 q j l (by omega)

/-- The gates of both directions, over their thirty-two columns. -/
def gateB (q : Fin 512) (j : Fin 1024) : EReal :=
  gate ((∑ k : Fin 32, zB x0 x1 x2 q (col (4608 + k.val)) * x7 (ix2 k j)) + x8 (ix2 (0 : Fin 1) j))

theorem gateB_at (q : Fin 512) (j : Fin 1024) :
    k0_pay9 (k0_pay40 x0 x1 x2 x3 x4 x5 x6 x7 x8) (View.ld x2 r0_3) (View.ld x7 r0_4) (View.ld x8 r0_5) (ix2 q j) = gateB x0 x1 x2 x7 x8 q j := by
  rw [gate_at, View.ld_unit_zero (S := S32x1024) zero2, View.ld_unit_zero (S := S1x1024) zero2]
  refine congrArg (fun s => gate (s + x8 (ix2 (0 : Fin 1) j))) (Finset.sum_congr rfl fun k _ => congrArg (· * (x7 (ix2 k j) : EReal)) ?_)
  exact sum_at x0 x1 x2 x3 x4 x5 x6 x7 x8 4608 inb_S2048x4640_S2048x32_0_4608 q k

theorem out16_at (q : Fin 512) (l : Fin 512) : out0_16 x0 x1 x2 x3 x4 x5 x6 x7 x8 (ix2 q l) = gateB x0 x1 x2 x7 x8 q ⟨l.val, by omega⟩ := by
  let G : Vec Ideal S512x512 .f32 := fun i => (fun q l : Fin 512 => gateB x0 x1 x2 x7 x8 q ⟨l.val, by omega⟩) (i 0) (i 1)
  refine View.canon_apply_of_pieces (Val := Elt Ideal) (S := S512x512) G _
    (List.forall_mem_singleton.2 ?_) _ (cover0_16 _ _)
  refine piece_at G 0 inb_S512x512_S512x512_0_0 _ fun q j l hl => ?_
  refine (laf_at _ _ _ _ q j).trans
    ((gateB_at x0 x1 x2 x3 x4 x5 x6 x7 x8 q _).trans ?_)
  exact congrArg (gateB x0 x1 x2 x7 x8 q) (Fin.ext (by show j.val = l.val; omega))

theorem out17_at (q : Fin 512) (l : Fin 512) : out0_17 x0 x1 x2 x3 x4 x5 x6 x7 x8 (ix2 q l) = gateB x0 x1 x2 x7 x8 q ⟨512 + l.val, by omega⟩ := by
  let G : Vec Ideal S512x512 .f32 := fun i => (fun q l : Fin 512 => gateB x0 x1 x2 x7 x8 q ⟨512 + l.val, by omega⟩) (i 0) (i 1)
  refine View.canon_apply_of_pieces (Val := Elt Ideal) (S := S512x512) G _
    (List.forall_mem_singleton.2 ?_) _ (cover0_17 _ _)
  refine piece_at G 0 inb_S512x512_S512x512_0_0 _ fun q j l hl => ?_
  refine (lab_at _ _ _ _ q j).trans
    ((gateB_at x0 x1 x2 x3 x4 x5 x6 x7 x8 q _).trans ?_)
  exact congrArg (gateB x0 x1 x2 x7 x8 q) (Fin.ext (by show 512 + j.val = 512 + l.val; omega))

end

end Cert.InProof

end
-- ==== Proof.InHost.lean ====
/- The arrays the host hands the kernel, at an index: the tables of the angles, the gates' joined weights, and rows. -/
module

public import proofs.«01_k».proof.Proof.Gen.InIdeal.Frame
public import proofs.«01_k».proof.Proof.Gen.InIdeal
public import proofs.«01_k».proof.Proof.InSpec
public import Idealize.ShloMosaic.Lib.Pointwise
public import Idealize.ShloMosaic.Lib.IdealHost

@[expose] public section

set_option maxRecDepth 16384

noncomputable section

namespace Cert.InProof

open Idealize.ShloMosaic Idealize.ShloMosaic.TcCoe Idealize.SL.Sem
open Cert.InIdeal Cert.InIdeal.Gen Cert.InIdeal.Facts
open Cert.PleProof (bOf sOf SX SV)

/-- The frequencies, -/
def freqV : FVec Ideal S32 .f32 :=
  Host.powf (broadcastInDim S32 ![] bcast_S_S32 (constant S_ .f32 0x461C4000#32)) (Host.divf (Host.negf (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32)))

/-- and the angles of each place along an axis. -/
def angV : FVec Ideal S64x32 .f32 :=
  mulf (broadcastInDim S64x32 ![0, 1] bcast_S64x1_S64x32_0_1 (broadcastInDim S64x1 ![0] bcast_S64_S64x1_0 (sitofp .f32 (iotaInDim S64 32 0)))) (broadcastInDim S64x32 ![0, 1] bcast_S1x32_S64x32_0_1 (broadcastInDim S1x32 ![1] bcast_S32_S1x32_1 freqV))

def zeroV : FVec Ideal S64x32 .f32 := broadcastInDim S64x32 ![] bcast_S_S64x32 (constant S_ .f32 0x00000000#32)

/-- A table by position: two halves by row of the grid, and two by its column. -/
def spread (a b c d : FVec Ideal S64x32 .f32) : FVec Ideal S4096x128 .f32 :=
  shapeCast _ (addf (broadcastInDim S64x64x128 ![0, 1, 2] bcast_S64x1x128_S64x64x128_0_1_2 (broadcastInDim S64x1x128 ![0, 2] bcast_S64x128_S64x1x128_0_2 (concatenate S64x128 1 [⟨S64x32, a⟩, ⟨S64x32, b⟩, ⟨S64x32, zeroV⟩, ⟨S64x32, zeroV⟩] concatenates_S64x32_S64x32_S64x32_S64x32_S64x128_d1))) (broadcastInDim S64x64x128 ![0, 1, 2] bcast_S1x64x128_S64x64x128_0_1_2 (broadcastInDim S1x64x128 ![1, 2] bcast_S64x128_S1x64x128_1_2 (concatenate S64x128 1 [⟨S64x32, zeroV⟩, ⟨S64x32, zeroV⟩, ⟨S64x32, c⟩, ⟨S64x32, d⟩] concatenates_S64x32_S64x32_S64x32_S64x32_S64x128_d1)))) shapeCasts_S64x64x128_S4096x128

def cosTab : FVec Ideal S4096x128 .f32 := spread (Host.cos angV) (Host.cos angV) (Host.cos angV) (Host.cos angV)
def sinTab : FVec Ideal S4096x128 .f32 := spread (Host.negf (Host.sin angV)) (Host.sin angV) (Host.negf (Host.sin angV)) (Host.sin angV)

/-- The gates' weights, the two directions' on the diagonal, and their bias as a row. -/
def zeroU : FVec Ideal S16x512 .f32 := broadcastInDim S16x512 ![] bcast_S_S16x512 (constant S_ .f32 0x00000000#32)
def upV (a b : FVec Ideal S16x512 .f32) : FVec Ideal S32x1024 .f32 :=
  concatenate S32x1024 0 [⟨S16x1024, concatenate S16x1024 1 [⟨S16x512, a⟩, ⟨S16x512, zeroU⟩] concatenates_S16x512_S16x512_S16x1024_d1⟩, ⟨S16x1024, concatenate S16x1024 1 [⟨S16x512, zeroU⟩, ⟨S16x512, b⟩] concatenates_S16x512_S16x512_S16x1024_d1⟩] concatenates_S16x1024_S16x1024_S32x1024_d0
def biasV (a b : FVec Ideal S512 .f32) : FVec Ideal S1x1024 .f32 :=
  broadcastInDim S1x1024 ![1] bcast_S1024_S1x1024_1 (concatenate S1024 0 [⟨S512, a⟩, ⟨S512, b⟩] concatenates_S512_S512_S1024_d0)

theorem freqV_at (j : Fin 32) : freqV (ix1 j) = freq j.val := by
  pointwise [freqV, freq, num]
theorem angV_at (p : Fin 64) (j : Fin 32) : angV (ix2 p j) = num p.val * freq j.val := by
  pointwise [angV, num]
  rw [freqV_at]

/-- A table's entry is one of the four's: the others are nothing there. -/
theorem spread_at (a b c d : FVec Ideal S64x32 .f32) (r : Fin 4096) (e : Fin 128) : spread a b c d (ix2 r e)
    = if e.val < 64 then (if e.val % 64 < 32 then a else b) (ix2 (⟨r.val / 64, by omega⟩ : Fin 64) (⟨e.val % 32, by omega⟩ : Fin 32))
      else (if e.val % 64 < 32 then c else d) (ix2 (⟨r.val % 64, by omega⟩ : Fin 64) (⟨e.val % 32, by omega⟩ : Fin 32)) := by
  have he := e.isLt
  have key : spread a b c d (ix2 r e) =
      (if h : e.val < 32 then a (ix2 (⟨r.val / 64, by omega⟩ : Fin 64) (⟨e.val, h⟩ : Fin 32))
        else if h : e.val - 32 < 32 then b (ix2 (⟨r.val / 64, by omega⟩ : Fin 64) (⟨e.val - 32, h⟩ : Fin 32)) else 0)
      + (if h : e.val < 32 then 0 else if h : e.val - 32 < 32 then 0
        else if h : e.val - 32 - 32 < 32 then c (ix2 (⟨r.val % 64, by omega⟩ : Fin 64) (⟨e.val - 32 - 32, h⟩ : Fin 32))
        else d (ix2 (⟨r.val % 64, by omega⟩ : Fin 64) (⟨e.val - 32 - 32 - 32, by omega⟩ : Fin 32))) := by
    pointwise [spread, zeroV]
    simp only [dite_eq_ite, ite_self]
    rfl
  rw [key]
  by_cases h1 : e.val < 32
  · rw [dif_pos h1, dif_pos h1, add_zero, if_pos (by omega), if_pos (by omega)]
    exact congrArg (fun k => a (ix2 _ k)) (Fin.ext (by show e.val = e.val % 32; omega))
  · rw [dif_neg h1, dif_neg h1]
    by_cases h2 : e.val - 32 < 32
    · rw [dif_pos h2, dif_pos h2, add_zero, if_pos (by omega), if_neg (by omega)]
      exact congrArg (fun k => b (ix2 _ k)) (Fin.ext (by show e.val - 32 = e.val % 32; omega))
    · rw [dif_neg h2, dif_neg h2, zero_add]
      by_cases h3 : e.val - 32 - 32 < 32
      · rw [dif_pos h3, if_neg (by omega), if_pos (by omega)]
        exact congrArg (fun k => c (ix2 _ k)) (Fin.ext (by show e.val - 32 - 32 = e.val % 32; omega))
      · rw [dif_neg h3, if_neg (by omega), if_neg (by omega)]
        exact congrArg (fun k => d (ix2 _ k)) (Fin.ext (by show e.val - 32 - 32 - 32 = e.val % 32; omega))

theorem cosTab_at (r : Fin 4096) (e : Fin 128) : cosTab (ix2 r e) = Ideal.cos (angle r e) := by
  unfold cosTab angle
  rw [spread_at]
  simp only [ite_self]
  by_cases h : e.val < 64
  · rw [if_pos h, if_pos h]
    exact congrArg Ideal.cos (angV_at _ _)
  · rw [if_neg h, if_neg h]
    exact congrArg Ideal.cos (angV_at _ _)

theorem sinTab_at (r : Fin 4096) (e : Fin 128) :
    sinTab (ix2 r e) = if e.val % 64 < 32 then -Ideal.sin (angle r e) else Ideal.sin (angle r e) := by
  unfold sinTab angle
  rw [spread_at]
  by_cases h : e.val < 64
  · rw [if_pos h, if_pos h]
    split
    · exact congrArg (fun a : EReal => -Ideal.sin a) (angV_at _ _)
    · exact congrArg Ideal.sin (angV_at _ _)
  · rw [if_neg h, if_neg h]
    split
    · exact congrArg (fun a : EReal => -Ideal.sin a) (angV_at _ _)
    · exact congrArg Ideal.sin (angV_at _ _)

/-- The joined weights: a direction's columns meet its own rows alone. -/
theorem upV_at (a b : FVec Ideal S16x512 .f32) (k : Fin 32) (j : Fin 1024) : upV a b (ix2 k j)
    = if h : k.val < 16 then (if g : j.val < 512 then a (ix2 ⟨k.val, h⟩ ⟨j.val, g⟩) else 0)
      else (if g : j.val < 512 then 0 else b (ix2 ⟨k.val - 16, by omega⟩ ⟨j.val - 512, by omega⟩)) := by
  pointwise [upV, zeroU]

/-- A sum of thirty-two is two of sixteen. -/
theorem sum_split (f : Fin 32 → EReal) :
    ∑ k : Fin 32, f k = (∑ k : Fin 16, f ⟨k.val, by omega⟩) + ∑ k : Fin 16, f ⟨16 + k.val, by omega⟩ :=
  Fin.sum_univ_add (a := 16) (b := 16) f

theorem up_lo (a b : FVec Ideal S16x512 .f32) (v : Fin 32 → EReal) (l : Fin 512) :
    ∑ k : Fin 32, v k * upV a b (ix2 k (⟨l.val, by omega⟩ : Fin 1024)) = ∑ k : Fin 16, v ⟨k.val, by omega⟩ * a (ix2 k l) := by
  rw [sum_split]
  refine (congrArg (_ + ·) (Finset.sum_eq_zero fun k _ => ?_)).trans ((add_zero _).trans (Finset.sum_congr rfl fun k _ => ?_))
  · rw [upV_at, dif_neg (by show ¬ 16 + k.val < 16; omega), dif_pos l.isLt, mul_zero]
  · rw [upV_at, dif_pos k.isLt, dif_pos l.isLt]

theorem up_hi (a b : FVec Ideal S16x512 .f32) (v : Fin 32 → EReal) (l : Fin 512) :
    ∑ k : Fin 32, v k * upV a b (ix2 k (⟨512 + l.val, by omega⟩ : Fin 1024)) = ∑ k : Fin 16, v ⟨16 + k.val, by omega⟩ * b (ix2 k l) := by
  have hl : ¬ 512 + l.val < 512 := by omega
  rw [sum_split]
  refine (congrArg (· + _) (Finset.sum_eq_zero fun k _ => ?_)).trans ((zero_add _).trans (Finset.sum_congr rfl fun k _ => ?_))
  swap
  · rw [upV_at, dif_neg (by show ¬ 16 + k.val < 16; omega), dif_neg hl]
    exact congrArg₂ (fun p q => v _ * b (ix2 p q)) (Fin.ext (by show 16 + k.val - 16 = k.val; omega)) (Fin.ext (by show 512 + l.val - 512 = l.val; omega))
  · rw [upV_at, dif_pos k.isLt, dif_neg hl, mul_zero]

theorem bias_lo (a b : FVec Ideal S512 .f32) (l : Fin 512) : biasV a b (ix2 (0 : Fin 1) (⟨l.val, by omega⟩ : Fin 1024)) = a (ix1 l) := by
  pointwise [biasV]
theorem bias_hi (a b : FVec Ideal S512 .f32) (l : Fin 512) : biasV a b (ix2 (0 : Fin 1) (⟨512 + l.val, by omega⟩ : Fin 1024)) = b (ix1 l) := by
  have hl : ¬ 512 + l.val < 512 := by omega
  pointwise [biasV]

/-- Rows of the inputs, and gains as rows. -/
def rowsX (x : FVec Ideal S4x4096x2048 .f32) : FVec Ideal S16384x2048 .f32 := shapeCast _ x shapeCasts_S4x4096x2048_S16384x2048
def gainX (g : FVec Ideal S2048 .f32) : FVec Ideal S1x2048 .f32 := broadcastInDim S1x2048 ![1] bcast_S2048_S1x2048_1 g
def gainH (g : FVec Ideal S128 .f32) : FVec Ideal S1x128 .f32 := broadcastInDim S1x128 ![1] bcast_S128_S1x128_1 g

theorem rowsX_at (x : FVec Ideal S4x4096x2048 .f32) (r : Fin 16384) (d : Fin 2048) :
    rowsX x (ix2 r d) = x (ix3 (bOf r) (sOf r) d) := by
  pointwise [rowsX, bOf, sOf]
theorem gainX_at (g : FVec Ideal S2048 .f32) (d : Fin 2048) : gainX g (ix2 (0 : Fin 1) d) = g (ix1 d) := by
  pointwise [gainX]
theorem gainH_at (g : FVec Ideal S128 .f32) (d : Fin 128) : gainH g (ix2 (0 : Fin 1) d) = g (ix1 d) := by
  pointwise [gainH]

/-! ## What the host leaves before the kernel -/

variable (m : (ℓ : Loc nD τ sig) → Buf (Elt Ideal) ℓ)

/-- The arguments of a device. -/
def A0 (c : Dev nD) : SX.Idx → EReal := m ((c.tc : Thread nD τ).loc main_arg0)
def A1 (c : Dev nD) : SV.Idx → EReal := m ((c.tc : Thread nD τ).loc main_arg1)
def A2 (c : Dev nD) : SW.Idx → EReal := m ((c.tc : Thread nD τ).loc main_arg2)
def A3 (c : Dev nD) : SG.Idx → EReal := m ((c.tc : Thread nD τ).loc main_arg3)
def A4 (c : Dev nD) : SG.Idx → EReal := m ((c.tc : Thread nD τ).loc main_arg4)
def A5 (c : Dev nD) : SU.Idx → EReal := m ((c.tc : Thread nD τ).loc main_arg5)
def A6 (c : Dev nD) : SB.Idx → EReal := m ((c.tc : Thread nD τ).loc main_arg6)
def A7 (c : Dev nD) : SU.Idx → EReal := m ((c.tc : Thread nD τ).loc main_arg7)
def A8 (c : Dev nD) : SB.Idx → EReal := m ((c.tc : Thread nD τ).loc main_arg8)

theorem VX (c : Dev nD) : V m c main_v54 = rowsX (A0 m c) := by
  unfold V
  after_results <;> rfl
theorem VG (c : Dev nD) : V m c main_v55 = gainX (A1 m c) := by
  unfold V
  after_results <;> rfl
theorem VW (c : Dev nD) : V m c main_v56 = A2 m c := by
  unfold V
  after_results <;> rfl
theorem VGq (c : Dev nD) : V m c main_v57 = gainH (A3 m c) := by
  unfold V
  after_results <;> rfl
theorem VGk (c : Dev nD) : V m c main_v58 = gainH (A4 m c) := by
  unfold V
  after_results <;> rfl
theorem VC (c : Dev nD) : V m c main_v39 = cosTab := by
  unfold V
  after_results <;> rfl
theorem VS (c : Dev nD) : V m c main_v53 = sinTab := by
  unfold V
  after_results <;> rfl
theorem VU (c : Dev nD) : V m c main_v59 = upV (A5 m c) (A7 m c) := by
  unfold V
  after_results <;> rfl
theorem VB (c : Dev nD) : V m c main_v61 = biasV (A6 m c) (A8 m c) := by
  unfold V
  after_results <;> rfl

end Cert.InProof

end
-- ==== Proof.InValue.lean ====
/- The projection's value: every result array after the run, as a function of the arguments. -/
module

public import proofs.«01_k».proof.Proof.InBlk
public import proofs.«01_k».proof.Proof.InHost

@[expose] public section

set_option maxRecDepth 16384

noncomputable section

namespace Cert.InProof

open Idealize.ShloMosaic Idealize.ShloMosaic.TcCoe Idealize.SL.Sem
open Cert.InIdeal Cert.InIdeal.Gen Cert.InIdeal.Facts
open Cert.PleProof (bOf sOf SX SV)

/-! ## Where a block's entries lie -/

theorem tlt (t : Fin cfg0.N) : t.val < 32 := t.isLt

/-- Row `q` of point `t`'s block. -/
def rowAt (t : Fin cfg0.N) (q : Fin 512) : Fin 16384 := ⟨t.val * 512 + q.val, by have := tlt t; omega⟩

/-- An entry of a block is the array's, shifted by the block's place. -/
theorem rect_emb {M N a b : Nat} (f : (⟨2, ![a, b]⟩ : Shape).Idx → (⟨2, ![M, N]⟩ : Shape).Idx) (i0 i1 : Nat)
    (h0 : ∀ y, (f y 0).val = i0 * a + 1 * (y 0).val) (h1 : ∀ y, (f y 1).val = i1 * b + 1 * (y 1).val)
    (p : Fin a) (q : Fin b) (p' : Fin M) (q' : Fin N) (hp : i0 * a + p.val = p'.val) (hq : i1 * b + q.val = q'.val) :
    f (ix2 p q) = ix2 p' q' := by
  funext k
  apply Fin.ext
  match k with
  | ⟨0, _⟩ => exact (h0 (ix2 p q)).trans (by show i0 * a + 1 * p.val = p'.val; omega)
  | ⟨1, _⟩ => exact (h1 (ix2 p q)).trans (by show i1 * b + 1 * q.val = q'.val; omega)

/-- A window of whole rows, a block of 512 of them for each point: where its entries lie, -/
theorem rows_emb {N : Nat} (t : Fin cfg0.N) (f : (⟨2, ![512, N]⟩ : Shape).Idx → (⟨2, ![16384, N]⟩ : Shape).Idx) (i0 i1 : Nat)
    (hi : i0 = t.val ∧ i1 = 0)
    (h0 : ∀ y, (f y 0).val = i0 * 512 + 1 * (y 0).val) (h1 : ∀ y, (f y 1).val = i1 * N + 1 * (y 1).val)
    (q : Fin 512) (l : Fin N) : f (ix2 q l) = ix2 (rowAt t q) l := by
  obtain ⟨rfl, rfl⟩ := hi
  exact rect_emb f _ _ h0 h1 q l _ _ rfl (by omega)

/-- and every entry of the array is in some block. -/
theorem rows_cover {N : Nat} (f : Fin cfg0.N → (⟨2, ![512, N]⟩ : Shape).Idx → (⟨2, ![16384, N]⟩ : Shape).Idx)
    (hf : ∀ t q l, f t (ix2 q l) = ix2 (rowAt t q) l) (i : (⟨2, ![16384, N]⟩ : Shape).Idx) : ∃ t y, f t y = i := by
  have hr : (i 0).val < 16384 := (i 0).isLt
  have ht : (i 0).val / 512 < 32 := by omega
  refine ⟨⟨(i 0).val / 512, ht⟩, ix2 (⟨(i 0).val % 512, by omega⟩ : Fin 512) (i 1 : Fin N), (hf _ _ _).trans ?_⟩
  funext a
  apply Fin.ext
  match a with
  | ⟨0, _⟩ => show (i 0).val / 512 * 512 + (i 0).val % 512 = (i 0).val; omega
  | ⟨1, _⟩ => rfl

/-- A window that is the whole array. -/
theorem whole_emb {M N : Nat} (f : (⟨2, ![M, N]⟩ : Shape).Idx → (⟨2, ![M, N]⟩ : Shape).Idx) (i0 i1 : Nat) (hi : i0 = 0 ∧ i1 = 0)
    (h0 : ∀ y, (f y 0).val = i0 * M + 1 * (y 0).val) (h1 : ∀ y, (f y 1).val = i1 * N + 1 * (y 1).val)
    (p : Fin M) (q : Fin N) : f (ix2 p q) = ix2 p q := by
  obtain ⟨rfl, rfl⟩ := hi
  exact rect_emb f _ _ h0 h1 p q _ _ (by omega) (by omega)

theorem ix_5 (t : Fin cfg0.N) : win0_5.index t (0 : Fin 2) = t.val % 8 ∧ win0_5.index t (1 : Fin 2) = 0 :=
  (by decide +kernel : ∀ t : Fin grid0.N, win0_5.index t (0 : Fin 2) = t.val % 8 ∧ win0_5.index t (1 : Fin 2) = 0) t
theorem ix_6 (t : Fin cfg0.N) : win0_6.index t (0 : Fin 2) = t.val % 8 ∧ win0_6.index t (1 : Fin 2) = 0 :=
  (by decide +kernel : ∀ t : Fin grid0.N, win0_6.index t (0 : Fin 2) = t.val % 8 ∧ win0_6.index t (1 : Fin 2) = 0) t

/-- The windows that are whole arrays, -/
theorem ix_whole (t : Fin cfg0.N) :
    (win0_1.index t (0 : Fin 2) = 0 ∧ win0_1.index t (1 : Fin 2) = 0) ∧ (win0_2.index t (0 : Fin 2) = 0 ∧ win0_2.index t (1 : Fin 2) = 0)
      ∧ (win0_3.index t (0 : Fin 2) = 0 ∧ win0_3.index t (1 : Fin 2) = 0) ∧ (win0_4.index t (0 : Fin 2) = 0 ∧ win0_4.index t (1 : Fin 2) = 0)
      ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N,
    (win0_1.index t (0 : Fin 2) = 0 ∧ win0_1.index t (1 : Fin 2) = 0) ∧ (win0_2.index t (0 : Fin 2) = 0 ∧ win0_2.index t (1 : Fin 2) = 0)
      ∧ (win0_3.index t (0 : Fin 2) = 0 ∧ win0_3.index t (1 : Fin 2) = 0) ∧ (win0_4.index t (0 : Fin 2) = 0 ∧ win0_4.index t (1 : Fin 2) = 0)
      ∧ (win0_7.index t (0 : Fin 2) = 0 ∧ win0_7.index t (1 : Fin 2) = 0) ∧ (win0_8.index t (0 : Fin 2) = 0 ∧ win0_8.index t (1 : Fin 2) = 0)) t

/-- and the windows of rows. -/
theorem ix_rows (t : Fin cfg0.N) :
    (win0_0.index t (0 : Fin 2) = t.val ∧ win0_0.index t (1 : Fin 2) = 0) ∧ (win0_9.index t (0 : Fin 2) = t.val ∧ win0_9.index t (1 : Fin 2) = 0)
      ∧ (win0_10.index t (0 : Fin 2) = t.val ∧ win0_10.index t (1 : Fin 2) = 0) ∧ (win0_11.index t (0 : Fin 2) = t.val ∧ win0_11.index t (1 : Fin 2) = 0)
      ∧ (win0_12.index t (0 : Fin 2) = t.val ∧ win0_12.index t (1 : Fin 2) = 0) ∧ (win0_13.index t (0 : Fin 2) = t.val ∧ win0_13.index t (1 : Fin 2) = 0)
      ∧ (win0_14.index t (0 : Fin 2) = t.val ∧ win0_14.index t (1 : Fin 2) = 0) ∧ (win0_15.index t (0 : Fin 2) = t.val ∧ win0_15.index t (1 : Fin 2) = 0)
      ∧ (win0_16.index t (0 : Fin 2) = t.val ∧ win0_16.index t (1 : Fin 2) = 0) ∧ (win0_17.index t (0 : Fin 2) = t.val ∧ win0_17.index t (1 : Fin 2) = 0) :=
  (by decide +kernel : ∀ t : Fin grid0.N,
    (win0_0.index t (0 : Fin 2) = t.val ∧ win0_0.index t (1 : Fin 2) = 0) ∧ (win0_9.index t (0 : Fin 2) = t.val ∧ win0_9.index t (1 : Fin 2) = 0)
      ∧ (win0_10.index t (0 : Fin 2) = t.val ∧ win0_10.index t (1 : Fin 2) = 0) ∧ (win0_11.index t (0 : Fin 2) = t.val ∧ win0_11.index t (1 : Fin 2) = 0)
      ∧ (win0_12.index t (0 : Fin 2) = t.val ∧ win0_12.index t (1 : Fin 2) = 0) ∧ (win0_13.index t (0 : Fin 2) = t.val ∧ win0_13.index t (1 : Fin 2) = 0)
      ∧ (win0_14.index t (0 : Fin 2) = t.val ∧ win0_14.index t (1 : Fin 2) = 0) ∧ (win0_15.index t (0 : Fin 2) = t.val ∧ win0_15.index t (1 : Fin 2) = 0)
      ∧ (win0_16.index t (0 : Fin 2) = t.val ∧ win0_16.index t (1 : Fin 2) = 0) ∧ (win0_17.index t (0 : Fin 2) = t.val ∧ win0_17.index t (1 : Fin 2) = 0)) t

theorem emb_0 (t : Fin cfg0.N) (q : Fin 512) (l : Fin 2048) : ((cfg0.win 0).blk t).view.emb (ix2 q l) = ix2 (rowAt t q) l :=
  rows_emb t _ (win0_0.index t (0 : Fin 2)) (win0_0.index t (1 : Fin 2)) (ix_rows t).1 (fun _ => rfl) (fun _ => rfl) q l
theorem emb_1 (t : Fin cfg0.N) (q : Fin 1) (l : Fin 2048) : ((cfg0.win 1).blk t).view.emb (ix2 q l) = ix2 q l :=
  whole_emb _ (win0_1.index t (0 : Fin 2)) (win0_1.index t (1 : Fin 2)) (ix_whole t).1 (fun _ => rfl) (fun _ => rfl) q l
theorem emb_2 (t : Fin cfg0.N) (q : Fin 2048) (l : Fin 4640) : ((cfg0.win 2).blk t).view.emb (ix2 q l) = ix2 q l :=
  whole_emb _ (win0_2.index t (0 : Fin 2)) (win0_2.index t (1 : Fin 2)) (ix_whole t).2.1 (fun _ => rfl) (fun _ => rfl) q l
theorem emb_3 (t : Fin cfg0.N) (q : Fin 1) (l : Fin 128) : ((cfg0.win 3).blk t).view.emb (ix2 q l) = ix2 q l :=
  whole_emb _ (win0_3.index t (0 : Fin 2)) (win0_3.index t (1 : Fin 2)) (ix_whole t).2.2.1 (fun _ => rfl) (fun _ => rfl) q l
theorem emb_4 (t : Fin cfg0.N) (q : Fin 1) (l : Fin 128) : ((cfg0.win 4).blk t).view.emb (ix2 q l) = ix2 q l :=
  whole_emb _ (win0_4.index t (0 : Fin 2)) (win0_4.index t (1 : Fin 2)) (ix_whole t).2.2.2.1 (fun _ => rfl) (fun _ => rfl) q l
theorem emb_5 (t : Fin cfg0.N) (q : Fin 512) (l : Fin 128) : ((cfg0.win 5).blk t).view.emb (ix2 q l) = ix2 (sOf (rowAt t q)) l :=
  rect_emb _ (win0_5.index t (0 : Fin 2)) (win0_5.index t (1 : Fin 2)) (fun _ => rfl) (fun _ => rfl) q l _ _
    (by rw [(ix_5 t).1]; have := tlt t; show t.val % 8 * 512 + q.val = (t.val * 512 + q.val) % 4096; omega) (by rw [(ix_5 t).2]; omega)
theorem emb_6 (t : Fin cfg0.N) (q : Fin 512) (l : Fin 128) : ((cfg0.win 6).blk t).view.emb (ix2 q l) = ix2 (sOf (rowAt t q)) l :=
  rect_emb _ (win0_6.index t (0 : Fin 2)) (win0_6.index t (1 : Fin 2)) (fun _ => rfl) (fun _ => rfl) q l _ _
    (by rw [(ix_6 t).1]; have := tlt t; show t.val % 8 * 512 + q.val = (t.val * 512 + q.val) % 4096; omega) (by rw [(ix_6 t).2]; omega)
theorem emb_7 (t : Fin cfg0.N) (q : Fin 32) (l : Fin 1024) : ((cfg0.win 7).blk t).view.emb (ix2 q l) = ix2 q l :=
  whole_emb _ (win0_7.index t (0 : Fin 2)) (win0_7.index t (1 : Fin 2)) (ix_whole t).2.2.2.2.1 (fun _ => rfl) (fun _ => rfl) q l
theorem emb_8 (t : Fin cfg0.N) (q : Fin 1) (l : Fin 1024) : ((cfg0.win 8).blk t).view.emb (ix2 q l) = ix2 q l :=
  whole_emb _ (win0_8.index t (0 : Fin 2)) (win0_8.index t (1 : Fin 2)) (ix_whole t).2.2.2.2.2 (fun _ => rfl) (fun _ => rfl) q l
theorem emb_9 (t : Fin cfg0.N) (q : Fin 512) (l : Fin 1024) : ((cfg0.win 9).blk t).view.emb (ix2 q l) = ix2 (rowAt t q) l :=
  rows_emb t _ (win0_9.index t (0 : Fin 2)) (win0_9.index t (1 : Fin 2)) (ix_rows t).2.1 (fun _ => rfl) (fun _ => rfl) q l
theorem emb_10 (t : Fin cfg0.N) (q : Fin 512) (l : Fin 256) : ((cfg0.win 10).blk t).view.emb (ix2 q l) = ix2 (rowAt t q) l :=
  rows_emb t _ (win0_10.index t (0 : Fin 2)) (win0_10.index t (1 : Fin 2)) (ix_rows t).2.2.1 (fun _ => rfl) (fun _ => rfl) q l
theorem emb_11 (t : Fin cfg0.N) (q : Fin 512) (l : Fin 256) : ((cfg0.win 11).blk t).view.emb (ix2 q l) = ix2 (rowAt t q) l :=
  rows_emb t _ (win0_11.index t (0 : Fin 2)) (win0_11.index t (1 : Fin 2)) (ix_rows t).2.2.2.1 (fun _ => rfl) (fun _ => rfl) q l
theorem emb_12 (t : Fin cfg0.N) (q : Fin 512) (l : Fin 512) : ((cfg0.win 12).blk t).view.emb (ix2 q l) = ix2 (rowAt t q) l :=
  rows_emb t _ (win0_12.index t (0 : Fin 2)) (win0_12.index t (1 : Fin 2)) (ix_rows t).2.2.2.2.1 (fun _ => rfl) (fun _ => rfl) q l
theorem emb_13 (t : Fin cfg0.N) (q : Fin 512) (l : Fin 512) : ((cfg0.win 13).blk t).view.emb (ix2 q l) = ix2 (rowAt t q) l :=
  rows_emb t _ (win0_13.index t (0 : Fin 2)) (win0_13.index t (1 : Fin 2)) (ix_rows t).2.2.2.2.2.1 (fun _ => rfl) (fun _ => rfl) q l
theorem emb_14 (t : Fin cfg0.N) (q : Fin 512) (l : Fin 1024) : ((cfg0.win 14).blk t).view.emb (ix2 q l) = ix2 (rowAt t q) l :=
  rows_emb t _ (win0_14.index t (0 : Fin 2)) (win0_14.index t (1 : Fin 2)) (ix_rows t).2.2.2.2.2.2.1 (fun _ => rfl) (fun _ => rfl) q l
theorem emb_15 (t : Fin cfg0.N) (q : Fin 512) (l : Fin 1024) : ((cfg0.win 15).blk t).view.emb (ix2 q l) = ix2 (rowAt t q) l :=
  rows_emb t _ (win0_15.index t (0 : Fin 2)) (win0_15.index t (1 : Fin 2)) (ix_rows t).2.2.2.2.2.2.2.1 (fun _ => rfl) (fun _ => rfl) q l
theorem emb_16 (t : Fin cfg0.N) (q : Fin 512) (l : Fin 512) : ((cfg0.win 16).blk t).view.emb (ix2 q l) = ix2 (rowAt t q) l :=
  rows_emb t _ (win0_16.index t (0 : Fin 2)) (win0_16.index t (1 : Fin 2)) (ix_rows t).2.2.2.2.2.2.2.2.1 (fun _ => rfl) (fun _ => rfl) q l
theorem emb_17 (t : Fin cfg0.N) (q : Fin 512) (l : Fin 512) : ((cfg0.win 17).blk t).view.emb (ix2 q l) = ix2 (rowAt t q) l :=
  rows_emb t _ (win0_17.index t (0 : Fin 2)) (win0_17.index t (1 : Fin 2)) (ix_rows t).2.2.2.2.2.2.2.2.2 (fun _ => rfl) (fun _ => rfl) q l

/-! ## The blocks -/

variable (m : (ℓ : Loc nD τ sig) → Buf (Elt Ideal) ℓ)

theorem blk0_at (c : Dev nD) (t : Fin cfg0.N) (q : Fin 512) (d : Fin 2048) :
    iblk m c 0 t (ix2 q d) = A0 m c (ix3 (bOf (rowAt t q)) (sOf (rowAt t q)) d) := by
  show V m c main_v54 (((cfg0.win 0).blk t).view.emb (ix2 q d)) = _
  rw [VX, emb_0]; exact rowsX_at _ _ _
theorem blk1_at (c : Dev nD) (t : Fin cfg0.N) (d : Fin 2048) : iblk m c 1 t (ix2 (0 : Fin 1) d) = A1 m c (ix1 d) := by
  show V m c main_v55 (((cfg0.win 1).blk t).view.emb (ix2 (0 : Fin 1) d)) = _
  rw [VG, emb_1]; exact gainX_at _ _
theorem blk2_at (c : Dev nD) (t : Fin cfg0.N) (d : Fin 2048) (k : Fin 4640) : iblk m c 2 t (ix2 d k) = A2 m c (ix2 d k) := by
  show V m c main_v56 (((cfg0.win 2).blk t).view.emb (ix2 d k)) = _
  rw [VW, emb_2]
theorem blk3_at (c : Dev nD) (t : Fin cfg0.N) (d : Fin 128) : iblk m c 3 t (ix2 (0 : Fin 1) d) = A3 m c (ix1 d) := by
  show V m c main_v57 (((cfg0.win 3).blk t).view.emb (ix2 (0 : Fin 1) d)) = _
  rw [VGq, emb_3]; exact gainH_at _ _
theorem blk4_at (c : Dev nD) (t : Fin cfg0.N) (d : Fin 128) : iblk m c 4 t (ix2 (0 : Fin 1) d) = A4 m c (ix1 d) := by
  show V m c main_v58 (((cfg0.win 4).blk t).view.emb (ix2 (0 : Fin 1) d)) = _
  rw [VGk, emb_4]; exact gainH_at _ _
theorem blk5_at (c : Dev nD) (t : Fin cfg0.N) (q : Fin 512) (e : Fin 128) : iblk m c 5 t (ix2 q e) = Ideal.cos (angle (sOf (rowAt t q)) e) := by
  show V m c main_v39 (((cfg0.win 5).blk t).view.emb (ix2 q e)) = _
  rw [VC, emb_5]; exact cosTab_at _ _
theorem blk6_at (c : Dev nD) (t : Fin cfg0.N) (q : Fin 512) (e : Fin 128) : iblk m c 6 t (ix2 q e)
    = if e.val % 64 < 32 then -Ideal.sin (angle (sOf (rowAt t q)) e) else Ideal.sin (angle (sOf (rowAt t q)) e) := by
  show V m c main_v53 (((cfg0.win 6).blk t).view.emb (ix2 q e)) = _
  rw [VS, emb_6]; exact sinTab_at _ _
theorem blk7_at (c : Dev nD) (t : Fin cfg0.N) (k : Fin 32) (j : Fin 1024) : iblk m c 7 t (ix2 k j) = upV (A5 m c) (A7 m c) (ix2 k j) := by
  show V m c main_v59 (((cfg0.win 7).blk t).view.emb (ix2 k j)) = _
  rw [VU, emb_7]
theorem blk8_at (c : Dev nD) (t : Fin cfg0.N) (j : Fin 1024) : iblk m c 8 t (ix2 (0 : Fin 1) j) = biasV (A6 m c) (A8 m c) (ix2 (0 : Fin 1) j) := by
  show V m c main_v61 (((cfg0.win 8).blk t).view.emb (ix2 (0 : Fin 1) j)) = _
  rw [VB, emb_8]

theorem zRow_congr {x x' g g' : Fin 2048 → EReal} {w w' : Fin 2048 → Fin 4640 → EReal} (hx : ∀ d, x d = x' d) (hg : ∀ d, g d = g' d)
    (hw : ∀ d k, w d k = w' d k) : zRow x g w = zRow x' g' w' := by
  obtain rfl := funext hx
  obtain rfl := funext hg
  obtain rfl := funext fun d => funext (hw d)
  rfl

/-- A device's rows times the weights. -/
def Z (c : Dev nD) : Fin 16384 → Fin 4640 → EReal := zAt (A0 m c) (A1 m c) (A2 m c)

theorem z_at (c : Dev nD) (t : Fin cfg0.N) (q : Fin 512) : zB (iblk m c 0 t) (iblk m c 1 t) (iblk m c 2 t) q = Z m c (rowAt t q) :=
  zRow_congr (blk0_at m c t q) (blk1_at m c t) (blk2_at m c t)

theorem gate_lo (c : Dev nD) (t : Fin cfg0.N) (q l : Fin 512) :
    gateB (iblk m c 0 t) (iblk m c 1 t) (iblk m c 2 t) (iblk m c 7 t) (iblk m c 8 t) q ⟨l.val, by omega⟩
      = rowGate 4608 (Z m c (rowAt t q)) (fun k l => A5 m c (ix2 k l)) (fun l => A6 m c (ix1 l)) l := by
  unfold gateB rowGate
  rw [z_at, blk8_at, bias_lo]
  refine congrArg (fun s => gate (s + A6 m c (ix1 l))) (Eq.trans (Finset.sum_congr rfl fun k _ => ?_)
    (up_lo (A5 m c) (A7 m c) (fun k => Z m c (rowAt t q) (col (4608 + k.val))) l))
  rw [blk7_at]

theorem gate_hi (c : Dev nD) (t : Fin cfg0.N) (q l : Fin 512) :
    gateB (iblk m c 0 t) (iblk m c 1 t) (iblk m c 2 t) (iblk m c 7 t) (iblk m c 8 t) q ⟨512 + l.val, by omega⟩
      = rowGate 4624 (Z m c (rowAt t q)) (fun k l => A7 m c (ix2 k l)) (fun l => A8 m c (ix1 l)) l := by
  unfold gateB rowGate
  rw [z_at, blk8_at, bias_hi]
  refine congrArg (fun s => gate (s + A8 m c (ix1 l))) (Eq.trans (Finset.sum_congr rfl fun k _ => ?_)
    ((up_hi (A5 m c) (A7 m c) (fun k => Z m c (rowAt t q) (col (4608 + k.val))) l).trans (Finset.sum_congr rfl fun k _ => ?_)))
  · rw [blk7_at]
  · exact congrArg (fun j => Z m c (rowAt t q) (col j) * A7 m c (ix2 k l)) (by show 4608 + (16 + k.val) = 4624 + k.val; omega)

/-! ## The results -/

def RQ (c : Dev nD) : S1K.Idx → EReal := resQ (A0 m c) (A1 m c) (A2 m c) (A3 m c)
def RK (c : Dev nD) : S2H.Idx → EReal := resK (A0 m c) (A1 m c) (A2 m c) (A4 m c)
def RV (c : Dev nD) : S2H.Idx → EReal := resV (A0 m c) (A1 m c) (A2 m c)
def RQg (c : Dev nD) : S5H.Idx → EReal := resQg (A0 m c) (A1 m c) (A2 m c)
def RKg (c : Dev nD) : S5H.Idx → EReal := resKg (A0 m c) (A1 m c) (A2 m c)
def RVg (c : Dev nD) : S1K.Idx → EReal := resVg (A0 m c) (A1 m c) (A2 m c)
def ROg (c : Dev nD) : S1K.Idx → EReal := resOg (A0 m c) (A1 m c) (A2 m c)
def RF (c : Dev nD) : S5H.Idx → EReal := resF (A0 m c) (A1 m c) (A2 m c) (A5 m c) (A6 m c)
def RB (c : Dev nD) : S5H.Idx → EReal := resB (A0 m c) (A1 m c) (A2 m c) (A7 m c) (A8 m c)

/-- A result array after the run: its blocks hold its rows, and they cover it. -/
theorem final9 (c : Dev nD) : (dats m 0 c).arrAt 9 cfg0.N = RQ m c := by
  refine (dats m 0 c).arrAt_eq_of_cover 9 (RQ m c) (fun t hf => ?_) fun i => ?_
  · show (dats m 0 c).after 9 t = _
    rw [after0_9]
    funext i
    rw [show i = ix2 (i 0 : Fin 512) (i 1 : Fin 1024) from eq_ix2 i]
    refine (out9_at _ _ _ _ _ _ _ _ _ (fun q => angle (sOf (rowAt t q))) (blk5_at m c t) (blk6_at m c t) _ _).trans
      (Eq.trans ?_ (congrArg (RQ m c) (emb_9 t _ _)).symm)
    exact congrArg₂ (fun z g => rowQ z g (angle (sOf (rowAt t (i 0)))) (i 1)) (z_at m c t _) (funext (blk3_at m c t))
  · obtain ⟨t, y, e⟩ := rows_cover (fun t => ((cfg0.win 9).blk t).view.emb) emb_9 i
    exact ⟨t, flush0_9 _, e ▸ ((cfg0.win 9).blk t).view.emb_mem_set y⟩

theorem final10 (c : Dev nD) : (dats m 0 c).arrAt 10 cfg0.N = RK m c := by
  refine (dats m 0 c).arrAt_eq_of_cover 10 (RK m c) (fun t hf => ?_) fun i => ?_
  · show (dats m 0 c).after 10 t = _
    rw [after0_10]
    funext i
    rw [show i = ix2 (i 0 : Fin 512) (i 1 : Fin 256) from eq_ix2 i]
    refine (out10_at _ _ _ _ _ _ _ _ _ (fun q => angle (sOf (rowAt t q))) (blk5_at m c t) (blk6_at m c t) _ _).trans
      (Eq.trans ?_ (congrArg (RK m c) (emb_10 t _ _)).symm)
    exact congrArg₂ (fun z g => rowK z g (angle (sOf (rowAt t (i 0)))) (i 1)) (z_at m c t _) (funext (blk4_at m c t))
  · obtain ⟨t, y, e⟩ := rows_cover (fun t => ((cfg0.win 10).blk t).view.emb) emb_10 i
    exact ⟨t, flush0_10 _, e ▸ ((cfg0.win 10).blk t).view.emb_mem_set y⟩

theorem final11 (c : Dev nD) : (dats m 0 c).arrAt 11 cfg0.N = RV m c := by
  refine (dats m 0 c).arrAt_eq_of_cover 11 (RV m c) (fun t hf => ?_) fun i => ?_
  · show (dats m 0 c).after 11 t = _
    rw [after0_11]
    funext i
    rw [show i = ix2 (i 0 : Fin 512) (i 1 : Fin 256) from eq_ix2 i]
    exact (out11_at _ _ _ _ _ _ _ _ _ _ _).trans ((congrArg (rowV · _) (z_at m c t _)).trans (congrArg (RV m c) (emb_11 t _ _)).symm)
  · obtain ⟨t, y, e⟩ := rows_cover (fun t => ((cfg0.win 11).blk t).view.emb) emb_11 i
    exact ⟨t, flush0_11 _, e ▸ ((cfg0.win 11).blk t).view.emb_mem_set y⟩

theorem final12 (c : Dev nD) : (dats m 0 c).arrAt 12 cfg0.N = RQg m c := by
  refine (dats m 0 c).arrAt_eq_of_cover 12 (RQg m c) (fun t hf => ?_) fun i => ?_
  · show (dats m 0 c).after 12 t = _
    rw [after0_12]
    funext i
    rw [show i = ix2 (i 0 : Fin 512) (i 1 : Fin 512) from eq_ix2 i]
    exact (out12_at _ _ _ _ _ _ _ _ _ _ _).trans ((congrArg (rowQg · _) (z_at m c t _)).trans (congrArg (RQg m c) (emb_12 t _ _)).symm)
  · obtain ⟨t, y, e⟩ := rows_cover (fun t => ((cfg0.win 12).blk t).view.emb) emb_12 i
    exact ⟨t, flush0_12 _, e ▸ ((cfg0.win 12).blk t).view.emb_mem_set y⟩

theorem final13 (c : Dev nD) : (dats m 0 c).arrAt 13 cfg0.N = RKg m c := by
  refine (dats m 0 c).arrAt_eq_of_cover 13 (RKg m c) (fun t hf => ?_) fun i => ?_
  · show (dats m 0 c).after 13 t = _
    rw [after0_13]
    funext i
    rw [show i = ix2 (i 0 : Fin 512) (i 1 : Fin 512) from eq_ix2 i]
    exact (out13_at _ _ _ _ _ _ _ _ _ _ _).trans ((congrArg (rowKg · _) (z_at m c t _)).trans (congrArg (RKg m c) (emb_13 t _ _)).symm)
  · obtain ⟨t, y, e⟩ := rows_cover (fun t => ((cfg0.win 13).blk t).view.emb) emb_13 i
    exact ⟨t, flush0_13 _, e ▸ ((cfg0.win 13).blk t).view.emb_mem_set y⟩

theorem final14 (c : Dev nD) : (dats m 0 c).arrAt 14 cfg0.N = RVg m c := by
  refine (dats m 0 c).arrAt_eq_of_cover 14 (RVg m c) (fun t hf => ?_) fun i => ?_
  · show (dats m 0 c).after 14 t = _
    rw [after0_14]
    funext i
    rw [show i = ix2 (i 0 : Fin 512) (i 1 : Fin 1024) from eq_ix2 i]
    exact (out14_at _ _ _ _ _ _ _ _ _ _ _).trans ((congrArg (rowVg · _) (z_at m c t _)).trans (congrArg (RVg m c) (emb_14 t _ _)).symm)
  · obtain ⟨t, y, e⟩ := rows_cover (fun t => ((cfg0.win 14).blk t).view.emb) emb_14 i
    exact ⟨t, flush0_14 _, e ▸ ((cfg0.win 14).blk t).view.emb_mem_set y⟩

theorem final15 (c : Dev nD) : (dats m 0 c).arrAt 15 cfg0.N = ROg m c := by
  refine (dats m 0 c).arrAt_eq_of_cover 15 (ROg m c) (fun t hf => ?_) fun i => ?_
  · show (dats m 0 c).after 15 t = _
    rw [after0_15]
    funext i
    rw [show i = ix2 (i 0 : Fin 512) (i 1 : Fin 1024) from eq_ix2 i]
    exact (out15_at _ _ _ _ _ _ _ _ _ _ _).trans ((congrArg (rowOg · _) (z_at m c t _)).trans (congrArg (ROg m c) (emb_15 t _ _)).symm)
  · obtain ⟨t, y, e⟩ := rows_cover (fun t => ((cfg0.win 15).blk t).view.emb) emb_15 i
    exact ⟨t, flush0_15 _, e ▸ ((cfg0.win 15).blk t).view.emb_mem_set y⟩

theorem final16 (c : Dev nD) : (dats m 0 c).arrAt 16 cfg0.N = RF m c := by
  refine (dats m 0 c).arrAt_eq_of_cover 16 (RF m c) (fun t hf => ?_) fun i => ?_
  · show (dats m 0 c).after 16 t = _
    rw [after0_16]
    funext i
    rw [show i = ix2 (i 0 : Fin 512) (i 1 : Fin 512) from eq_ix2 i]
    exact (out16_at _ _ _ _ _ _ _ _ _ _ _).trans ((gate_lo m c t _ _).trans (congrArg (RF m c) (emb_16 t _ _)).symm)
  · obtain ⟨t, y, e⟩ := rows_cover (fun t => ((cfg0.win 16).blk t).view.emb) emb_16 i
    exact ⟨t, flush0_16 _, e ▸ ((cfg0.win 16).blk t).view.emb_mem_set y⟩

theorem final17 (c : Dev nD) : (dats m 0 c).arrAt 17 cfg0.N = RB m c := by
  refine (dats m 0 c).arrAt_eq_of_cover 17 (RB m c) (fun t hf => ?_) fun i => ?_
  · show (dats m 0 c).after 17 t = _
    rw [after0_17]
    funext i
    rw [show i = ix2 (i 0 : Fin 512) (i 1 : Fin 512) from eq_ix2 i]
    exact (out17_at _ _ _ _ _ _ _ _ _ _ _).trans ((gate_hi m c t _ _).trans (congrArg (RB m c) (emb_17 t _ _)).symm)
  · obtain ⟨t, y, e⟩ := rows_cover (fun t => ((cfg0.win 17).blk t).view.emb) emb_17 i
    exact ⟨t, flush0_17 _, e ▸ ((cfg0.win 17).blk t).view.emb_mem_set y⟩

end Cert.InProof

end
-- ==== Proof.InRef.lean ====
/- The plain projection's results, entry by entry. -/
module

public import proofs.«01_k».proof.Proof.InSpec
public import proofs.«01_k».proof.Proof.Gen.InRefIdeal.Run
public import Idealize.ShloMosaic.Lib.Pointwise
public import Idealize.ShloMosaic.Lib.IdealHost

@[expose] public section

set_option maxRecDepth 16384

noncomputable section

namespace Cert.InProof.Plain

open Idealize.ShloMosaic Idealize.ShloMosaic.TcCoe Idealize.SL.Sem Idealize.ShloMosaic.StableHlo
open Cert.InRefIdeal Cert.InRefIdeal.Gen Cert.InRefIdeal.Value
open Cert.PleProof (bOf sOf SX SV)

variable (V : Valuation τ sig (Elt Ideal))

def B0 : SX.Idx → EReal := V (Proc.devRef .tc main_arg0)
def B1 : SV.Idx → EReal := V (Proc.devRef .tc main_arg1)
def B2 : SW.Idx → EReal := V (Proc.devRef .tc main_arg2)
def B3 : SG.Idx → EReal := V (Proc.devRef .tc main_arg3)
def B4 : SG.Idx → EReal := V (Proc.devRef .tc main_arg4)
def B5 : SU.Idx → EReal := V (Proc.devRef .tc main_arg5)
def B6 : SB.Idx → EReal := V (Proc.devRef .tc main_arg6)
def B7 : SU.Idx → EReal := V (Proc.devRef .tc main_arg7)
def B8 : SB.Idx → EReal := V (Proc.devRef .tc main_arg8)

/-- The product with the weights at a batch and a position. -/
def zP (b : Fin 4) (s : Fin 4096) : Fin 4640 → EReal :=
  zRow (fun d => B0 V (ix3 b s d)) (fun d => B1 V (ix1 d)) (fun d k => B2 V (ix2 d k))

theorem col_of {k : Nat} (h : k < 4640) (k' : Nat) (e : k = k') : (⟨k, h⟩ : Fin 4640) = col k' :=
  Fin.ext (by show k = k' % 4640; omega)

theorem v42_at (b : Fin 4) (s : Fin 4096) (k : Fin 4640) : res_main_v42 V (ix3 b s k) = zP V b s k := by
  unfold zP zRow norm B0 B1 B2
  pointwise [res_main_v42]

theorem v16_at (j : Fin 32) : res_main_v16 V (ix1 j) = freq j.val := by
  pointwise [res_main_v16, freq, num]

theorem v22_at (s : Fin 4096) (j : Fin 32) : res_main_v22 V (ix3 s (0 : Fin 1) j) = num (s.val / 64) * freq j.val := by
  pointwise [res_main_v22, num]
  rw [v16_at]

theorem v28_at (s : Fin 4096) (j : Fin 32) : res_main_v28 V (ix3 s (0 : Fin 1) j) = num (s.val % 64) * freq j.val := by
  pointwise [res_main_v28, num]
  rw [v16_at]

theorem v52_at (b : Fin 4) (s : Fin 4096) (h : Fin 8) (e : Fin 128) : res_main_v52 V (ix4 b s h e) = zP V b s (col (128 * h.val + e.val)) := by
  pointwise [res_main_v52]
  rw [v42_at]
  exact congrArg (zP V b s) (col_of _ _ (by omega))

theorem v65_at (b : Fin 4) (s : Fin 4096) (h : Fin 8) (e : Fin 128) : res_main_v65 V (ix4 b s h e)
    = norm (Ideal.ofBits .f32 1124073472#32) (fun d : Fin 128 => zP V b s (col (128 * h.val + d.val))) (fun d => B3 V (ix1 d)) e := by
  unfold norm B3
  pointwise [res_main_v65]
  simp only [v52_at]

theorem v109_at (b : Fin 4) (s : Fin 4096) (h : Fin 2) (e : Fin 128) : res_main_v109 V (ix4 b s h e) = zP V b s (col (1024 + 128 * h.val + e.val)) := by
  pointwise [res_main_v109]
  rw [v42_at]
  exact congrArg (zP V b s) (col_of _ _ (by omega))

theorem v122_at (b : Fin 4) (s : Fin 4096) (h : Fin 2) (e : Fin 128) : res_main_v122 V (ix4 b s h e)
    = norm (Ideal.ofBits .f32 1124073472#32) (fun d : Fin 128 => zP V b s (col (1024 + 128 * h.val + d.val))) (fun d => B4 V (ix1 d)) e := by
  unfold norm B4
  pointwise [res_main_v122]
  simp only [v109_at]

/-- The logarithm of a number above one is not the least value. -/
theorem log_ne_bot (a : EReal) : Ideal.log (1 + Ideal.exp a) ≠ ⊥ := by
  induction a with
  | bot =>
    show Ideal.log (1 + 0) ≠ ⊥
    rw [add_zero]
    show (if (1 : ℝ) ≤ 0 then (⊥ : EReal) else (Real.log 1 : EReal)) ≠ ⊥
    rw [if_neg (by norm_num)]
    exact EReal.coe_ne_bot _
  | coe r =>
    show Ideal.log (((1 : ℝ) : EReal) + ((Real.exp r : ℝ) : EReal)) ≠ ⊥
    rw [← EReal.coe_add]
    show (if 1 + Real.exp r ≤ 0 then (⊥ : EReal) else (Real.log (1 + Real.exp r) : EReal)) ≠ ⊥
    rw [if_neg (not_le.mpr (by positivity))]
    exact EReal.coe_ne_bot _
  | top =>
    show Ideal.log (1 + ⊤) ≠ ⊥
    rw [EReal.add_top_of_ne_bot (by decide)]
    exact top_ne_bot

/-- The logarithm of a logistic value, as minus the logarithm of a sum of two exponentials. -/
theorem log_logistic (p : EReal) :
    -(max (-p) 0 + Ideal.log (1 + Ideal.exp (-max (-p) (-(-p))))) = min p 0 - Ideal.log (1 + Ideal.exp (-max p (-p))) := by
  have low : (⊥ : EReal) < max (-p) 0 := lt_of_lt_of_le EReal.bot_lt_zero (le_max_right _ _)
  rw [EReal.neg_add (Or.inl low.ne') (Or.inr (log_ne_bot _)), neg_neg, max_comm (-p) p, ← EReal.min_neg_neg, neg_neg, neg_zero]

theorem lowF_at (b : Fin 4) (s : Fin 4096) (l : Fin 512) : res_main_call0_v0 V (ix3 b s l)
    = -((∑ k : Fin 16, zP V b s (col (4608 + k.val)) * B5 V (ix2 k l)) + B6 V (ix1 l)) := by
  unfold B5 B6
  pointwise [res_main_call0_v0]
  simp only [v42_at]
  refine congrArg (fun y : EReal => -(y + _)) (Finset.sum_congr rfl fun k _ => congrArg (· * _) (congrArg (zP V b s) (col_of _ _ rfl)))

theorem lowB_at (b : Fin 4) (s : Fin 4096) (l : Fin 512) : res_main_call1_v0 V (ix3 b s l)
    = -((∑ k : Fin 16, zP V b s (col (4624 + k.val)) * B7 V (ix2 k l)) + B8 V (ix1 l)) := by
  unfold B7 B8
  pointwise [res_main_call1_v0]
  simp only [v42_at]
  refine congrArg (fun y : EReal => -(y + _)) (Finset.sum_congr rfl fun k _ => congrArg (· * _) (congrArg (zP V b s) (col_of _ _ rfl)))

theorem diffF_at (b : Fin 4) (s : Fin 4096) (l : Fin 512) : res_main_call0_call0_v3 V (ix3 b s l) = res_main_call0_v0 V (ix3 b s l) := by
  pointwise [res_main_call0_call0_v3, res_main_call0_call0_cst]

theorem diffB_at (b : Fin 4) (s : Fin 4096) (l : Fin 512) : res_main_call1_call0_v3 V (ix3 b s l) = res_main_call1_v0 V (ix3 b s l) := by
  pointwise [res_main_call1_call0_v3, res_main_call1_call0_cst]

theorem v49_at (b : Fin 4) (s : Fin 4096) (l : Fin 1024) : res_main_v49 V (ix3 b s l) = zP V b s (col (3584 + l.val)) := by
  pointwise [res_main_v49]
  rw [v42_at]
  exact congrArg (zP V b s) (col_of _ _ (by omega))

/-! ## A head's quarters -/

theorem v69_at (b : Fin 4) (s : Fin 4096) (h : Fin 8) (j : Fin 32) :
    res_main_v69 V (ix4 b s h j) = res_main_v65 V (ix4 b s h (⟨j.val, by omega⟩ : Fin 128)) := by
  pointwise [res_main_v69, res_main_v66]
theorem v70_at (b : Fin 4) (s : Fin 4096) (h : Fin 8) (j : Fin 32) :
    res_main_v70 V (ix4 b s h j) = res_main_v65 V (ix4 b s h (⟨32 + j.val, by omega⟩ : Fin 128)) := by
  pointwise [res_main_v70, res_main_v66]
theorem v89_at (b : Fin 4) (s : Fin 4096) (h : Fin 8) (j : Fin 32) :
    res_main_v89 V (ix4 b s h j) = res_main_v65 V (ix4 b s h (⟨64 + j.val, by omega⟩ : Fin 128)) := by
  pointwise [res_main_v89, res_main_v86]
theorem v90_at (b : Fin 4) (s : Fin 4096) (h : Fin 8) (j : Fin 32) :
    res_main_v90 V (ix4 b s h j) = res_main_v65 V (ix4 b s h (⟨64 + (32 + j.val), by omega⟩ : Fin 128)) := by
  pointwise [res_main_v90, res_main_v86]
theorem v126_at (b : Fin 4) (s : Fin 4096) (h : Fin 2) (j : Fin 32) :
    res_main_v126 V (ix4 b s h j) = res_main_v122 V (ix4 b s h (⟨j.val, by omega⟩ : Fin 128)) := by
  pointwise [res_main_v126, res_main_v123]
theorem v127_at (b : Fin 4) (s : Fin 4096) (h : Fin 2) (j : Fin 32) :
    res_main_v127 V (ix4 b s h j) = res_main_v122 V (ix4 b s h (⟨32 + j.val, by omega⟩ : Fin 128)) := by
  pointwise [res_main_v127, res_main_v123]
theorem v146_at (b : Fin 4) (s : Fin 4096) (h : Fin 2) (j : Fin 32) :
    res_main_v146 V (ix4 b s h j) = res_main_v122 V (ix4 b s h (⟨64 + j.val, by omega⟩ : Fin 128)) := by
  pointwise [res_main_v146, res_main_v143]
theorem v147_at (b : Fin 4) (s : Fin 4096) (h : Fin 2) (j : Fin 32) :
    res_main_v147 V (ix4 b s h j) = res_main_v122 V (ix4 b s h (⟨64 + (32 + j.val), by omega⟩ : Fin 128)) := by
  pointwise [res_main_v147, res_main_v143]

theorem v67_at (s : Fin 4096) (j : Fin 32) : res_main_v67 V (ix3 s (0 : Fin 1) j) = Ideal.cos (num (s.val / 64) * freq j.val) :=
  congrArg Ideal.cos (v22_at V s j)
theorem v68_at (s : Fin 4096) (j : Fin 32) : res_main_v68 V (ix3 s (0 : Fin 1) j) = Ideal.sin (num (s.val / 64) * freq j.val) :=
  congrArg Ideal.sin (v22_at V s j)
theorem v87_at (s : Fin 4096) (j : Fin 32) : res_main_v87 V (ix3 s (0 : Fin 1) j) = Ideal.cos (num (s.val % 64) * freq j.val) :=
  congrArg Ideal.cos (v28_at V s j)
theorem v88_at (s : Fin 4096) (j : Fin 32) : res_main_v88 V (ix3 s (0 : Fin 1) j) = Ideal.sin (num (s.val % 64) * freq j.val) :=
  congrArg Ideal.sin (v28_at V s j)

/-- Two halves, each of two quarters turned together, are the head turned. -/
theorem quarters (y : Fin 128 → EReal) (s : Fin 4096) (cr sr cc sc : Fin 32 → EReal)
    (hcr : ∀ j, cr j = Ideal.cos (num (s.val / 64) * freq j.val)) (hsr : ∀ j, sr j = Ideal.sin (num (s.val / 64) * freq j.val))
    (hcc : ∀ j, cc j = Ideal.cos (num (s.val % 64) * freq j.val)) (hsc : ∀ j, sc j = Ideal.sin (num (s.val % 64) * freq j.val))
    (e : Nat) (he : e < 128) :
    (if h : e < 64 then
        if h1 : e < 32 then y ⟨e, he⟩ * cr ⟨e, h1⟩ - y ⟨32 + e, by omega⟩ * sr ⟨e, h1⟩
        else y ⟨32 + (e - 32), by omega⟩ * cr ⟨e - 32, by omega⟩ + y ⟨e - 32, by omega⟩ * sr ⟨e - 32, by omega⟩
      else
        if h1 : e - 64 < 32 then y ⟨64 + (e - 64), by omega⟩ * cc ⟨e - 64, h1⟩ - y ⟨64 + (32 + (e - 64)), by omega⟩ * sc ⟨e - 64, h1⟩
        else y ⟨64 + (32 + (e - 64 - 32)), by omega⟩ * cc ⟨e - 64 - 32, by omega⟩
          + y ⟨64 + (e - 64 - 32), by omega⟩ * sc ⟨e - 64 - 32, by omega⟩)
      = turn y (angle s) ⟨e, he⟩ := by
  have minus : ∀ (a a' b b' : Fin 128) (p p' : EReal), a = a' → b = b' → p = p' →
      y a * Ideal.cos p - y b * Ideal.sin p = y a' * Ideal.cos p' - y b' * Ideal.sin p' := by rintro _ _ _ _ _ _ rfl rfl rfl; rfl
  have plus : ∀ (a a' b b' : Fin 128) (p p' : EReal), a = a' → b = b' → p = p' →
      y a * Ideal.cos p + y b * Ideal.sin p = y a' * Ideal.cos p' + y b' * Ideal.sin p' := by rintro _ _ _ _ _ _ rfl rfl rfl; rfl
  unfold turn angle
  by_cases h : e < 64
  · rw [dif_pos h, if_pos h]
    by_cases h1 : e < 32
    · rw [dif_pos h1, if_pos (by show e % 64 < 32; omega), hcr, hsr]
      exact minus _ _ _ _ _ _ rfl (Fin.ext (by show 32 + e = (e + 32) % 128; omega))
        (congrArg (fun j => num (s.val / 64) * freq j) (by show e = e % 32; omega))
    · rw [dif_neg h1, if_neg (by show ¬ e % 64 < 32; omega), hcr, hsr]
      exact plus _ _ _ _ _ _ (Fin.ext (by show 32 + (e - 32) = e; omega)) (Fin.ext (by show e - 32 = (e + 96) % 128; omega))
        (congrArg (fun j => num (s.val / 64) * freq j) (by show e - 32 = e % 32; omega))
  · rw [dif_neg h, if_neg h]
    by_cases h1 : e - 64 < 32
    · rw [dif_pos h1, if_pos (by show e % 64 < 32; omega), hcc, hsc]
      exact minus _ _ _ _ _ _ (Fin.ext (by show 64 + (e - 64) = e; omega)) (Fin.ext (by show 64 + (32 + (e - 64)) = (e + 32) % 128; omega))
        (congrArg (fun j => num (s.val % 64) * freq j) (by show e - 64 = e % 32; omega))
    · rw [dif_neg h1, if_neg (by show ¬ e % 64 < 32; omega), hcc, hsc]
      exact plus _ _ _ _ _ _ (Fin.ext (by show 64 + (32 + (e - 64 - 32)) = e; omega)) (Fin.ext (by show 64 + (e - 64 - 32) = (e + 96) % 128; omega))
        (congrArg (fun j => num (s.val % 64) * freq j) (by show e - 64 - 32 = e % 32; omega))

/-! ## The results -/

def outQ : FVec Ideal S16384x1024 .bf16 :=
  truncf .bf16 (shapeCast _ (mulf (concatenate S4x4096x8x128 3 [⟨S4x4096x8x64, (concatenate S4x4096x8x64 3 [⟨S4x4096x8x32, (subf (mulf (res_main_v69 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v67 V)))) (mulf (res_main_v70 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v68 V)))))⟩, ⟨S4x4096x8x32, (addf (mulf (res_main_v70 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v67 V)))) (mulf (res_main_v69 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v68 V)))))⟩] concatenates_S4x4096x8x32_S4x4096x8x32_S4x4096x8x64_d3)⟩, ⟨S4x4096x8x64, (concatenate S4x4096x8x64 3 [⟨S4x4096x8x32, (subf (mulf (res_main_v89 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v87 V)))) (mulf (res_main_v90 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v88 V)))))⟩, ⟨S4x4096x8x32, (addf (mulf (res_main_v90 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v87 V)))) (mulf (res_main_v89 V) (broadcastInDim S4x4096x8x32 ![0, 1, 2, 3] bcast_S1x4096x1x32_S4x4096x8x32_0_1_2_3 (broadcastInDim S1x4096x1x32 ![1, 2, 3] bcast_S4096x1x32_S1x4096x1x32_1_2_3 (res_main_v88 V)))))⟩] concatenates_S4x4096x8x32_S4x4096x8x32_S4x4096x8x64_d3)⟩] concatenates_S4x4096x8x64_S4x4096x8x64_S4x4096x8x128_d3) (broadcastInDim S4x4096x8x128 ![] bcast_S_S4x4096x8x128 (constant S_ .f32 0x3E0293EE#32))) shapeCasts_S4x4096x8x128_S16384x1024) bitsLt_bf16_f32

def outK : FVec Ideal S16384x256 .bf16 :=
  truncf .bf16 (shapeCast _ (concatenate S4x4096x2x128 3 [⟨S4x4096x2x64, (concatenate S4x4096x2x64 3 [⟨S4x4096x2x32, (subf (mulf (res_main_v126 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v124 V)))) (mulf (res_main_v127 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v125 V)))))⟩, ⟨S4x4096x2x32, (addf (mulf (res_main_v127 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v124 V)))) (mulf (res_main_v126 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v125 V)))))⟩] concatenates_S4x4096x2x32_S4x4096x2x32_S4x4096x2x64_d3)⟩, ⟨S4x4096x2x64, (concatenate S4x4096x2x64 3 [⟨S4x4096x2x32, (subf (mulf (res_main_v146 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v144 V)))) (mulf (res_main_v147 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v145 V)))))⟩, ⟨S4x4096x2x32, (addf (mulf (res_main_v147 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v144 V)))) (mulf (res_main_v146 V) (broadcastInDim S4x4096x2x32 ![0, 1, 2, 3] bcast_S1x4096x1x32_S4x4096x2x32_0_1_2_3 (broadcastInDim S1x4096x1x32 ![1, 2, 3] bcast_S4096x1x32_S1x4096x1x32_1_2_3 (res_main_v145 V)))))⟩] concatenates_S4x4096x2x32_S4x4096x2x32_S4x4096x2x64_d3)⟩] concatenates_S4x4096x2x64_S4x4096x2x64_S4x4096x2x128_d3) shapeCasts_S4x4096x2x128_S16384x256) bitsLt_bf16_f32

def outV : FVec Ideal S16384x256 .bf16 :=
  truncf .bf16 (shapeCast _ (extractStridedSlice S4x4096x256 ![0, 0, 1280] (res_main_v42 V) slices_S4x4096x4640_S4x4096x256_0_0_1280) shapeCasts_S4x4096x256_S16384x256) bitsLt_bf16_f32

def outQg : FVec Ideal S16384x512 .bf16 :=
  truncf .bf16 (shapeCast _ (mulf (extractStridedSlice S4x4096x512 ![0, 0, 1536] (res_main_v42 V) slices_S4x4096x4640_S4x4096x512_0_0_1536) (broadcastInDim S4x4096x512 ![] bcast_S_S4x4096x512 (constant S_ .f32 0x3DB504F3#32))) shapeCasts_S4x4096x512_S16384x512) bitsLt_bf16_f32

def outKg : FVec Ideal S16384x512 .bf16 :=
  truncf .bf16 (shapeCast _ (extractStridedSlice S4x4096x512 ![0, 0, 2048] (res_main_v42 V) slices_S4x4096x4640_S4x4096x512_0_0_2048) shapeCasts_S4x4096x512_S16384x512) bitsLt_bf16_f32

def outVg : FVec Ideal S16384x1024 .bf16 :=
  truncf .bf16 (shapeCast _ (extractStridedSlice S4x4096x1024 ![0, 0, 2560] (res_main_v42 V) slices_S4x4096x4640_S4x4096x1024_0_0_2560) shapeCasts_S4x4096x1024_S16384x1024) bitsLt_bf16_f32

def outOg : FVec Ideal S16384x1024 .bf16 :=
  truncf .bf16 (shapeCast _ (mulf (res_main_v49 V) (Host.divf (broadcastInDim S4x4096x1024 ![] bcast_S_S4x4096x1024 (constant S_ .f32 0x3F800000#32)) (addf (broadcastInDim S4x4096x1024 ![] bcast_S_S4x4096x1024 (constant S_ .f32 0x3F800000#32)) (Host.exp (Host.negf (res_main_v49 V)))))) shapeCasts_S4x4096x1024_S16384x1024) bitsLt_bf16_f32

def outF : FVec Ideal S16384x512 .f32 :=
  shapeCast _ (Host.divf (Host.negf (select (cmpf .une (res_main_call0_call0_v3 V) (res_main_call0_call0_v3 V)) (addf (res_main_call0_v0 V) (broadcastInDim S4x4096x512 ![] bcast_S_S4x4096x512 (res_main_call0_call0_cst V))) (addf (maximumf (res_main_call0_v0 V) (broadcastInDim S4x4096x512 ![] bcast_S_S4x4096x512 (res_main_call0_call0_cst V))) (Host.log1p (Host.exp (Host.negf (Host.absf (res_main_call0_call0_v3 V)))))))) (broadcastInDim S4x4096x512 ![] bcast_S_S4x4096x512 (constant S_ .f32 0x41800000#32))) shapeCasts_S4x4096x512_S16384x512

def outB : FVec Ideal S16384x512 .f32 :=
  shapeCast _ (Host.divf (Host.negf (select (cmpf .une (res_main_call1_call0_v3 V) (res_main_call1_call0_v3 V)) (addf (res_main_call1_v0 V) (broadcastInDim S4x4096x512 ![] bcast_S_S4x4096x512 (res_main_call1_call0_cst V))) (addf (maximumf (res_main_call1_v0 V) (broadcastInDim S4x4096x512 ![] bcast_S_S4x4096x512 (res_main_call1_call0_cst V))) (Host.log1p (Host.exp (Host.negf (Host.absf (res_main_call1_call0_v3 V)))))))) (broadcastInDim S4x4096x512 ![] bcast_S_S4x4096x512 (constant S_ .f32 0x41800000#32))) shapeCasts_S4x4096x512_S16384x512

theorem outV_at (r : Fin 16384) (l : Fin 256) : outV V (ix2 r l) = rowV (zP V (bOf r) (sOf r)) l := by
  pointwise [outV]
  rw [v42_at]
  exact congrArg (zP V (bOf r) (sOf r)) (col_of _ _ rfl)

theorem outQg_at (r : Fin 16384) (l : Fin 512) : outQg V (ix2 r l) = rowQg (zP V (bOf r) (sOf r)) l := by
  pointwise [outQg]
  rw [v42_at]
  exact congrArg (fun k => zP V (bOf r) (sOf r) k * Ideal.ofBits FTy.f32 1035273459#32) (col_of _ _ rfl)

theorem outKg_at (r : Fin 16384) (l : Fin 512) : outKg V (ix2 r l) = rowKg (zP V (bOf r) (sOf r)) l := by
  pointwise [outKg]
  rw [v42_at]
  exact congrArg (zP V (bOf r) (sOf r)) (col_of _ _ rfl)

theorem outVg_at (r : Fin 16384) (l : Fin 1024) : outVg V (ix2 r l) = rowVg (zP V (bOf r) (sOf r)) l := by
  pointwise [outVg]
  rw [v42_at]
  exact congrArg (zP V (bOf r) (sOf r)) (col_of _ _ rfl)

theorem outOg_at (r : Fin 16384) (l : Fin 1024) : outOg V (ix2 r l) = rowOg (zP V (bOf r) (sOf r)) l := by
  pointwise [outOg]
  rw [v49_at]
  rfl

theorem outF_at (r : Fin 16384) (l : Fin 512) : outF V (ix2 r l) = rowGate 4608 (zP V (bOf r) (sOf r)) (fun k l => B5 V (ix2 k l)) (fun l => B6 V (ix1 l)) l := by
  pointwise [outF, res_main_call0_call0_cst]
  rw [if_neg (not_not.mpr rfl), diffF_at, lowF_at]
  exact congrArg (fun y => Ideal.div y (Ideal.ofBits FTy.f32 1098907648#32)) (log_logistic _)

theorem outB_at (r : Fin 16384) (l : Fin 512) : outB V (ix2 r l) = rowGate 4624 (zP V (bOf r) (sOf r)) (fun k l => B7 V (ix2 k l)) (fun l => B8 V (ix1 l)) l := by
  pointwise [outB, res_main_call1_call0_cst]
  rw [if_neg (not_not.mpr rfl), diffB_at, lowB_at]
  exact congrArg (fun y => Ideal.div y (Ideal.ofBits FTy.f32 1098907648#32)) (log_logistic _)

end Cert.InProof.Plain

end
-- ==== Proof.InTurn.lean ====
/- The plain projection's queries and keys, entry by entry. -/
module

public import proofs.«01_k».proof.Proof.InRef

@[expose] public section

set_option maxRecDepth 16384

noncomputable section

namespace Cert.InProof.Plain

open Idealize.ShloMosaic Idealize.ShloMosaic.TcCoe Idealize.SL.Sem Idealize.ShloMosaic.StableHlo
open Cert.InRefIdeal Cert.InRefIdeal.Gen Cert.InRefIdeal.Value
open Cert.PleProof (bOf sOf SX SV)

variable (V : Valuation τ sig (Elt Ideal))

theorem outQ_at (r : Fin 16384) (l : Fin 1024) :
    outQ V (ix2 r l) = rowQ (zP V (bOf r) (sOf r)) (fun d => B3 V (ix1 d)) (angle (sOf r)) l := by
  pointwise [outQ]
  simp only [v69_at, v70_at, v89_at, v90_at]
  refine congrArg (· * Ideal.ofBits FTy.f32 1040356334#32) ((quarters
    (fun d => res_main_v65 V (ix4 (bOf r) (sOf r) (⟨l.val / 128, by omega⟩ : Fin 8) d)) (sOf r) (fun j => res_main_v67 V (ix3 (sOf r) (0 : Fin 1) j))
    (fun j => res_main_v68 V (ix3 (sOf r) (0 : Fin 1) j)) (fun j => res_main_v87 V (ix3 (sOf r) (0 : Fin 1) j))
    (fun j => res_main_v88 V (ix3 (sOf r) (0 : Fin 1) j)) (v67_at V _) (v68_at V _) (v87_at V _) (v88_at V _) (l.val % 128) (by omega)).trans ?_)
  exact congrArg (fun y => turn y (angle (sOf r)) ⟨l.val % 128, by omega⟩) (funext fun d => v65_at V _ _ _ d)

theorem outK_at (r : Fin 16384) (l : Fin 256) :
    outK V (ix2 r l) = rowK (zP V (bOf r) (sOf r)) (fun d => B4 V (ix1 d)) (angle (sOf r)) l := by
  pointwise [outK]
  simp only [v126_at, v127_at, v146_at, v147_at]
  refine (quarters
    (fun d => res_main_v122 V (ix4 (bOf r) (sOf r) (⟨l.val / 128, by omega⟩ : Fin 2) d)) (sOf r) (fun j => res_main_v67 V (ix3 (sOf r) (0 : Fin 1) j))
    (fun j => res_main_v68 V (ix3 (sOf r) (0 : Fin 1) j)) (fun j => res_main_v87 V (ix3 (sOf r) (0 : Fin 1) j))
    (fun j => res_main_v88 V (ix3 (sOf r) (0 : Fin 1) j)) (v67_at V _) (v68_at V _) (v87_at V _) (v88_at V _) (l.val % 128) (by omega)).trans ?_
  exact congrArg (fun y => turn y (angle (sOf r)) ⟨l.val % 128, by omega⟩) (funext fun d => v122_at V _ _ _ d)

/-! ## After a run -/

/-- A device's results, as functions of its arguments. -/
def PQ : S1K.Idx → EReal := resQ (B0 V) (B1 V) (B2 V) (B3 V)
def PK : S2H.Idx → EReal := resK (B0 V) (B1 V) (B2 V) (B4 V)
def PV : S2H.Idx → EReal := resV (B0 V) (B1 V) (B2 V)
def PQg : S5H.Idx → EReal := resQg (B0 V) (B1 V) (B2 V)
def PKg : S5H.Idx → EReal := resKg (B0 V) (B1 V) (B2 V)
def PVg : S1K.Idx → EReal := resVg (B0 V) (B1 V) (B2 V)
def POg : S1K.Idx → EReal := resOg (B0 V) (B1 V) (B2 V)
def PF : S5H.Idx → EReal := resF (B0 V) (B1 V) (B2 V) (B5 V) (B6 V)
def PB : S5H.Idx → EReal := resB (B0 V) (B1 V) (B2 V) (B7 V) (B8 V)

/-- Arrays of rows are equal if their entries are. -/
theorem rows_ext {M N : Nat} (f g : (⟨2, ![M, N]⟩ : Shape).Idx → EReal) (h : ∀ r l, f (ix2 r l) = g (ix2 r l)) : f = g := by
  funext i
  rw [show i = ix2 (i 0 : Fin M) (i 1 : Fin N) from eq_ix2 i]
  exact h _ _

theorem outQ_eq : outQ V = PQ V := rows_ext _ _ (outQ_at V)
theorem outK_eq : outK V = PK V := rows_ext _ _ (outK_at V)
theorem outV_eq : outV V = PV V := rows_ext _ _ (outV_at V)
theorem outQg_eq : outQg V = PQg V := rows_ext _ _ (outQg_at V)
theorem outKg_eq : outKg V = PKg V := rows_ext _ _ (outKg_at V)
theorem outVg_eq : outVg V = PVg V := rows_ext _ _ (outVg_at V)
theorem outOg_eq : outOg V = POg V := rows_ext _ _ (outOg_at V)
theorem outF_eq : outF V = PF V := rows_ext _ _ (outF_at V)
theorem outB_eq : outB V = PB V := rows_ext _ _ (outB_at V)

end Cert.InProof.Plain

end
-- ==== Proof.lean ====
/- The calls of the block: each kernel and its reference leave the same arrays. -/
module

public import proofs.«01_k».proof.Defs
public import proofs.«01_k».proof.Proof.Gen.Kernel
public import proofs.«01_k».proof.Proof.BitsRun
public import proofs.«01_k».proof.Proof.Gen.KernelIdeal
public import proofs.«01_k».proof.Proof.Gen.ReferenceIdeal
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.Ple
public import proofs.«01_k».proof.Proof.Gen.Ple.Frame
public import proofs.«01_k».proof.Proof.Gen.PleIdeal
public import proofs.«01_k».proof.Proof.Gen.PleIdeal.Frame
public import proofs.«01_k».proof.Proof.Gen.FfnRefIdeal
public import proofs.«01_k».proof.Proof.Gen.FfnRefIdeal.Run
public import proofs.«01_k».proof.Proof.Gen.PleRefIdeal
public import proofs.«01_k».proof.Proof.Gen.PleRefIdeal.Run
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.Gen.OutRefIdeal.Run
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InRefIdeal
public import proofs.«01_k».proof.Proof.Gen.InRefIdeal.Run
public import proofs.«01_k».proof.Proof.AttnPre
public import proofs.«01_k».proof.Proof.AttnValue
public import proofs.«01_k».proof.Proof.AttnRef
public import proofs.«01_k».proof.Proof.FfnValue
public import proofs.«01_k».proof.Proof.FfnRef
public import proofs.«01_k».proof.Proof.PleValue
public import proofs.«01_k».proof.Proof.PleRef
public import proofs.«01_k».proof.Proof.OutValue
public import proofs.«01_k».proof.Proof.OutRef
public import proofs.«01_k».proof.Proof.InValue
public import proofs.«01_k».proof.Proof.InTurn

@[expose] public section

noncomputable section

namespace Cert.Proof

open Idealize.ShloMosaic Idealize.ShloMosaic.TcCoe Idealize.SL.Sem Idealize.ShloMosaic.StableHlo

theorem frame_kernel : Cert.quiescent_Kernel := fun m ρ _ => Cert.AttnBits.frame m ρ

theorem frame_ideal : Cert.quiescent_KernelIdeal := fun m ρ _ => Cert.Attn.frame m ρ

/-- The reference runs on the host alone, so it has no counter. -/
theorem ref_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
          r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, Idealize.ShloMosaic.sem_eq_zero_of_no_sems (by decide) r.2⟩)
    (Cert.Attn.ref_run m ρ)

/-- The two results agree: both are the attention of the arguments' arrays. -/
theorem algebraic : Cert.algebraic_KernelIdeal_ReferenceIdeal_pre_finite_queries_and_keys
    (hPre_finite_queries_and_keys := Cert.Attn.preFacts) := by
  intro m ρ m' ρ' hp hag
  haveI := Cert.Attn.preFacts
  have hq : ∀ (c : Dev Cert.KernelIdeal.nD) i, ∃ r : ℝ, Cert.Attn.A0 m c i = (r : EReal) :=
    fun c => Cert.Attn.pre_queries (Cert.Attn.A0 m c) (Cert.Attn.A1 m c) (Cert.Attn.A2 m c) (hp c).1
  have hk : ∀ (c : Dev Cert.KernelIdeal.nD) i, ∃ r : ℝ, Cert.Attn.A1 m c i = (r : EReal) :=
    fun c => Cert.Attn.pre_keys (Cert.Attn.A0 m c) (Cert.Attn.A1 m c) (Cert.Attn.A2 m c) (hp c).2
  choose y0 h0 using hq
  choose y1 h1 using hk
  refine ⟨fun c => Cert.Attn.att (y0 c) (y1 c) (Cert.Attn.A2 m c), ?_, ?_⟩
  · refine (θ_run Cert.KernelIdeal.defs _ _).mono (fun _ h c => ?_) (θ_run_and (Cert.Attn.run_main m ρ) (Cert.Attn.unchanged m ρ))
    exact ⟨((h.1 c).1 3).trans (Cert.Attn.final m c (y0 c) (y1 c) (h0 c) (h1 c)), h.2 c⟩
  · refine (θ_run Cert.ReferenceIdeal.defs _ _).mono (fun _ h c => ⟨(h c).1.trans ?_, (h c).2⟩) (Cert.Attn.ref_run m' ρ')
    rw [(hag c).1, (hag c).2.1, (hag c).2.2]
    exact Cert.Attn.ref_eq (Cert.Attn.A0 m c) (Cert.Attn.A1 m c) (Cert.Attn.A2 m c) (y0 c) (y1 c) (h0 c) (h1 c)

/-- The feed-forward network: both results are the same function of the arguments. -/
theorem ffn_algebraic : Cert.algebraic_FfnIdeal_FfnRefIdeal := by
  intro m ρ m' ρ' hp hag
  refine ⟨fun c => Cert.FfnProof.ffn (Cert.FfnProof.A0 m c) (Cert.FfnProof.A1 m c) (Cert.FfnProof.A2 m c), ?_, ?_⟩
  · refine (θ_run Cert.FfnIdeal.defs _ _).mono (fun _ h c => ?_)
      (θ_run_and (Cert.FfnIdeal.Gen.run_main m ρ) (Cert.FfnIdeal.Gen.unchanged m ρ))
    exact ⟨((h.1 c).1 4).trans (Cert.FfnProof.final m c), h.2 c⟩
  · refine (θ_run Cert.FfnRefIdeal.defs _ _).mono (fun _ h c => ⟨(h c).1.trans ?_, (h c).2⟩) (Cert.FfnProof.ref_run m' ρ')
    rw [(hag c).1, (hag c).2.1, (hag c).2.2]
    exact Cert.FfnProof.ref_eq (Cert.FfnProof.A0 m c) (Cert.FfnProof.A1 m c) (Cert.FfnProof.A2 m c)

/-- The last step: both results are the same function of the arguments. -/
theorem ple_algebraic : Cert.algebraic_PleIdeal_PleRefIdeal := by
  intro m ρ m' ρ' hp hag
  refine ⟨fun c => Cert.PleProof.res m c, ?_, ?_⟩
  · refine (θ_run Cert.PleIdeal.defs _ _).mono (fun _ h c => ?_)
      (θ_run_and (Cert.PleIdeal.Gen.run_main m ρ) (Cert.PleIdeal.Gen.unchanged m ρ))
    exact ⟨((h.1 c).1 8).trans (Cert.PleProof.final m c), h.2 c⟩
  · refine (θ_run Cert.PleRefIdeal.defs _ _).mono (fun _ h c => ⟨(h c).1.trans ?_, (h c).2⟩) (Cert.PleProof.ref_run m' ρ')
    obtain ⟨e0, e1, e2, e3, e4, e5, e6, e7⟩ := hag c
    rw [e0, e1, e2, e3, e4, e5, e6, e7]
    exact Cert.PleProof.ref_eq (Cert.PleProof.A0 m c) (Cert.PleProof.A1 m c) (Cert.PleProof.A2 m c) (Cert.PleProof.A3 m c)
      (Cert.PleProof.A4 m c) (Cert.PleProof.A5 m c) (Cert.PleProof.A6 m c) (Cert.PleProof.A7 m c)

/-- The output projection: both pairs of results are the same functions of the arguments. -/
theorem out_algebraic : Cert.algebraic_OutIdeal_OutRefIdeal := by
  intro m ρ m' ρ' hp hag
  refine ⟨fun c => Cert.OutProof.resY m c, fun c => Cert.OutProof.resH m c, ?_, ?_⟩
  · refine (θ_run Cert.OutIdeal.defs _ _).mono (fun _ h c => ?_)
      (θ_run_and (Cert.OutIdeal.Gen.run_main m ρ) (Cert.OutIdeal.Gen.unchanged m ρ))
    exact ⟨((h.1 c).1 9).trans (Cert.OutProof.final9 m c), ((h.1 c).1 10).trans (Cert.OutProof.final10 m c), h.2 c⟩
  · refine (θ_run Cert.OutRefIdeal.defs _ _).mono (fun _ h c => ⟨(h c).1.trans ?_, (h c).2.1.trans ?_, (h c).2.2⟩)
      (Cert.OutProof.ref_run m' ρ')
    · obtain ⟨e0, e1, e2, e3, e4, e5, e6, e7, e8⟩ := hag c
      rw [e0, e1, e2, e3, e4, e5, e6, e7]
      exact Cert.OutProof.refY_eq (Cert.OutProof.A0 m c) (Cert.OutProof.A1 m c) (Cert.OutProof.A2 m c) (Cert.OutProof.A3 m c) (Cert.OutProof.A4 m c) (Cert.OutProof.A5 m c) (Cert.OutProof.A6 m c) (Cert.OutProof.A7 m c)
    · obtain ⟨e0, e1, e2, e3, e4, e5, e6, e7, e8⟩ := hag c
      rw [e0, e1, e2, e3, e4, e5, e6, e7, e8]
      exact Cert.OutProof.refH_eq (Cert.OutProof.A0 m c) (Cert.OutProof.A1 m c) (Cert.OutProof.A2 m c) (Cert.OutProof.A3 m c) (Cert.OutProof.A4 m c) (Cert.OutProof.A5 m c) (Cert.OutProof.A6 m c) (Cert.OutProof.A7 m c) (Cert.OutProof.A8 m c)

set_option maxHeartbeats 4000000 in
/-- The input projection: each of the nine pairs of results is the same function of the arguments. -/
theorem in_algebraic : Cert.algebraic_InIdeal_InRefIdeal := by
  intro m ρ m' ρ' hp hag
  refine ⟨Cert.InProof.RQ m, Cert.InProof.RK m, Cert.InProof.RV m, Cert.InProof.RQg m, Cert.InProof.RKg m, Cert.InProof.RVg m, Cert.InProof.ROg m, Cert.InProof.RF m, Cert.InProof.RB m, ?_, ?_⟩
  · refine (θ_run Cert.InIdeal.defs _ _).mono (fun _ h c => ?_)
      (θ_run_and (Cert.InIdeal.Gen.run_main m ρ) (Cert.InIdeal.Gen.unchanged m ρ))
    have w := (h.1 c).1
    exact ⟨(w 9).trans (Cert.InProof.final9 m c), (w 10).trans (Cert.InProof.final10 m c), (w 11).trans (Cert.InProof.final11 m c),
      (w 12).trans (Cert.InProof.final12 m c), (w 13).trans (Cert.InProof.final13 m c), (w 14).trans (Cert.InProof.final14 m c),
      (w 15).trans (Cert.InProof.final15 m c), (w 16).trans (Cert.InProof.final16 m c), (w 17).trans (Cert.InProof.final17 m c), h.2 c⟩
  · refine (θ_run Cert.InRefIdeal.defs _ _).mono (fun _ h c => ?_) (Cert.InRefIdeal.Value.run m' ρ')
    obtain ⟨rQ, rK, rV, rQg, rKg, rVg, rOg, rF, rB, keep⟩ := h c
    obtain ⟨e0, e1, e2, e3, e4, e5, e6, e7, e8⟩ := hag c
    have h0 : Cert.InProof.Plain.B0 (launchContents m' c) = Cert.InProof.A0 m c := e0
    have h1 : Cert.InProof.Plain.B1 (launchContents m' c) = Cert.InProof.A1 m c := e1
    have h2 : Cert.InProof.Plain.B2 (launchContents m' c) = Cert.InProof.A2 m c := e2
    have h3 : Cert.InProof.Plain.B3 (launchContents m' c) = Cert.InProof.A3 m c := e3
    have h4 : Cert.InProof.Plain.B4 (launchContents m' c) = Cert.InProof.A4 m c := e4
    have h5 : Cert.InProof.Plain.B5 (launchContents m' c) = Cert.InProof.A5 m c := e5
    have h6 : Cert.InProof.Plain.B6 (launchContents m' c) = Cert.InProof.A6 m c := e6
    have h7 : Cert.InProof.Plain.B7 (launchContents m' c) = Cert.InProof.A7 m c := e7
    have h8 : Cert.InProof.Plain.B8 (launchContents m' c) = Cert.InProof.A8 m c := e8
    open Cert.InProof in
    refine ⟨rQ.trans ((Plain.outQ_eq _).trans ?_), rK.trans ((Plain.outK_eq _).trans ?_), rV.trans ((Plain.outV_eq _).trans ?_), rQg.trans ((Plain.outQg_eq _).trans ?_), rKg.trans ((Plain.outKg_eq _).trans ?_),
      rVg.trans ((Plain.outVg_eq _).trans ?_), rOg.trans ((Plain.outOg_eq _).trans ?_), rF.trans ((Plain.outF_eq _).trans ?_), rB.trans ((Plain.outB_eq _).trans ?_), keep⟩
    · rw [Cert.InProof.Plain.PQ, h0, h1, h2, h3]; rfl
    · rw [Cert.InProof.Plain.PK, h0, h1, h2, h4]; rfl
    · rw [Cert.InProof.Plain.PV, h0, h1, h2]; rfl
    · rw [Cert.InProof.Plain.PQg, h0, h1, h2]; rfl
    · rw [Cert.InProof.Plain.PKg, h0, h1, h2]; rfl
    · rw [Cert.InProof.Plain.PVg, h0, h1, h2]; rfl
    · rw [Cert.InProof.Plain.POg, h0, h1, h2]; rfl
    · rw [Cert.InProof.Plain.PF, h0, h1, h2, h5, h6]; rfl
    · rw [Cert.InProof.Plain.PB, h0, h1, h2, h7, h8]; rfl

theorem ffn_ref_frame : Cert.quiescent_FfnRefIdeal := fun m ρ _ =>
  (θ_run Cert.FfnRefIdeal.defs _ _).mono (fun r h => ⟨fun c => (h c).2, Idealize.ShloMosaic.sem_eq_zero_of_no_sems (by decide) r.2⟩)
    (Cert.FfnProof.ref_run m ρ)

theorem ple_ref_frame : Cert.quiescent_PleRefIdeal := fun m ρ _ =>
  (θ_run Cert.PleRefIdeal.defs _ _).mono (fun r h => ⟨fun c => (h c).2, Idealize.ShloMosaic.sem_eq_zero_of_no_sems (by decide) r.2⟩)
    (Cert.PleProof.ref_run m ρ)

theorem out_ref_frame : Cert.quiescent_OutRefIdeal := fun m ρ _ =>
  (θ_run Cert.OutRefIdeal.defs _ _).mono (fun r h => ⟨fun c => (h c).2.2, Idealize.ShloMosaic.sem_eq_zero_of_no_sems (by decide) r.2⟩)
    (Cert.OutProof.ref_run m ρ)

theorem in_ref_frame : Cert.quiescent_InRefIdeal := fun m ρ _ =>
  (θ_run Cert.InRefIdeal.defs _ _).mono
    (fun r h => ⟨fun c => (h c).2.2.2.2.2.2.2.2.2, Idealize.ShloMosaic.sem_eq_zero_of_no_sems (by decide) r.2⟩)
    (Cert.InRefIdeal.Value.run m ρ)

theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.Ple.Gen.facts, Cert.PleIdeal.Gen.facts, Cert.PleRefIdeal.Gen.facts, Cert.Out.Gen.facts,
    Cert.OutIdeal.Gen.facts, Cert.OutRefIdeal.Gen.facts, Cert.In.Gen.facts, Cert.InIdeal.Gen.facts, Cert.InRefIdeal.Gen.facts,
    Cert.Attn.preFacts,
    frame_kernel, frame_ideal, fun m ρ _ => Cert.Attn.frame m ρ, fun m ρ _ => ref_frame m ρ, fun m ρ _ => ref_frame m ρ,
    fun m ρ _ => Cert.Ffn.Gen.frame m ρ, fun m ρ _ => Cert.FfnIdeal.Gen.frame m ρ, ffn_ref_frame,
    fun m ρ _ => Cert.Ple.Gen.frame m ρ, fun m ρ _ => Cert.PleIdeal.Gen.frame m ρ, ple_ref_frame,
    fun m ρ _ => Cert.Out.Gen.frame m ρ, fun m ρ _ => Cert.OutIdeal.Gen.frame m ρ, out_ref_frame,
    fun m ρ _ => Cert.In.Gen.frame m ρ, fun m ρ _ => Cert.InIdeal.Gen.frame m ρ, in_ref_frame,
    trivial, algebraic, trivial, ffn_algebraic, trivial, ple_algebraic, trivial, out_algebraic, trivial,
    in_algebraic⟩

end Cert.Proof

end
